-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 64]⟩ ⟨2, ![1024, 1024]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![64, 1024]⟩ ⟨2, ![1024, 1024]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![64, 1024]⟩ ⟨2, ![1024, 1024]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x64 : Shape := ⟨2, ![1024, 64]⟩
abbrev S64x1024 : Shape := ⟨2, ![64, 1024]⟩
abbrev S4x2x128x512 : Shape := ⟨4, ![4, 2, 128, 512]⟩
abbrev S256x1024 : Shape := ⟨2, ![256, 1024]⟩
abbrev S4x64x1024 : Shape := ⟨3, ![4, 64, 1024]⟩
abbrev S3x2 : Shape := ⟨2, ![3, 2]⟩
abbrev S4 : Shape := ⟨1, ![4]⟩
abbrev S_ : Shape := ⟨0, ![]⟩
abbrev S64x64 : Shape := ⟨2, ![64, 64]⟩
abbrev S256x64 : Shape := ⟨2, ![256, 64]⟩
abbrev S128x512 : Shape := ⟨2, ![128, 512]⟩
abbrev S1x1x128x512 : Shape := ⟨4, ![1, 1, 128, 512]⟩
abbrev S1x1 : Shape := ⟨2, ![1, 1]⟩
abbrev S1x64x1024 : Shape := ⟨3, ![1, 64, 1024]⟩
abbrev S1 : Shape := ⟨1, ![1]⟩

abbrev nBuf : Space → Nat
  | .hbm => 3
  | .vmem => 9
  | .smem => 0
  | _ => 0

abbrev bufTy : (tb : Table) → Fin (tcTables nBuf tb) → BufTy
  | .hbm, ⟨0, _⟩ => ⟨S1024x64, .f32⟩
  | .hbm, ⟨1, _⟩ => ⟨S64x1024, .f32⟩
  | .hbm, ⟨2, _⟩ => ⟨S64x1024, .f32⟩
  | .local _ .vmem, ⟨0, _⟩ => ⟨S1024x64, .f32⟩
  | .local _ .vmem, ⟨1, _⟩ => ⟨S64x1024, .f32⟩
  | .local _ .vmem, ⟨2, _⟩ => ⟨S64x1024, .f32⟩
  | .local _ .vmem, ⟨3, _⟩ => ⟨S1024x64, .f32⟩
  | .local _ .vmem, ⟨4, _⟩ => ⟨S4x2x128x512, .bf16⟩
  | .local _ .vmem, ⟨5, _⟩ => ⟨S4x2x128x512, .bf16⟩
  | .local _ .vmem, ⟨6, _⟩ => ⟨S256x1024, .f32⟩
  | .local _ .vmem, ⟨7, _⟩ => ⟨S4x64x1024, .bf16⟩
  | .local _ .vmem, ⟨8, _⟩ => ⟨S4x64x1024, .bf16⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 1 → Bool
  | ⟨0, _⟩ => false
  | _ => false

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  (ofTc nBuf bufTy 1 43 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_sem0_0 : DmaSem sig := 0
abbrev cc0_sem1_0 : DmaSem sig := 1
abbrev cc0_sem2_0 : DmaSem sig := 2
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_15 : BitVec 32 := 1#32
  let v34 : BitVec 32 := Scalar.muli v27 c1_i32_15
  let v35 : BitVec 32 := Scalar.addi c0_i32_16 v34
  v35.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_18 : BitVec 32 := 1#32
  let v36 : BitVec 32 := Scalar.muli v24 c1_i32_18
  let v37 : BitVec 32 := Scalar.addi c0_i32_19 v36
  v37.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_20 : BitVec 32 := 3#32
  let v38 : BitVec 1 := Scalar.cmpi .slt v20 c3_i32_20
  let v39 : BitVec 32 := Scalar.extui v38
  let c0_i32_21 : BitVec 32 := 0#32
  let v40 : BitVec 1 := Scalar.cmpi .ne v39 c0_i32_21
  v40

def k0_dev3 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_726 : BitVec 32 := 1#32
  let v609 : BitVec 32 := Scalar.muli v29 c1_i32_726
  let v610 : BitVec 32 := Scalar.addi c0_i32_727 v609
  v610.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_22 : BitVec 32 := 0#32
  let v41 : BitVec 1 := Scalar.cmpi .sgt v20 c0_i32_22
  let v42 : BitVec 32 := Scalar.extui v41
  let c0_i32_23 : BitVec 32 := 0#32
  let v43 : BitVec 1 := Scalar.cmpi .ne v42 c0_i32_23
  v43

def k0_dev4 (d0 : Dev nD) : Nat :=
  let c0_i32_727 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_726 : BitVec 32 := 1#32
  let v609 : BitVec 32 := Scalar.muli v32 c1_i32_726
  let v610 : BitVec 32 := Scalar.addi c0_i32_727 v609
  v610.toNat
def k0_amt1 (d0 : Dev nD) : BitVec 32 :=
  let c2_i32 : BitVec 32 := 2#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_72 : BitVec 32 := 3#32
  let v124 : BitVec 1 := Scalar.cmpi .slt v20 c3_i32_72
  let c1_i32_73 : BitVec 32 := 1#32
  let c0_i32_74 : BitVec 32 := 0#32
  let v125 : BitVec 32 := Scalar.select v124 c1_i32_73 c0_i32_74
  let v126 : BitVec 32 := Scalar.addi c2_i32 v125
  let c0_i32_75 : BitVec 32 := 0#32
  let v127 : BitVec 1 := Scalar.cmpi .sgt v20 c0_i32_75
  let c1_i32_76 : BitVec 32 := 1#32
  let c0_i32_77 : BitVec 32 := 0#32
  let v128 : BitVec 32 := Scalar.select v127 c1_i32_76 c0_i32_77
  let v129 : BitVec 32 := Scalar.addi v126 v128
  v129

def k0_off1 (d0 : Dev nD) (c3_i32_78 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v130 : BitVec 32 := Scalar.addi v3 c3_i32_78
  let c4_i32_79 : BitVec 32 := 4#32
  let v131 : BitVec 32 := Scalar.remsi v130 c4_i32_79
  let c256_i32 : BitVec 32 := 256#32
  let v134 : BitVec 32 := Scalar.muli v131 c256_i32
  let v135 : Index := Scalar.indexCast v134
  let c0_82 : Index := 0#32
  ![v135.toNat, 0]
def k0_dev5 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_102 : BitVec 32 := 1#32
  let v151 : BitVec 32 := Scalar.muli v24 c1_i32_102
  let v152 : BitVec 32 := Scalar.addi c0_i32_103 v151
  v152.toNat
def k0_dev6 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_120 : BitVec 32 := 1#32
  let v166 : BitVec 32 := Scalar.muli v27 c1_i32_120
  let v167 : BitVec 32 := Scalar.addi c0_i32_121 v166
  v167.toNat
def k0_dev7 (d0 : Dev nD) : Nat :=
  let c0_i32_138 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_137 : BitVec 32 := 1#32
  let v181 : BitVec 32 := Scalar.muli v24 c1_i32_137
  let v182 : BitVec 32 := Scalar.addi c0_i32_138 v181
  v182.toNat
def k0_dev8 (d0 : Dev nD) : Nat :=
  let c0_i32_156 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_155 : BitVec 32 := 1#32
  let v196 : BitVec 32 := Scalar.muli v27 c1_i32_155
  let v197 : BitVec 32 := Scalar.addi c0_i32_156 v196
  v197.toNat
def k0_off2 (d0 : Dev nD) (c0_i32_162 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c8_i32 : BitVec 32 := 8#32
  let v206 : BitVec 32 := Scalar.addi v3 c8_i32
  let c2_i32_161 : BitVec 32 := 2#32
  let v207 : BitVec 32 := Scalar.subi v206 c2_i32_161
  let v208 : BitVec 32 := Scalar.subi v207 c0_i32_162
  let c4_i32_163 : BitVec 32 := 4#32
  let v209 : BitVec 32 := Scalar.remsi v208 c4_i32_163
  let c256_i32_164 : BitVec 32 := 256#32
  let v210 : BitVec 32 := Scalar.muli v209 c256_i32_164
  let v211 : Index := Scalar.indexCast v210
  let c0_165 : Index := 0#32
  ![v211.toNat, 0]
def k0_dev9 (d0 : Dev nD) : Nat :=
  let c0_i32_200 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_199 : BitVec 32 := 1#32
  let v233 : BitVec 32 := Scalar.muli v24 c1_i32_199
  let v234 : BitVec 32 := Scalar.addi c0_i32_200 v233
  v234.toNat
def k0_dev10 (d0 : Dev nD) : Nat :=
  let c0_i32_236 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_235 : BitVec 32 := 1#32
  let v260 : BitVec 32 := Scalar.muli v27 c1_i32_235
  let v261 : BitVec 32 := Scalar.addi c0_i32_236 v260
  v261.toNat
def k0_dev11 (d0 : Dev nD) : Nat :=
  let c0_i32_272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_271 : BitVec 32 := 1#32
  let v287 : BitVec 32 := Scalar.muli v24 c1_i32_271
  let v288 : BitVec 32 := Scalar.addi c0_i32_272 v287
  v288.toNat
def k0_dev12 (d0 : Dev nD) : Nat :=
  let c0_i32_308 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_307 : BitVec 32 := 1#32
  let v314 : BitVec 32 := Scalar.muli v27 c1_i32_307
  let v315 : BitVec 32 := Scalar.addi c0_i32_308 v314
  v315.toNat
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let c2_i32_317 : BitVec 32 := 2#32
  let v328 : BitVec 32 := Scalar.addi v3 c2_i32_317
  let c1_i32_318 : BitVec 32 := 1#32
  let v329 : BitVec 32 := Scalar.addi v328 c1_i32_318
  let c4_i32_319 : BitVec 32 := 4#32
  let v330 : BitVec 32 := Scalar.remsi v329 c4_i32_319
  let c256_i32_325 : BitVec 32 := 256#32
  let v337 : BitVec 32 := Scalar.muli v330 c256_i32_325
  let v338 : Index := Scalar.indexCast v337
  let c0_326 : Index := 0#32
  ![v338.toNat, 0]
def k0_dev13 (d0 : Dev nD) : Nat :=
  let c0_i32_360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_359 : BitVec 32 := 1#32
  let v360 : BitVec 32 := Scalar.muli v24 c1_i32_359
  let v361 : BitVec 32 := Scalar.addi c0_i32_360 v360
  v361.toNat
def k0_dev14 (d0 : Dev nD) : Nat :=
  let c0_i32_396 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_395 : BitVec 32 := 1#32
  let v387 : BitVec 32 := Scalar.muli v27 c1_i32_395
  let v388 : BitVec 32 := Scalar.addi c0_i32_396 v387
  v388.toNat
def k0_dev15 (d0 : Dev nD) : Nat :=
  let c0_i32_432 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c1_i32_6 : BitVec 32 := 1#32
  let v22 : BitVec 32 := Scalar.addi v3 c1_i32_6
  let c4_i32_7 : BitVec 32 := 4#32
  let v23 : BitVec 32 := Scalar.remsi v22 c4_i32_7
  let v24 : BitVec 32 := Scalar.addi v21 v23
  let c1_i32_431 : BitVec 32 := 1#32
  let v414 : BitVec 32 := Scalar.muli v24 c1_i32_431
  let v415 : BitVec 32 := Scalar.addi c0_i32_432 v414
  v415.toNat
def k0_dev16 (d0 : Dev nD) : Nat :=
  let c0_i32_468 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v3 : BitVec 32 := Scalar.remsi v2 c4_i32
  let v21 : BitVec 32 := Scalar.subi v2 v3
  let c3_i32 : BitVec 32 := 3#32
  let v25 : BitVec 32 := Scalar.addi v3 c3_i32
  let c4_i32_8 : BitVec 32 := 4#32
  let v26 : BitVec 32 := Scalar.remsi v25 c4_i32_8
  let v27 : BitVec 32 := Scalar.addi v21 v26
  let c1_i32_467 : BitVec 32 := 1#32
  let v441 : BitVec 32 := Scalar.muli v27 c1_i32_467
  let v442 : BitVec 32 := Scalar.addi c0_i32_468 v441
  v442.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c0_i32_561 : BitVec 32 := 0#32
  let v525 : BitVec 1 := Scalar.cmpi .eq v20 c0_i32_561
  let v526 : BitVec 32 := Scalar.extui v525
  let c0_i32_562 : BitVec 32 := 0#32
  let v527 : BitVec 1 := Scalar.cmpi .ne v526 c0_i32_562
  v527

def k0_dev17 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_734 : BitVec 32 := 1#32
  let v614 : BitVec 32 := Scalar.muli v29 c1_i32_734
  let v615 : BitVec 32 := Scalar.addi c0_i32_735 v614
  v615.toNat
def k0_dev18 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_749 : BitVec 32 := 1#32
  let v629 : BitVec 32 := Scalar.muli v29 c1_i32_749
  let v630 : BitVec 32 := Scalar.addi c0_i32_750 v629
  v630.toNat
def k0_dev19 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_764 : BitVec 32 := 1#32
  let v644 : BitVec 32 := Scalar.muli v29 c1_i32_764
  let v645 : BitVec 32 := Scalar.addi c0_i32_765 v644
  v645.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c1_i32_563 : BitVec 32 := 1#32
  let v528 : BitVec 1 := Scalar.cmpi .eq v20 c1_i32_563
  let v529 : BitVec 32 := Scalar.extui v528
  let c0_i32_564 : BitVec 32 := 0#32
  let v530 : BitVec 1 := Scalar.cmpi .ne v529 c0_i32_564
  v530

def k0_dev20 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_747 : BitVec 32 := 1#32
  let v626 : BitVec 32 := Scalar.muli v29 c1_i32_747
  let v627 : BitVec 32 := Scalar.addi c0_i32_748 v626
  v627.toNat
def k0_dev21 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_775 : BitVec 32 := 1#32
  let v653 : BitVec 32 := Scalar.muli v29 c1_i32_775
  let v654 : BitVec 32 := Scalar.addi c0_i32_776 v653
  v654.toNat
def k0_dev22 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_803 : BitVec 32 := 1#32
  let v680 : BitVec 32 := Scalar.muli v32 c1_i32_803
  let v681 : BitVec 32 := Scalar.addi c0_i32_804 v680
  v681.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c2_i32_565 : BitVec 32 := 2#32
  let v531 : BitVec 1 := Scalar.cmpi .eq v20 c2_i32_565
  let v532 : BitVec 32 := Scalar.extui v531
  let c0_i32_566 : BitVec 32 := 0#32
  let v533 : BitVec 1 := Scalar.cmpi .ne v532 c0_i32_566
  v533

def k0_dev23 (d0 : Dev nD) : Nat :=
  let c0_i32_748 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_747 : BitVec 32 := 1#32
  let v626 : BitVec 32 := Scalar.muli v32 c1_i32_747
  let v627 : BitVec 32 := Scalar.addi c0_i32_748 v626
  v627.toNat
def k0_dev24 (d0 : Dev nD) : Nat :=
  let c0_i32_776 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_775 : BitVec 32 := 1#32
  let v653 : BitVec 32 := Scalar.muli v32 c1_i32_775
  let v654 : BitVec 32 := Scalar.addi c0_i32_776 v653
  v654.toNat
def k0_dev25 (d0 : Dev nD) : Nat :=
  let c0_i32_804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_9 : BitVec 32 := 4#32
  let v28 : BitVec 32 := Scalar.addi v2 c4_i32_9
  let c16_i32_10 : BitVec 32 := 16#32
  let v29 : BitVec 32 := Scalar.remsi v28 c16_i32_10
  let c1_i32_803 : BitVec 32 := 1#32
  let v680 : BitVec 32 := Scalar.muli v29 c1_i32_803
  let v681 : BitVec 32 := Scalar.addi c0_i32_804 v680
  v681.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v5 : BitVec 1 := Scalar.cmpi .sgt v2 c0_i32
  let v6 : BitVec 32 := Scalar.extui v5
  let c0_i32_1 : BitVec 32 := 0#32
  let v7 : BitVec 1 := Scalar.cmpi .slt v2 c0_i32_1
  let v8 : BitVec 32 := Scalar.extui v7
  let v9 : BitVec 32 := Scalar.subi v6 v8
  let c4_i32_0 : BitVec 32 := 4#32
  let c0_i32_2 : BitVec 32 := 0#32
  let v10 : BitVec 1 := Scalar.cmpi .sgt c4_i32_0 c0_i32_2
  let v11 : BitVec 32 := Scalar.extui v10
  let c0_i32_3 : BitVec 32 := 0#32
  let v12 : BitVec 1 := Scalar.cmpi .slt c4_i32_0 c0_i32_3
  let v13 : BitVec 32 := Scalar.extui v12
  let v14 : BitVec 32 := Scalar.subi v11 v13
  let v15 : BitVec 1 := Scalar.cmpi .ne v9 v14
  let v16 : BitVec 32 := Scalar.remsi v2 c4_i32_0
  let c0_i32_4 : BitVec 32 := 0#32
  let v17 : BitVec 1 := Scalar.cmpi .ne v16 c0_i32_4
  let v18 : BitVec 1 := Scalar.andi v15 v17
  let v4 : BitVec 32 := Scalar.divsi v2 c4_i32_0
  let c1_i32_5 : BitVec 32 := 1#32
  let v19 : BitVec 32 := Scalar.subi v4 c1_i32_5
  let v20 : BitVec 32 := Scalar.select v18 v19 v4
  let c3_i32_567 : BitVec 32 := 3#32
  let v534 : BitVec 1 := Scalar.cmpi .eq v20 c3_i32_567
  let v535 : BitVec 32 := Scalar.extui v534
  let c0_i32_568 : BitVec 32 := 0#32
  let v536 : BitVec 1 := Scalar.cmpi .ne v535 c0_i32_568
  v536

def k0_dev26 (d0 : Dev nD) : Nat :=
  let c0_i32_735 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_734 : BitVec 32 := 1#32
  let v614 : BitVec 32 := Scalar.muli v32 c1_i32_734
  let v615 : BitVec 32 := Scalar.addi c0_i32_735 v614
  v615.toNat
def k0_dev27 (d0 : Dev nD) : Nat :=
  let c0_i32_750 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_749 : BitVec 32 := 1#32
  let v629 : BitVec 32 := Scalar.muli v32 c1_i32_749
  let v630 : BitVec 32 := Scalar.addi c0_i32_750 v629
  v630.toNat
def k0_dev28 (d0 : Dev nD) : Nat :=
  let c0_i32_765 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_11 : BitVec 32 := 16#32
  let v30 : BitVec 32 := Scalar.addi v2 c16_i32_11
  let c4_i32_12 : BitVec 32 := 4#32
  let v31 : BitVec 32 := Scalar.subi v30 c4_i32_12
  let c16_i32_13 : BitVec 32 := 16#32
  let v32 : BitVec 32 := Scalar.remsi v31 c16_i32_13
  let c1_i32_764 : BitVec 32 := 1#32
  let v644 : BitVec 32 := Scalar.muli v32 c1_i32_764
  let v645 : BitVec 32 := Scalar.addi c0_i32_765 v644
  v645.toNat
abbrev stage0_0 : Fin 1 → Memref sig .tc .vmem S1024x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.KernelIdeal.Geometry.lean ====
/- Who sends what to whom: the devices' neighbours, the twenty messages of a device, their slots, semaphores and cells. -/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Launch
public import Idealize.ShloMosaic.Lib.Pipeline.Kit
public import Idealize.ShloMosaic.Lib.Pipeline.TalkSched
public import Idealize.ShloMosaic.Lib.Pipeline.Value
public import Idealize.ShloMosaic.Lib.ValueIdxCoords
public import Idealize.ShloMosaic.Lib.Tactic

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The mesh: sixteen devices, device `c` at place `c % 4` of row `c / 4` -/

/-- The next device of the row, around it. -/
def rt (c : Dev nD) : Dev nD := ⟨4 * (c.val / 4) + (c.val % 4 + 1) % 4, by have := c.isLt; change _ < 16; change c.val < 16 at this; omega⟩
/-- The previous device of the row, around it. -/
def lt (c : Dev nD) : Dev nD := ⟨4 * (c.val / 4) + (c.val % 4 + 3) % 4, by have := c.isLt; change _ < 16; change c.val < 16 at this; omega⟩
/-- The device of the next row, around the mesh. -/
def up (c : Dev nD) : Dev nD := ⟨(c.val + 4) % 16, Nat.mod_lt _ (by decide)⟩
/-- The device of the previous row, around the mesh. -/
def dn (c : Dev nD) : Dev nD := ⟨(c.val + 12) % 16, Nat.mod_lt _ (by decide)⟩

theorem rt_lt (c : Dev nD) : rt (lt c) = c := by revert c; decide
theorem lt_rt (c : Dev nD) : lt (rt c) = c := by revert c; decide
theorem up_dn (c : Dev nD) : up (dn c) = c := by revert c; decide
theorem dn_up (c : Dev nD) : dn (up c) = c := by revert c; decide

/-! ## The messages -/

/-- The messages a device may send: `F h s` (to the right, hop `h`, half `s`), `B h s` (to the left), `U d` (to the next
    row, slot `d`), `D d` (to the previous row, slot `d`). -/
inductive Msg where
  | F (h : Fin 3) (s : Fin 2)
  | B (h : Fin 3) (s : Fin 2)
  | U (d : Fin 4)
  | D (d : Fin 4)
  deriving DecidableEq

namespace Msg

/-- The ring's messages in the order the kernel starts them, and awaits them. -/
def ring : List Msg := [F 0 0, B 0 0, F 0 1, B 0 1, F 1 0, B 1 0, F 1 1, B 1 1, F 2 0, B 2 0, F 2 1, B 2 1]
/-- The column's messages. -/
def col : List Msg := [U 0, U 1, U 2, U 3, D 0, D 1, D 2, D 3]
/-- All twenty. -/
def all : List Msg := ring ++ col

theorem mem_all (k : Msg) : k ∈ all := by
  rcases k with ⟨h, s⟩ | ⟨h, s⟩ | ⟨d⟩ | ⟨d⟩
  · fin_cases h <;> fin_cases s <;> decide
  · fin_cases h <;> fin_cases s <;> decide
  · fin_cases d <;> decide
  · fin_cases d <;> decide
theorem nodup_all : all.Nodup := by decide

instance : Fintype Msg := ⟨all.toFinset, fun k => List.mem_toFinset.mpr (mem_all k)⟩

/-- A fact of the twenty messages, from the list of them. -/
theorem forall_of_all {p : Msg → Prop} (h : ∀ k ∈ all, p k) (k : Msg) : p k := h k (mem_all k)

/-- Where device `c` sends the message. -/
def dst (c : Dev nD) : Msg → Dev nD | F _ _ => rt c | B _ _ => lt c | U _ => up c | D _ => dn c
/-- Whom device `c` has the message from. -/
def src (c : Dev nD) : Msg → Dev nD | F _ _ => lt c | B _ _ => rt c | U _ => dn c | D _ => up c

theorem dst_src (c : Dev nD) (k : Msg) : k.dst (k.src c) = c := by
  cases k <;> first | exact rt_lt c | exact lt_rt c | exact up_dn c | exact dn_up c
theorem src_dst (c : Dev nD) (k : Msg) : k.src (k.dst c) = c := by
  cases k <;> first | exact rt_lt c | exact lt_rt c | exact up_dn c | exact dn_up c

/-- Whether device `c` sends the message: of a column's, row `t` sends up the slots above it and down those below it. -/
def sends (c : Dev nD) : Msg → Bool | F _ _ => true | B _ _ => true | U d => c.val / 4 < d.val | D d => d.val < c.val / 4
/-- Whether device `c` receives it. -/
def recvs (c : Dev nD) (k : Msg) : Bool := k.sends (k.src c)

/-- The number of the message's send semaphore among the kernel's forty, -/
def sIx : Msg → Fin 40
  | F h s => ⟨2 * h.val + s.val, by omega⟩ | B h s => ⟨12 + (2 * h.val + s.val), by omega⟩
  | U d => ⟨24 + d.val, by omega⟩ | D d => ⟨32 + d.val, by omega⟩
/-- and of its receive semaphore. -/
def rIx : Msg → Fin 40
  | F h s => ⟨6 + (2 * h.val + s.val), by omega⟩ | B h s => ⟨18 + (2 * h.val + s.val), by omega⟩
  | U d => ⟨28 + d.val, by omega⟩ | D d => ⟨36 + d.val, by omega⟩

end Msg

open Msg

/-! ## Memrefs, semaphores, cells -/

abbrev xM : Memref sig .tc .vmem S1024x64 .f32 := Memref.whole cc0_stg0_0
abbrev wM : Memref sig .tc .vmem S64x1024 .f32 := Memref.whole cc0_stg1_0
abbrev oM : Memref sig .tc .vmem S64x1024 .f32 := Memref.whole cc0_stg2_0
abbrev pM : Memref sig .tc .vmem S1024x64 .f32 := Memref.whole cc0_scratch0
abbrev fM : Memref sig .tc .vmem S4x2x128x512 .bf16 := Memref.whole cc0_scratch1
abbrev bM : Memref sig .tc .vmem S4x2x128x512 .bf16 := Memref.whole cc0_scratch2
abbrev rM : Memref sig .tc .vmem S256x1024 .f32 := Memref.whole cc0_scratch3
abbrev uM : Memref sig .tc .vmem S4x64x1024 .bf16 := Memref.whole cc0_scratch4
abbrev dM : Memref sig .tc .vmem S4x64x1024 .bf16 := Memref.whole cc0_scratch5

/-- The rectangle of slot `(h, s)` of a ring buffer. -/
abbrev ringRect (h : Fin 4) (s : Fin 2) : Rect S4x2x128x512 :=
  Rect.unit (s := S4x2x128x512) ![h.val, s.val, 0, 0] S1x1x128x512.size
    (by intro a; fin_cases h <;> fin_cases s <;> fin_cases a <;> decide)
/-- The rectangle of slot `d` of a column buffer. -/
abbrev colRect (d : Fin 4) : Rect S4x64x1024 :=
  Rect.unit (s := S4x64x1024) ![d.val, 0, 0] S1x64x1024.size (by intro a; fin_cases d <;> fin_cases a <;> decide)

/-- Slot `(h, s)` of a ring buffer, -/
abbrev ringSlot (M : Memref sig .tc .vmem S4x2x128x512 .bf16) (h : Fin 4) (s : Fin 2) : Memref sig .tc .vmem S128x512 .bf16 :=
  (M.slice (ringRect h s) (fun _ => rfl)).squeeze S128x512 squeezes_S1x1x128x512_S128x512
/-- and slot `d` of a column buffer. -/
abbrev colSlot (M : Memref sig .tc .vmem S4x64x1024 .bf16) (d : Fin 4) : Memref sig .tc .vmem S64x1024 .bf16 :=
  (M.slice (colRect d) (fun _ => rfl)).squeeze S64x1024 squeezes_S1x64x1024_S64x1024

/-- The runtime's barrier semaphore. -/
abbrev barS : Sem sig := (SemArray.scalar (sig.barrier 0 rfl) : Sems sig S_).sem

/-- The kernel's own forty semaphores (the first three are the pipeline's). -/
def dsem (j : Fin 40) : DmaSem sig := ⟨3 + j.val, by change 3 + j.val < 43; omega⟩
abbrev osem (j : Fin 40) : SemLoc sig := .dma (dsem j)

theorem dsem_inj {i j : Fin 40} (h : dsem i = dsem j) : i = j := by
  have := congrArg Fin.val h; unfold dsem at this; exact Fin.ext (by simp only at this; omega)

abbrev barCell (c : Dev nD) : GSem nD τ sig := ((c : Thread nD τ), .reg barS)
abbrev sCell (c : Dev nD) (k : Msg) : GSem nD τ sig := ((c : Thread nD τ), osem k.sIx)
abbrev rCell (c : Dev nD) (k : Msg) : GSem nD τ sig := ((c : Thread nD τ), osem k.rIx)

/-- What a semaphore is for. -/
inductive Kind where
  | bar | send (k : Msg) | recv (k : Msg) | other
  deriving DecidableEq

/-- The use of the kernel's semaphore number `j`. -/
def kindIx (j : Fin 40) : Kind :=
  match Msg.all.find? (fun k => k.sIx = j) with
  | some k => .send k
  | none => match Msg.all.find? (fun k => k.rIx = j) with
    | some k => .recv k
    | none => .other
theorem kindIx_s : ∀ k : Msg, kindIx k.sIx = .send k := Msg.forall_of_all (by decide)
theorem kindIx_r : ∀ k : Msg, kindIx k.rIx = .recv k := Msg.forall_of_all (by decide)

/-- The use of a semaphore. -/
def kind : SemLoc sig → Kind
  | .reg s => if s = barS then .bar else .other
  | .dma q => if h : 3 ≤ q.val then kindIx ⟨q.val - 3, by have := q.isLt; change q.val < 43 at this; omega⟩ else .other

theorem kind_bar : kind (.reg barS) = .bar := by unfold kind; exact if_pos rfl
theorem kind_osem (j : Fin 40) : kind (osem j) = kindIx j := by
  show (if h : 3 ≤ (dsem j).val then kindIx ⟨(dsem j).val - 3, _⟩ else Kind.other) = _
  rw [dif_pos (by unfold dsem; simp only; omega)]
  congr 1; apply Fin.ext; unfold dsem; simp only; omega
theorem kind_s (k : Msg) : kind (osem k.sIx) = .send k := (kind_osem _).trans (kindIx_s k)
theorem kind_r (k : Msg) : kind (osem k.rIx) = .recv k := (kind_osem _).trans (kindIx_r k)

/-! ## The printed device numbers and conditions -/

theorem dev1_eq (c : Dev nD) : (⟨k0_dev1 c, k0_dev1_lt c⟩ : Dev nD) = lt c := by revert c; decide +kernel
theorem dev2_eq (c : Dev nD) : (⟨k0_dev2 c, k0_dev2_lt c⟩ : Dev nD) = rt c := by revert c; decide +kernel
theorem dev5_eq (c : Dev nD) : (⟨k0_dev5 c, k0_dev5_lt c⟩ : Dev nD) = rt c := by revert c; decide +kernel
theorem dev6_eq (c : Dev nD) : (⟨k0_dev6 c, k0_dev6_lt c⟩ : Dev nD) = lt c := by revert c; decide +kernel
theorem dev7_eq (c : Dev nD) : (⟨k0_dev7 c, k0_dev7_lt c⟩ : Dev nD) = rt c := by revert c; decide +kernel
theorem dev8_eq (c : Dev nD) : (⟨k0_dev8 c, k0_dev8_lt c⟩ : Dev nD) = lt c := by revert c; decide +kernel
theorem dev9_eq (c : Dev nD) : (⟨k0_dev9 c, k0_dev9_lt c⟩ : Dev nD) = rt c := by revert c; decide +kernel
theorem dev10_eq (c : Dev nD) : (⟨k0_dev10 c, k0_dev10_lt c⟩ : Dev nD) = lt c := by revert c; decide +kernel
theorem dev11_eq (c : Dev nD) : (⟨k0_dev11 c, k0_dev11_lt c⟩ : Dev nD) = rt c := by revert c; decide +kernel
theorem dev12_eq (c : Dev nD) : (⟨k0_dev12 c, k0_dev12_lt c⟩ : Dev nD) = lt c := by revert c; decide +kernel
theorem dev13_eq (c : Dev nD) : (⟨k0_dev13 c, k0_dev13_lt c⟩ : Dev nD) = rt c := by revert c; decide +kernel
theorem dev14_eq (c : Dev nD) : (⟨k0_dev14 c, k0_dev14_lt c⟩ : Dev nD) = lt c := by revert c; decide +kernel
theorem dev15_eq (c : Dev nD) : (⟨k0_dev15 c, k0_dev15_lt c⟩ : Dev nD) = rt c := by revert c; decide +kernel
theorem dev16_eq (c : Dev nD) : (⟨k0_dev16 c, k0_dev16_lt c⟩ : Dev nD) = lt c := by revert c; decide +kernel

/-- A printed device number that is the next row's, -/
theorem up_of {c : Dev nD} {n : ℕ} (h : n < nD) (e : n = (c.val + 4) % 16) : (⟨n, h⟩ : Dev nD) = up c := Fin.ext e
/-- or the previous row's. -/
theorem dn_of {c : Dev nD} {n : ℕ} (h : n < nD) (e : n = (c.val + 12) % 16) : (⟨n, h⟩ : Dev nD) = dn c := Fin.ext e

theorem cond1_iff : ∀ c : Dev nD, k0_cond1 c = 1#1 ↔ c.val / 4 < 3 := by decide +kernel
theorem cond2_iff : ∀ c : Dev nD, k0_cond2 c = 1#1 ↔ 0 < c.val / 4 := by decide +kernel
theorem cond3_iff : ∀ c : Dev nD, k0_cond3 c = 1#1 ↔ c.val / 4 = 0 := by decide +kernel
theorem cond4_iff : ∀ c : Dev nD, k0_cond4 c = 1#1 ↔ c.val / 4 = 1 := by decide +kernel
theorem cond5_iff : ∀ c : Dev nD, k0_cond5 c = 1#1 ↔ c.val / 4 = 2 := by decide +kernel
theorem cond6_iff : ∀ c : Dev nD, k0_cond6 c = 1#1 ↔ c.val / 4 = 3 := by decide +kernel

/-- How many neighbours signal device `c`'s barrier semaphore. -/
def nNbr (c : Dev nD) : ℕ := 2 + (if c.val / 4 < 3 then 1 else 0) + (if 0 < c.val / 4 then 1 else 0)

end Cert.KernelIdeal.Ring
-- ==== Proof.KernelIdeal.Contents.lean ====
/- What the buffers and the messages hold, each in the kernel's own operations. -/
module

public import proofs.«01_k».proof.Proof.KernelIdeal.Geometry

@[expose] public section

set_option maxRecDepth 16384

noncomputable section

namespace Cert.KernelIdeal.Ring

open Cert.KernelIdeal Cert.KernelIdeal.Gen
open Idealize.ShloMosaic
open Idealize.ShloMosaic.TcCoe

variable {F : FTy → Type} [FloatOps F]
variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-- Device `c`'s block of `x` and of `w`, as the body finds them. -/
def xv (c : Dev nD) : (cc0_stg0_0 : Ref sig .tc).ty.Contents (Elt F) :=
  (win0_0.blk (0 : Fin 1)).view.read (Elt F) ((s₀ m ρ).mem ((c : Thread nD τ).loc main_arg0))
def wv (c : Dev nD) : (cc0_stg1_0 : Ref sig .tc).ty.Contents (Elt F) :=
  (win0_1.blk (0 : Fin 1)).view.read (Elt F) ((s₀ m ρ).mem ((c : Thread nD τ).loc main_arg1))

/-! ## The permuted copy of `x`: its block `n` (64 rows) is block `4 (n % 4) + n / 4` of `x` -/

/-- The row of `x` that row `i` of the permuted copy is. -/
def permRow (i : Fin 1024) : Fin 1024 := ⟨64 * (4 * (i.val / 64 % 4) + i.val / 64 / 4) + i.val % 64, by omega⟩

/-- The permuted copy over earlier contents `f`, its first `n` blocks made. -/
def permPart (c : Dev nD) (f : Vec F S1024x64 .f32) (n : ℕ) : Vec F S1024x64 .f32 := fun i =>
  if (i 0).val < 64 * n then (xv m ρ c : Vec F S1024x64 .f32) (ValueIdx.ix2 (permRow (i 0)) (i 1)) else f i

/-- The permuted copy, whole. -/
def perm (c : Dev nD) : Vec F S1024x64 .f32 := fun i => (xv m ρ c : Vec F S1024x64 .f32) (ValueIdx.ix2 (permRow (i 0)) (i 1))

/-- The quarter `r` of the permuted copy: rows `256 r ..`. -/
def permQ (c : Dev nD) (r : Fin 4) : Vec F S256x64 .f32 := fun i =>
  perm m ρ c (ValueIdx.ix2 (n0 := 1024) (n1 := 64) ⟨256 * r.val + (i 0).val, by have := (i 0).isLt; change (i 0).val < 256 at this; omega⟩ (i 1))

/-- The quarter's product with `w`. -/
def quarter (c : Dev nD) (r : Fin 4) : FVec F S256x1024 .f32 := k0_pay31 (permQ m ρ c r) (wv m ρ c)

/-- Half `s` of a quarter's product in its left columns, -/
def halfL : Fin 2 → FVec F S256x1024 .f32 → FVec F S128x512 .f32
  | 0, v => extractStridedSlice S128x512 ![0, 0] v slices_S256x1024_o0_0_S128x512
  | 1, v => extractStridedSlice S128x512 ![128, 0] v slices_S256x1024_o128_0_S128x512
/-- and in its right ones. -/
def halfR : Fin 2 → FVec F S256x1024 .f32 → FVec F S128x512 .f32
  | 0, v => extractStridedSlice S128x512 ![0, 512] v slices_S256x1024_o0_512_S128x512
  | 1, v => extractStridedSlice S128x512 ![128, 512] v slices_S256x1024_o128_512_S128x512

/-- A number modulo four. -/
def q4 (n : ℕ) : Fin 4 := ⟨n % 4, Nat.mod_lt _ (by decide)⟩

/-! ## The ring's messages -/

/-- What device `c` sends to the right at hop `h`: the message of hop `h - 1` from the left with its own term added. -/
def vF : ℕ → Fin 2 → Dev nD → FVec F S128x512 .bf16
  | 0, s, c => truncf .bf16 (halfL s (quarter m ρ c (q4 (c.val % 4 + 3)))) bitsLt_bf16_f32
  | h + 1, s, c => truncf .bf16 (addf (extf .f32 (vF h s (lt c)) bitsLt_bf16_f32) (halfL s (quarter m ρ c (q4 (c.val % 4 + 6 - h))))) bitsLt_bf16_f32
/-- What it sends to the left. -/
def vB : ℕ → Fin 2 → Dev nD → FVec F S128x512 .bf16
  | 0, s, c => truncf .bf16 (halfR s (quarter m ρ c (q4 (c.val % 4 + 1)))) bitsLt_bf16_f32
  | h + 1, s, c => truncf .bf16 (addf (extf .f32 (vB h s (rt c)) bitsLt_bf16_f32) (halfR s (quarter m ρ c (q4 (c.val % 4 + 2 + h))))) bitsLt_bf16_f32

/-- The sums device `c` ends the ring with: half `s` of the left columns, -/
def rL (c : Dev nD) (s : Fin 2) : FVec F S128x512 .f32 :=
  addf (extf .f32 (vF m ρ 2 s (lt c)) bitsLt_bf16_f32) (halfL s (quarter m ρ c (q4 (c.val % 4 + 4))))
/-- and of the right ones. -/
def rR (c : Dev nD) (s : Fin 2) : FVec F S128x512 .f32 :=
  addf (extf .f32 (vB m ρ 2 s (rt c)) bitsLt_bf16_f32) (halfR s (quarter m ρ c (q4 (c.val % 4 + 4))))

/-- The ring's result: the four of them side by side. -/
def rv (c : Dev nD) : Vec F S256x1024 .f32 := fun i =>
  have h0 : (i 0).val < 256 := (i 0).isLt
  have h1 : (i 1).val < 1024 := (i 1).isLt
  if (i 1).val < 512 then rL m ρ c ⟨(i 0).val / 128, by omega⟩ (ValueIdx.ix2 (n0 := 128) (n1 := 512) ⟨(i 0).val % 128, by omega⟩ ⟨(i 1).val % 512, by omega⟩)
  else rR m ρ c ⟨(i 0).val / 128, by omega⟩ (ValueIdx.ix2 (n0 := 128) (n1 := 512) ⟨(i 0).val % 128, by omega⟩ ⟨(i 1).val % 512, by omega⟩)

/-- Its rows for the device of row `d`. -/
def rb (c : Dev nD) (d : Fin 4) : Vec F S64x1024 .f32 := fun i =>
  rv m ρ c (ValueIdx.ix2 (n0 := 256) (n1 := 1024) ⟨64 * d.val + (i 0).val, by have := (i 0).isLt; change (i 0).val < 64 at this; omega⟩ (i 1))

/-! ## The column's messages -/

/-- A received slot with the device's own rows added. -/
def colAdd (v : FVec F S64x1024 .bf16) (r : Vec F S64x1024 .f32) : FVec F S64x1024 .bf16 :=
  truncf .bf16 (addf (extf .f32 v bitsLt_bf16_f32) r) bitsLt_bf16_f32

/-- What a device of row `t` sends up in slot `d`, -/
def vUr (d : Fin 4) : ℕ → Dev nD → FVec F S64x1024 .bf16
  | 0, c => truncf .bf16 (rb m ρ c d) bitsLt_bf16_f32
  | t + 1, c => colAdd (vUr d t (dn c)) (rb m ρ c d)
/-- and what a device of row `3 - t` sends down. -/
def vDr (d : Fin 4) : ℕ → Dev nD → FVec F S64x1024 .bf16
  | 0, c => truncf .bf16 (rb m ρ c d) bitsLt_bf16_f32
  | t + 1, c => colAdd (vDr d t (up c)) (rb m ρ c d)

def vU (c : Dev nD) (d : Fin 4) : FVec F S64x1024 .bf16 := vUr m ρ d (c.val / 4) c
def vD (c : Dev nD) (d : Fin 4) : FVec F S64x1024 .bf16 := vDr m ρ d (3 - c.val / 4) c

/-- The kernel's result on device `c`. -/
def outv (c : Dev nD) : FVec F S64x1024 .f32 :=
  if c.val / 4 = 0 then addf (rb m ρ c 0) (extf .f32 (vD m ρ (up c) 0) bitsLt_bf16_f32)
  else if c.val / 4 = 1 then addf (addf (rb m ρ c 1) (extf .f32 (vU m ρ (dn c) 1) bitsLt_bf16_f32)) (extf .f32 (vD m ρ (up c) 1) bitsLt_bf16_f32)
  else if c.val / 4 = 2 then addf (addf (rb m ρ c 2) (extf .f32 (vU m ρ (dn c) 2) bitsLt_bf16_f32)) (extf .f32 (vD m ρ (up c) 2) bitsLt_bf16_f32)
  else addf (rb m ρ c 3) (extf .f32 (vU m ρ (dn c) 3) bitsLt_bf16_f32)

end Cert.KernelIdeal.Ring
-- ==== Proof.KernelIdeal.Sched.lean ====
/- The protocol: what each semaphore's round is paid with, in which order the waits are allowed, and what a device owes. -/
module

public import proofs.«01_k».proof.Proof.KernelIdeal.Contents

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra: the pipeline library's copy and the protocol's, with four duty names -/

abbrev UB : Type := URounds (GSem nD τ sig) (Fin 4)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- Device `c` holds the memref at contents `X`. -/
abbrev holds (c : Dev nD) {s : Shape} {e : EltTy} (M : Memref sig .tc .vmem s e) (X : s.Idx → Elt F e) : sProp 𝕄 :=
  owns (Ix := Unit) (Name := ℕ) (U := UU) (Lvl := ℕ) (c : Thread nD τ) M fullShare X

/-! ## Payloads -/

/-- The slot of device `c` that the message lands in, at whatever contents, -/
def landing (c : Dev nD) : Msg → sProp 𝕄
  | .F h s => iprop(∃ X, holds c (ringSlot fM h.succ s) X)
  | .B h s => iprop(∃ X, holds c (ringSlot bM h.succ s) X)
  | .U d => iprop(∃ X, holds c (colSlot uM d) X)
  | .D d => iprop(∃ X, holds c (colSlot dM d) X)
/-- the slot it is sent from, -/
def sendPay (c : Dev nD) : Msg → sProp 𝕄
  | .F h s => iprop(∃ X, holds c (ringSlot fM h.castSucc s) X)
  | .B h s => iprop(∃ X, holds c (ringSlot bM h.castSucc s) X)
  | .U d => iprop(∃ X, holds c (colSlot uM d) X)
  | .D d => iprop(∃ X, holds c (colSlot dM d) X)
/-- and the slot it landed in, holding it. -/
def recvPay (c : Dev nD) : Msg → sProp 𝕄
  | .F h s => holds c (ringSlot fM h.succ s) (vF m ρ h.val s (lt c))
  | .B h s => holds c (ringSlot bM h.succ s) (vB m ρ h.val s (rt c))
  | .U d => holds c (colSlot uM d) (vU m ρ (dn c) d)
  | .D d => holds c (colSlot dM d) (vD m ρ (up c) d)

omit [FloatOps F] in
instance landing_storable (c : Dev nD) (k : Msg) : BI.Storable (upEmb : UEmb _ 𝕄) (landing (F := F) c k) := by
  cases k <;> (unfold landing; infer_instance)
omit [FloatOps F] in
instance sendPay_storable (c : Dev nD) (k : Msg) : BI.Storable (upEmb : UEmb _ 𝕄) (sendPay (F := F) c k) := by
  cases k <;> (unfold sendPay; infer_instance)
instance recvPay_storable (c : Dev nD) (k : Msg) : BI.Storable (upEmb : UEmb _ 𝕄) (recvPay (F := F) m ρ c k) := by
  cases k <;> (unfold recvPay; infer_instance)

/-- What device `c` sends towards its neighbour number `j` (0 left, 1 right, 2 the next row, 3 the previous row). -/
def outs (c : Dev nD) : Fin 4 → List Msg
  | 0 => [.B 0 0, .B 0 1, .B 1 0, .B 1 1, .B 2 0, .B 2 1]
  | 1 => [.F 0 0, .F 0 1, .F 1 0, .F 1 1, .F 2 0, .F 2 1]
  | 2 => [Msg.U 3, Msg.U 2, Msg.U 1].filter fun k => k.sends c
  | 3 => [Msg.D 0, Msg.D 1, Msg.D 2].filter fun k => k.sends c

/-- What the signal of neighbour `j` hands device `c`: the slots that `c` sends into there. -/
def barPay (c : Dev nD) (j : Fin 4) : sProp 𝕄 := bigSepL (outs c j) fun k => landing (k.dst c) k

omit [FloatOps F] in
theorem bigSepL_storable {I : Type} (l : List I) (Φ : I → sProp 𝕄) (h : ∀ i, BI.Storable (upEmb : UEmb _ 𝕄) (Φ i)) :
    BI.Storable (upEmb : UEmb _ 𝕄) (bigSepL l Φ) := by
  induction l with
  | nil => rw [bigSepL_nil]; exact (inferInstance : BI.Storable (upEmb : UEmb _ 𝕄) iprop(emp))
  | cons i l ih => rw [bigSepL_cons']; have := h i; infer_instance
omit [FloatOps F] in
instance barPay_storable (c : Dev nD) (j : Fin 4) : BI.Storable (upEmb : UEmb _ 𝕄) (barPay (F := F) c j) :=
  bigSepL_storable _ _ fun _ => inferInstance

/-! ## The schedule: one round -/

/-- The units of a message: those its slot's transfer credits. -/
def amt : Msg → ℕ
  | .F _ _ | .B _ _ => (ringSlot fM 0 0).view.dmaCredit
  | .U _ | .D _ => (colSlot uM 0).view.dmaCredit
theorem amt_pos (k : Msg) : 0 < amt k := by cases k <;> exact View.dmaCredit_pos _ (by decide)

/-- The neighbours whose signals a barrier semaphore waits for. -/
def nbrs (c : Dev nD) : Finset (Fin 4) := {j | j = 0 ∨ j = 1 ∨ (j = 2 ∧ c.val / 4 < 3) ∨ (j = 3 ∧ 0 < c.val / 4)}

def duties₀ (g : GSem nD τ sig) : Finset (Fin 4) :=
  match kind g.2 with
  | .bar => nbrs g.1.1
  | .send k => if k.sends g.1.1 then {0} else ∅
  | .recv k => if k.recvs g.1.1 then {0} else ∅
  | .other => ∅
def amount₀ (s : SemLoc sig) : ℕ :=
  match kind s with
  | .send k => amt k
  | .recv k => amt k
  | _ => 1
theorem amount₀_pos (s : SemLoc sig) : 0 < amount₀ s := by
  unfold amount₀; split <;> first | exact amt_pos _ | exact Nat.one_pos
def payload₀ (g : GSem nD τ sig) (d : Fin 4) : sProp 𝕄 :=
  match kind g.2 with
  | .bar => barPay g.1.1 d
  | .send k => sendPay g.1.1 k
  | .recv k => recvPay m ρ g.1.1 k
  | .other => iprop(emp)

/-- The schedule. -/
def Rd : Rounds.Schedule (GSem nD τ sig) (Fin 4) 𝕄 where
  duties g r := if r = 0 ∧ g.1.2 = .tc then duties₀ g else ∅
  unitless _ := False
  amount g _ _ := amount₀ g.2
  payload g _ d := payload₀ m ρ g d
  amount_pos g _ _ _ := amount₀_pos g.2

instance Rd_payload_storable (g : GSem nD τ sig) (r : ℕ) (d : Fin 4) :
    BI.Storable (upEmb : UEmb _ 𝕄) ((Rd (F := F) m ρ).payload g r d) := by
  show BI.Storable upEmb (payload₀ m ρ g d)
  unfold payload₀; split <;> infer_instance

section Tables
variable (c : Dev nD) (k : Msg)

theorem duties_tc (s : SemLoc sig) : (Rd (F := F) m ρ).duties ((c : Thread nD τ), s) 0 = duties₀ ((c : Thread nD τ), s) := by
  dsimp only [Rd]; exact if_pos ⟨rfl, rfl⟩
theorem duties_bar : (Rd (F := F) m ρ).duties (barCell c) 0 = nbrs c := by
  rw [duties_tc]; unfold duties₀; simp only [kind_bar]
theorem duties_s (h : k.sends c = true) : (Rd (F := F) m ρ).duties (sCell c k) 0 = {0} := by
  rw [duties_tc]; unfold duties₀; simp only [kind_s, h, if_true]
theorem duties_r (h : k.recvs c = true) : (Rd (F := F) m ρ).duties (rCell c k) 0 = {0} := by
  rw [duties_tc]; unfold duties₀; simp only [kind_r, h, if_true]
theorem duties_later (g : GSem nD τ sig) : ∀ r, 1 ≤ r → (Rd (F := F) m ρ).duties g r = ∅ :=
  fun r hr => by dsimp only [Rd]; rw [if_neg fun h => by omega]
theorem duties_s_none (h : k.sends c = false) : ∀ r, 0 ≤ r → (Rd (F := F) m ρ).duties (sCell c k) r = ∅ := fun r _ => by
  rcases Nat.eq_zero_or_pos r with rfl | hr
  · rw [duties_tc]; unfold duties₀; simp [kind_s, h]
  · exact duties_later m ρ _ r hr
theorem duties_r_none (h : k.recvs c = false) : ∀ r, 0 ≤ r → (Rd (F := F) m ρ).duties (rCell c k) r = ∅ := fun r _ => by
  rcases Nat.eq_zero_or_pos r with rfl | hr
  · rw [duties_tc]; unfold duties₀; simp [kind_r, h]
  · exact duties_later m ρ _ r hr

theorem amount_bar (d : Fin 4) : (Rd (F := F) m ρ).amount (barCell c) 0 d = 1 := by
  dsimp only [Rd]; unfold amount₀; simp only [kind_bar]
theorem amount_s (d : Fin 4) : (Rd (F := F) m ρ).amount (sCell c k) 0 d = amt k := by
  show amount₀ _ = _; unfold amount₀; simp only [kind_s]
theorem amount_r (d : Fin 4) : (Rd (F := F) m ρ).amount (rCell c k) 0 d = amt k := by
  show amount₀ _ = _; unfold amount₀; simp only [kind_r]

theorem payload_bar (d : Fin 4) : (Rd (F := F) m ρ).payload (barCell c) 0 d = barPay c d := by
  dsimp only [Rd]; unfold payload₀; simp only [kind_bar]
theorem payload_s (d : Fin 4) : (Rd (F := F) m ρ).payload (sCell c k) 0 d = sendPay c k := by
  show payload₀ m ρ _ d = _; unfold payload₀; simp only [kind_s]
theorem payload_r (d : Fin 4) : (Rd (F := F) m ρ).payload (rCell c k) 0 d = recvPay m ρ c k := by
  show payload₀ m ρ _ d = _; unfold payload₀; simp only [kind_r]

theorem expect_s (h : k.sends c = true) : (Rd (F := F) m ρ).expect (sCell c k) 0 = amt k := by
  unfold Schedule.expect Schedule.amountOf; rw [duties_s m ρ c k h, Finset.sum_singleton, amount_s]
theorem expect_r (h : k.recvs c = true) : (Rd (F := F) m ρ).expect (rCell c k) 0 = amt k := by
  unfold Schedule.expect Schedule.amountOf; rw [duties_r m ρ c k h, Finset.sum_singleton, amount_r]
theorem card_nbrs : (nbrs c).card = nNbr c := by revert c; decide
theorem expect_bar : (Rd (F := F) m ρ).expect (barCell c) 0 = nNbr c := by
  unfold Schedule.expect Schedule.amountOf
  rw [duties_bar, Finset.sum_congr rfl fun d _ => amount_bar m ρ c d, Finset.sum_const, smul_eq_mul, Nat.mul_one, card_nbrs]

theorem rest_s (h : k.sends c = true) :
    bigSep ((Rd (F := F) m ρ).duties (sCell c k) 0 \ ∅) (fun d => (Rd (F := F) m ρ).payload (sCell c k) 0 d) = sendPay c k := by
  rw [Finset.sdiff_empty, duties_s m ρ c k h, bigSep_singleton, payload_s]
theorem rest_r (h : k.recvs c = true) :
    bigSep ((Rd (F := F) m ρ).duties (rCell c k) 0 \ ∅) (fun d => (Rd (F := F) m ρ).payload (rCell c k) 0 d) = recvPay m ρ c k := by
  rw [Finset.sdiff_empty, duties_r m ρ c k h, bigSep_singleton, payload_r]
/-- What the barrier wait takes: the slots of the left and the right neighbour, and of the other rows' where there are any. -/
theorem rest_bar : bigSep ((Rd (F := F) m ρ).duties (barCell c) 0 \ ∅) (fun d => (Rd (F := F) m ρ).payload (barCell c) 0 d)
    ⊢ iprop(barPay c 0 ∗ barPay c 1 ∗ barPay c 2 ∗ barPay c 3) := by
  rw [Finset.sdiff_empty, duties_bar, bigSep_congr fun d _ => payload_bar m ρ c d]
  have hu : ∀ c : Dev nD, c.val / 4 = 3 → outs c 2 = [] := by decide
  have hd : ∀ c : Dev nD, c.val / 4 = 0 → outs c 3 = [] := by decide
  have h2 : c.val / 4 = 3 → barPay (F := F) c 2 = iprop(emp) := fun h => by unfold barPay; rw [hu c h]; rfl
  have h3 : c.val / 4 = 0 → barPay (F := F) c 3 = iprop(emp) := fun h => by unfold barPay; rw [hd c h]; rfl
  have hc : c.val / 4 = 0 ∨ c.val / 4 = 1 ∨ c.val / 4 = 2 ∨ c.val / 4 = 3 := by
    have := c.isLt; change c.val < 16 at this; omega
  have e0 : ∀ c : Dev nD, c.val / 4 = 0 → nbrs c = [0, 1, 2].toFinset := by decide
  have e1 : ∀ c : Dev nD, c.val / 4 = 1 ∨ c.val / 4 = 2 → nbrs c = [0, 1, 2, 3].toFinset := by decide
  have e3 : ∀ c : Dev nD, c.val / 4 = 3 → nbrs c = [0, 1, 3].toFinset := by decide
  rcases hc with h | h | h | h
  · rw [bigSep_eq_bigSepL_of_eq [0, 1, 2] (e0 c h) (by decide), h3 h]
    simp only [bigSepL_cons', bigSepL_nil]; exact .rfl
  · rw [bigSep_eq_bigSepL_of_eq [0, 1, 2, 3] (e1 c (.inl h)) (by decide)]
    exact .rfl
  · rw [bigSep_eq_bigSepL_of_eq [0, 1, 2, 3] (e1 c (.inr h)) (by decide)]
    exact .rfl
  · rw [bigSep_eq_bigSepL_of_eq [0, 1, 3] (e3 c h) (by decide), h2 h]
    simp only [bigSepL_cons', bigSepL_nil]
    iintro ⟨H0, H1, H3, -⟩
    isplitl [H0]; · iexact H0
    isplitl [H1]; · iexact H1
    isplitr; · iempintro
    iexact H3

end Tables

/-! ## What a device owes, and the levels -/

/-- The column's messages of device `c` in the order it starts them. -/
def colOut (c : Dev nD) : List Msg :=
  if c.val / 4 = 0 then [.U 3, .U 2, .U 1] else if c.val / 4 = 1 then [.U 3, .U 2, .D 0]
  else if c.val / 4 = 2 then [.D 0, .D 1, .U 3] else [.D 0, .D 1, .D 2]

/-- What is owed while the listed messages are still to be started, the next first. -/
def owedL (c : Dev nD) : List Msg → CellTallies nD τ sig Unit
  | [] => 0
  | k :: ks => owedL c ks + tallyAt (rCell (k.dst c) k) () (amt k)

def owedUp (c : Dev nD) : CellTallies nD τ sig Unit := if c.val / 4 < 3 then tallyAt (barCell (up c)) () 1 else 0
def owedDn (c : Dev nD) : CellTallies nD τ sig Unit := if 0 < c.val / 4 then tallyAt (barCell (dn c)) () 1 else 0
def O₃ (c : Dev nD) : CellTallies nD τ sig Unit := owedL c (Msg.ring ++ colOut c) + owedDn c
def O₂ (c : Dev nD) : CellTallies nD τ sig Unit := O₃ c + owedUp c
def O₁ (c : Dev nD) : CellTallies nD τ sig Unit := O₂ c + tallyAt (barCell (rt c)) () 1
/-- What device `c` owes at launch: its messages' arrivals and its signals, the first to be paid last. -/
def O₀ (c : Dev nD) : CellTallies nD τ sig Unit := O₁ c + tallyAt (barCell (lt c)) () 1

def L (g : GSem nD τ sig) : Finset Unit := if g.1.2 = .tc then {()} else ∅
/-- The level of a message's arrival at device `c`: hop by hop along the ring, row by row along the column. -/
def rlv (c : Dev nD) : Msg → ℕ
  | .F h _ | .B h _ => 2 + h.val
  | .U _ => 5 + c.val / 4
  | .D _ => 5 + (3 - c.val / 4)
def lv (g : GSem nD τ sig) (_ : Unit) : ℕ :=
  match kind g.2 with
  | .bar => 1
  | .recv k => rlv g.1.1 k
  | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := by unfold lv; simp only [kind_bar]
theorem lv_r (c : Dev nD) (k : Msg) (u : Unit) : lv (rCell c k) u = rlv c k := by unfold lv; simp only [kind_r]
theorem lv_s (c : Dev nD) (k : Msg) (u : Unit) : lv (sCell c k) u = 0 := by unfold lv; simp only [kind_s]
theorem rlv_pos (c : Dev nD) (k : Msg) : 1 < rlv c k := by cases k <;> (unfold rlv; simp only; omega)

theorem tallyAt_pos {g g' : GSem nD τ sig} {n : ℕ} {u : Unit} (h : 0 < tallyAt g () n g' u) : g' = g := by
  rw [tallyAt_apply] at h
  by_contra hn
  rw [if_neg fun h' => hn h'.1] at h
  exact Nat.lt_irrefl 0 h

theorem owedL_pos {c : Dev nD} {ks : List Msg} {g : GSem nD τ sig} {u : Unit} (h : 0 < owedL c ks g u) :
    ∃ k ∈ ks, g = rCell (k.dst c) k := by
  induction ks with
  | nil => exact absurd h (Nat.lt_irrefl 0)
  | cons k ks ih =>
    unfold owedL at h
    rw [Pi.add_apply, Finsupp.add_apply] at h
    rcases Nat.eq_zero_or_pos (owedL c ks g u) with h0 | h0
    · rw [h0, Nat.zero_add] at h
      exact ⟨k, List.mem_cons_self, tallyAt_pos h⟩
    · obtain ⟨k', hk', e⟩ := ih h0
      exact ⟨k', List.mem_cons_of_mem _ hk', e⟩

/-- A wait is allowed below everything still owed. -/
theorem mayWait_msgs (c : Dev nD) (sm : SemLoc sig) (n : ℕ) (hn : lv ((c : Thread nD τ), sm) () ≤ n) (ks : List Msg)
    (h : ∀ k ∈ ks, n < rlv (k.dst c) k) : (levAts L lv : sProp 𝕄) ⊢ MayWait (c : Thread nD τ) sm () (owedL c ks) :=
  MayOwe.of_cut (L := L) (lev := lv) n (fun p hp => by rw [Finset.mem_singleton.mp hp, L_tc]; exact Finset.mem_singleton_self _)
    (fun g u hg => by obtain ⟨k, -, rfl⟩ := owedL_pos hg; rw [L_tc]; exact Finset.mem_singleton_self _)
    (fun p hp => by rw [Finset.mem_singleton.mp hp]; exact hn)
    (fun g u hg => by obtain ⟨k, hk, rfl⟩ := owedL_pos hg; rw [lv_r]; exact h k hk)

theorem O₀_pos {c : Dev nD} {g : GSem nD τ sig} {u : Unit} (h : 0 < O₀ c g u) : g.1.2 = .tc ∧ 0 < lv g u := by
  have hb : ∀ {d : Dev nD} {n}, 0 < tallyAt (barCell d) () n g u → g.1.2 = .tc ∧ 0 < lv g u := fun h' => by
    rw [tallyAt_pos h', lv_bar]; exact ⟨rfl, Nat.one_pos⟩
  have hu : 0 < owedUp c g u → g.1.2 = .tc ∧ 0 < lv g u := fun h' => by
    unfold owedUp at h'; split at h'
    · exact hb h'
    · exact absurd h' (Nat.lt_irrefl 0)
  have hd : 0 < owedDn c g u → g.1.2 = .tc ∧ 0 < lv g u := fun h' => by
    unfold owedDn at h'; split at h'
    · exact hb h'
    · exact absurd h' (Nat.lt_irrefl 0)
  have hl : 0 < owedL c (Msg.ring ++ colOut c) g u → g.1.2 = .tc ∧ 0 < lv g u := fun h' => by
    obtain ⟨k, -, rfl⟩ := owedL_pos h'
    rw [lv_r]; exact ⟨rfl, lt_of_lt_of_le Nat.one_pos (le_of_lt (rlv_pos _ k))⟩
  unfold O₀ O₁ O₂ O₃ at h
  rw [Pi.add_apply, Finsupp.add_apply, Pi.add_apply, Finsupp.add_apply, Pi.add_apply, Finsupp.add_apply, Pi.add_apply, Finsupp.add_apply] at h
  by_contra hn
  have z1 := Nat.eq_zero_of_not_pos fun h' => hn (hl h')
  have z2 := Nat.eq_zero_of_not_pos fun h' => hn (hd h')
  have z3 := Nat.eq_zero_of_not_pos fun h' => hn (hu h')
  have z4 := Nat.eq_zero_of_not_pos fun h' => hn (hb (d := rt c) (n := 1) h')
  have z5 := Nat.eq_zero_of_not_pos fun h' => hn (hb (d := lt c) (n := 1) h')
  rw [z1, z2, z3, z4, z5] at h
  exact Nat.lt_irrefl 0 h

/-- A wait at level zero is allowed whatever is owed at launch, and after it. -/
theorem mayWait_zero (c : Dev nD) (sm : SemLoc sig) (hsm : lv ((c : Thread nD τ), sm) () = 0) (O : CellTallies nD τ sig Unit)
    (hO : O = O₀ c ∨ O = 0) : (levAts L lv : sProp 𝕄) ⊢ MayWait (c : Thread nD τ) sm () O := by
  rcases hO with rfl | rfl
  · refine MayOwe.of_cut (L := L) (lev := lv) 0 (fun p hp => by rw [Finset.mem_singleton.mp hp, L_tc]; exact Finset.mem_singleton_self _)
      (fun g u hg => by unfold L; rw [if_pos (O₀_pos hg).1]; exact Finset.mem_singleton_self _)
      (fun p hp => by rw [Finset.mem_singleton.mp hp]; exact le_of_eq hsm)
      (fun g u hg => (O₀_pos hg).2)
  · rw [MayWait_zero]; iintro -; iempintro

end Cert.KernelIdeal.Ring
-- ==== Proof.KernelIdeal.Steps.lean ====
/- One lemma per kind of step: starting a message, awaiting one, awaiting a start's completion, loading and storing a slot. -/
module

public import proofs.«01_k».proof.Proof.KernelIdeal.Sched

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-- The body's run on device `c`. -/
abbrev run (c : Dev nD) {α : Type} (P : Prog (TpuEff nD τ sig (Elt F) Λ₀ .tc) α) (Q : α → sProp 𝕄) : sProp 𝕄 :=
  wp frame (wpE (defs₀ (F := F)) 𝒱₀ (c : Thread nD τ) none) Set.univ P Q

/-! ## What every device knows -/

/-- The semaphore of a cell's number: `none` the barrier's, `some j` the kernel's own number `j`. -/
def csem : Option (Fin 40) → SemLoc sig
  | none => .reg barS
  | some j => osem j
abbrev kcell (ck : Dev nD × Option (Fin 40)) : GSem nD τ sig := ((ck.1 : Thread nD τ), csem ck.2)

/-- Every cell's invariant, that round 0 is reached, and the levels. -/
def recs : sProp 𝕄 := iprop(
  (bigSep (Finset.univ : Finset (Dev nD × Option (Fin 40))) fun ck => iprop(∃ κ, cellInv ER (Rd m ρ) κ (kcell ck)))
  ∗ (bigSep (Finset.univ : Finset (Dev nD × Option (Fin 40))) fun ck => reached ER (kcell ck) 0)
  ∗ levAts L lv)

instance recs_persistent : BI.Persistent (recs (F := F) m ρ) := by
  unfold recs
  infer_instance

theorem recs_cell (ck : Dev nD × Option (Fin 40)) :
    recs (F := F) m ρ ⊢ iprop((∃ κ, cellInv ER (Rd m ρ) κ (kcell ck)) ∗ reached ER (kcell ck) 0) := by
  have h1 : (bigSep (Finset.univ : Finset (Dev nD × Option (Fin 40))) fun ck => iprop(∃ κ, cellInv ER (Rd (F := F) m ρ) κ (kcell ck)))
      ⊢ iprop(∃ κ, cellInv ER (Rd (F := F) m ρ) κ (kcell ck)) := bigSep_elim (Finset.mem_univ ck)
  have h2 : (bigSep (Finset.univ : Finset (Dev nD × Option (Fin 40))) fun ck => (reached ER (kcell ck) 0 : sProp 𝕄)) ⊢ reached ER (kcell ck) 0 :=
    bigSep_elim (Finset.mem_univ ck)
  unfold recs
  iintro ⟨HI, HR, -⟩
  isplitl [HI]
  · iapply h1; iexact HI
  · iapply h2; iexact HR
theorem recs_lev : recs (F := F) m ρ ⊢ levAts L lv := by unfold recs; iintro ⟨-, -, H⟩; iexact H

/-! ## A message's permissions -/

/-- To start message `k`: the duty at both its cells, and the sender's place at its send cell. -/
def sendKit (c : Dev nD) (k : Msg) : sProp 𝕄 :=
  iprop(dutyTok ER (sCell c k) 0 0 ∗ dutyTok ER (rCell (k.dst c) k) 0 0 ∗ atPos ER (sCell c k) 0 ∅ 0)
/-- Started: the units its completion will bring. -/
def sentKit (c : Dev nD) (k : Msg) : sProp 𝕄 :=
  iprop(cred (tallyAt (sCell c k) () (amt k)) ∗ atPos ER (sCell c k) 0 ∅ 0)
/-- To await it: the units its arrival will bring. -/
def recvKit (c : Dev nD) (k : Msg) : sProp 𝕄 :=
  iprop(cred (tallyAt (rCell c k) () (amt k)) ∗ atPos ER (rCell c k) 0 ∅ 0)
/-- What is owed while `ks` are still to be started. -/
def oweL (c : Dev nD) (ks : List Msg) : sProp 𝕄 := iprop(∃ W, owes (c : Thread nD τ) (owedL c ks) W)
/-- The semaphores done with. -/
def zs (c : Dev nD) (l : List (Fin 40)) : sProp 𝕄 := bigSepL l fun j => semVal ((c : Thread nD τ), osem j) 0

omit [FloatOps F] in
theorem zs_cons (c : Dev nD) (j : Fin 40) (l : List (Fin 40)) :
    zs (F := F) c (j :: l) = iprop(semVal ((c : Thread nD τ), osem j) 0 ∗ zs c l) := bigSepL_cons' ..

omit [FloatOps F] in
theorem holds_open (c : Dev nD) {s : Shape} {e : EltTy} (M : Memref sig .tc .vmem s e) (X : s.Idx → Elt F e) :
    (holds c M X : sProp 𝕄)
      ⊢ iprop(∃ f, ⌜M.view.read (Elt F) f = X⌝ ∗ M.view.loc (c : Thread nD τ) ↦[M.view.set]{fullShare} f) := .rfl
omit [FloatOps F] in
theorem holds_close (c : Dev nD) {s : Shape} {e : EltTy} (M : Memref sig .tc .vmem s e) {f : M.view.ty.Contents (Elt F)} {X : s.Idx → Elt F e}
    (hf : M.view.read (Elt F) f = X) :
    (M.view.loc (c : Thread nD τ) ↦[M.view.set]{fullShare} f : sProp 𝕄) ⊢ holds c M X := by
  unfold holds owns; iintro H; iexists f; isplitr; · ipureintro; exact hf
  iexact H

/-- Start message `k`, the next owed: the slot and the peer's slot go with it. -/
theorem step_send {c n : Dev nD} {k : Msg} {s : Shape} {e : EltTy}
    {src : Memref sig .tc .vmem s e} {dst : Memref sig .tc .vmem s e} {qs qr : DmaSem sig} {hsc hsrc hdst hsem}
    {α : Type} {Q : α → sProp 𝕄} {kk : PUnit → Prog (TpuEff nD τ sig (Elt F) Λ₀ .tc) α} {V : s.Idx → Elt F e} {Y : sProp 𝕄}
    (ks ks₁ ks₂ l : List Msg)
    (hn : n = k.dst c) (hk : k.sends c = true) (hqs : qs = dsem k.sIx) (hqr : qr = dsem k.rIx) (hN : dst.view.dmaCredit = amt k)
    (hY : Y ⊢ (holds c src V : sProp 𝕄))
    (hl : landing (F := F) (k.dst c) k ⊢ iprop(∃ X : s.Idx → Elt F e, holds (k.dst c) dst X))
    (hps : (holds c src V : sProp 𝕄) ⊢ sendPay c k) (hpr : (holds (k.dst c) dst V : sProp 𝕄) ⊢ recvPay m ρ (k.dst c) k) :
    iprop(recs m ρ ∗ Y ∗ bigSepL (k :: ks₂) (fun k => landing (F := F) (k.dst c) k) ∗ bigSepL (k :: ks₁) (sendKit c) ∗ oweL c (k :: ks)
      ∗ bigSepL l (sentKit c))
    ⊢ iprop((bigSepL ks₂ (fun k => landing (F := F) (k.dst c) k) ∗ bigSepL ks₁ (sendKit c) ∗ oweL c ks ∗ bigSepL (k :: l) (sentKit c) -∗ run c (kk ⟨⟩) Q)
      -∗ run c (.op (.enqueueDma src (.remote (Dev.tc n : Thread nD τ) dst (.dma qs) hsc) (.dma qr) hsrc hdst hsem) kk) Q) := by
  subst hn hqs hqr
  rw [bigSepL_cons', bigSepL_cons']
  iintro ⟨#HR, HY, ⟨HL, HLs⟩, ⟨HK, HKs⟩, HO, HS⟩
  iintro Hk
  ihave HV := hY $$ HY
  ihave HL := hl $$ HL
  icases HL with ⟨%X, HL⟩
  ihave HL := (holds_open _ _ _) $$ HL
  icases HL with ⟨%g, -, HL⟩
  ihave HV := (holds_open _ _ _) $$ HV
  icases HV with ⟨%f, %hf, HV⟩
  unfold sendKit
  icases HK with ⟨Ht1, Ht2, Hp⟩
  unfold oweL
  icases HO with ⟨%W, HO⟩
  ihave HR1 := (recs_cell m ρ (c, some k.sIx)) $$ HR
  icases HR1 with ⟨⟨%κ₁, HI1⟩, Hr1⟩
  ihave HR2 := (recs_cell m ρ (k.dst c, some k.rIx)) $$ HR
  icases HR2 with ⟨⟨%κ₂, HI2⟩, Hr2⟩
  have hr : k.recvs (k.dst c) = true := by unfold Msg.recvs; rw [Msg.src_dst]; exact hk
  iapply (Rounds.wp_send_pointsTo 𝒱₀ ER (Rd m ρ) (c : Thread nD τ) none (κ₁ := κ₁) (κ₂ := κ₂) (r₁ := 0) (r₂ := 0) (d₁ := 0) (d₂ := 0) (q := fullShare)
    (fs := f) (fd := g)
    (by rw [duties_s m ρ c k hk]; exact Finset.mem_singleton_self _) (by rw [duties_r m ρ _ k hr]; exact Finset.mem_singleton_self _)
    () () (amt k) (show dst.view.amount (.dma (dsem k.rIx)) = amt k from hN) (amount_s m ρ c k 0) (amount_r m ρ _ k 0) (owedL c ks) rfl
    (by rw [payload_s]; exact Laws.entails_trans (holds_close c src hf) hps)
    (by rw [payload_r]; exact Laws.entails_trans (holds_close _ dst ((View.read_write_univ _ _).trans hf)) hpr)) $$ [HI1 HI2 HV HL HO Ht1 Hr1 Ht2 Hr2]
  · isplitl [HI1]; · iexact HI1
    isplitl [HI2]; · iexact HI2
    isplitl [HV]; · iexact HV
    isplitl [HL]; · iexact HL
    isplitl [HO]; · iexact HO
    isplitl [Ht1]; · iexact Ht1
    isplitl [Hr1]; · iexact Hr1
    isplitl [Ht2]; · iexact Ht2
    iexact Hr2
  iintro ⟨Hc, HO⟩
  iapply Hk
  isplitl [HLs]; · iexact HLs
  isplitl [HKs]; · iexact HKs
  isplitl [HO]
  · iexists W; iexact HO
  rw [bigSepL_cons']
  isplitr [HS]
  · unfold sentKit
    isplitl [Hc]; · iexact Hc
    iexact Hp
  iexact HS

/-- A cell past its last round is closed, its counter zero. -/
theorem close_cell (c : Dev nD) (j : Fin 40) {R : ℕ} (hR : ∀ r, R ≤ r → (Rd (F := F) m ρ).duties ((c : Thread nD τ), osem j) r = ∅) :
    iprop(recs m ρ ∗ atPos ER ((c : Thread nD τ), osem j) R ∅ 0) ⊢ iprop(|={Set.univ}=> semVal ((c : Thread nD τ), osem j) 0) := by
  iintro ⟨#HR, Hp⟩
  ihave HR1 := (recs_cell m ρ (c, some j)) $$ HR
  icases HR1 with ⟨⟨%κ₁, HI1⟩, Hr1⟩
  iapply (Rounds.cell_close ER (Rd (F := F) m ρ) (κ := κ₁) (Set.mem_univ _) (fun h : False => h) hR) $$ [HI1 Hp]
  isplitl [HI1]; · iexact HI1
  iexact Hp

/-- Await message `k`'s arrival, the next: its slot comes with it, and its semaphore is done with. -/
theorem step_recv {c : Dev nD} {k : Msg} {sp sp' : Space} {s s' : Shape} {e e' : EltTy} {κ' : Idealize.ShloMosaic.Kind}
    {src : Memref sig .tc sp' s' e'} {dst : Memref sig κ' sp s e} {q : DmaSem sig} {hsrc hdst}
    {α : Type} {Q : α → sProp 𝕄} {kk : PUnit → Prog (TpuEff nD τ sig (Elt F) Λ₀ .tc) α}
    (ks ks₁ : List Msg) (l : List (Fin 40))
    (hk : k.recvs c = true) (hq : q = dsem k.rIx) (hN : dst.view.dmaCredit = amt k)
    (hlev : ∀ k' ∈ ks, rlv c k < rlv (k'.dst c) k') :
    iprop(recs m ρ ∗ bigSepL (k :: ks₁) (recvKit c) ∗ oweL c ks ∗ zs c l)
    ⊢ iprop((recvPay m ρ c k ∗ bigSepL ks₁ (recvKit c) ∗ oweL c ks ∗ zs c (k.rIx :: l) -∗ run c (kk ⟨⟩) Q)
      -∗ run c (.op (.waitDma2 q src dst hsrc hdst) kk) Q) := by
  subst hq
  rw [bigSepL_cons']
  iintro ⟨#HR, ⟨HK, HKs⟩, HO, HZ⟩
  iintro Hk
  unfold recvKit oweL
  icases HK with ⟨Hc, Hp⟩
  icases HO with ⟨%W, HO⟩
  ihave HR1 := (recs_cell m ρ (c, some k.rIx)) $$ HR
  icases HR1 with ⟨⟨%κ₁, HI1⟩, Hr1⟩
  ihave HM := ((recs_lev m ρ).trans (mayWait_msgs (F := F) c (osem k.rIx) (rlv c k) (le_of_eq (lv_r c k ())) ks hlev)) $$ HR
  iapply (Rounds.wp_wait_rest_token 𝒱₀ ER (Rd m ρ) (c : Thread nD τ) none (κ := κ₁) (hw := wpE_waitDma2_eq 𝒱₀ (c : Thread nD τ) none Set.univ)
    (Set.mem_univ _) () (O := owedL c ks) (W := W) (R := 0) (m := 0) (T := ∅)
    (by rw [Nat.zero_add, hN]; exact (expect_r m ρ c k hk).symm)) $$ [HI1 Hc HO HM Hp]
  · isplitl [HI1]; · iexact HI1
    isplitl [Hc]; · rw [hN]; iexact Hc
    isplitl [HO]; · iexact HO
    isplitl [HM]; · iexact HM
    iexact Hp
  rw [rest_r m ρ c k hk]
  iintro ⟨HO, Hp, -, HP⟩
  ihave HZ1 := (close_cell m ρ c k.rIx (R := 1) (duties_later m ρ _)) $$ [Hp]
  · isplitr; · iexact HR
    iexact Hp
  imod HZ1
  iapply Hk
  isplitl [HP]; · iexact HP
  isplitl [HKs]; · iexact HKs
  isplitl [HO]; · iexists _; iexact HO
  rw [zs_cons]
  isplitl [HZ1]; · iexact HZ1
  iexact HZ

/-- Await the completion of message `k`'s start: the slot it was sent from is back, and its semaphore is done with. -/
theorem step_done {c : Dev nD} {k : Msg} {sp sp' : Space} {s s' : Shape} {e e' : EltTy} {κ' : Idealize.ShloMosaic.Kind}
    {src : Memref sig .tc sp' s' e'} {dst : Memref sig κ' sp s e} {q : DmaSem sig} {hsrc hdst}
    {α : Type} {Q : α → sProp 𝕄} {kk : PUnit → Prog (TpuEff nD τ sig (Elt F) Λ₀ .tc) α}
    (ks ks₁ l₁ : List Msg) (l : List (Fin 40))
    (hk : k.sends c = true) (hq : q = dsem k.sIx) (hN : dst.view.dmaCredit = amt k) (hks : ∀ k' ∈ ks, 1 < rlv (k'.dst c) k') :
    iprop(recs m ρ ∗ bigSepL (k :: ks₁) (sentKit c) ∗ oweL c ks ∗ zs c l ∗ bigSepL l₁ (sendPay c))
    ⊢ iprop((bigSepL ks₁ (sentKit c) ∗ oweL c ks ∗ zs c (k.sIx :: l) ∗ bigSepL (k :: l₁) (sendPay c) -∗ run c (kk ⟨⟩) Q)
      -∗ run c (.op (.waitDma2 q src dst hsrc hdst) kk) Q) := by
  subst hq
  rw [bigSepL_cons']
  iintro ⟨#HR, ⟨HK, HKs⟩, HO, HZ, HB⟩
  iintro Hk
  unfold sentKit oweL
  icases HK with ⟨Hc, Hp⟩
  icases HO with ⟨%W, HO⟩
  ihave HR1 := (recs_cell m ρ (c, some k.sIx)) $$ HR
  icases HR1 with ⟨⟨%κ₁, HI1⟩, Hr1⟩
  ihave HM := ((recs_lev m ρ).trans (mayWait_msgs (F := F) c (osem k.sIx) 1 (by rw [lv_s]; exact Nat.zero_le _) ks hks)) $$ HR
  iapply (Rounds.wp_wait_rest_token 𝒱₀ ER (Rd m ρ) (c : Thread nD τ) none (κ := κ₁) (hw := wpE_waitDma2_eq 𝒱₀ (c : Thread nD τ) none Set.univ)
    (Set.mem_univ _) () (O := owedL c ks) (W := W) (R := 0) (m := 0) (T := ∅)
    (by rw [Nat.zero_add, hN]; exact (expect_s m ρ c k hk).symm)) $$ [HI1 Hc HO HM Hp]
  · isplitl [HI1]; · iexact HI1
    isplitl [Hc]; · rw [hN]; iexact Hc
    isplitl [HO]; · iexact HO
    isplitl [HM]; · iexact HM
    iexact Hp
  rw [rest_s m ρ c k hk]
  iintro ⟨HO, Hp, -, HP⟩
  ihave HZ1 := (close_cell m ρ c k.sIx (R := 1) (duties_later m ρ _)) $$ [Hp]
  · isplitr; · iexact HR
    iexact Hp
  imod HZ1
  iapply Hk
  isplitl [HKs]; · iexact HKs
  isplitl [HO]; · iexists _; iexact HO
  isplitl [HZ1 HZ]
  · rw [zs_cons]
    isplitl [HZ1]; · iexact HZ1
    iexact HZ
  rw [bigSepL_cons']
  isplitl [HP]; · iexact HP
  iexact HB

/-! ## Loads and stores of a slot -/

/-- A load of a slot's rectangle reads what the slot holds. -/
theorem step_load_slot {c : Dev nD} {s s' : Shape} {e : EltTy} {M : Memref sig .tc .vmem s e} {r : Rect s} {hr : ∀ a, r.stride a = 1}
    {hq : r.shape.Squeezes s'} {V : s'.Idx → Elt F e} {hl} {α : Type} {Q : α → sProp 𝕄}
    {kk : (r.shape.Idx → Elt F e) → Prog (TpuEff nD τ sig (Elt F) Λ₀ .tc) α}
    (hc : r.shape.ShapeCasts s') (hc' : s'.ShapeCasts r.shape) :
    holds c ((M.slice r hr).squeeze s' hq) V
    ⊢ iprop((holds c ((M.slice r hr).squeeze s' hq) V -∗ run c (kk (shapeCast r.shape V hc')) Q)
      -∗ run c (.op (.load M r.toLoadRect hl) kk) Q) := by
  iintro H
  ihave H := (holds_open _ _ _) $$ H
  icases H with ⟨%f, %hf, H⟩
  iintro Hk
  iapply (wp_load 𝒱₀ (c : Thread nD τ) none Set.univ (m := M) (r := r.toLoadRect) (q := fullShare) (f := f)
    (S := ((M.slice r hr).squeeze s' hq).view.set)
    (by exact (subset_of_eq (View.set_slice M.view r).symm).trans (subset_of_eq (View.set_reshape (M.view.slice r) hq.numel_eq).symm))) $$ H
  iintro H
  have e : M.view.readAt (Elt F) r.toLoadRect f = shapeCast r.shape V hc' := by
    rw [← hf, Memref.read_squeeze_slice M r hr hq hc f, shapeCast_shapeCast]
  rw [e]
  iapply Hk
  iapply (holds_close c _ hf); iexact H

/-- A store over a slot's rectangle leaves the slot at what was stored. -/
theorem step_store_slot {c : Dev nD} {s s' : Shape} {e : EltTy} {M : Memref sig .tc .vmem s e} {r : Rect s} {hr : ∀ a, r.stride a = 1}
    {hq : r.shape.Squeezes s'} {V : s'.Idx → Elt F e} {w : r.shape.Idx → Elt F e} {hx hm} {α : Type} {Q : α → sProp 𝕄}
    {kk : PUnit → Prog (TpuEff nD τ sig (Elt F) Λ₀ .tc) α} (X : s'.Idx → Elt F e)
    (hc : r.shape.ShapeCasts s') (hX : shapeCast s' w hc = X) :
    holds c ((M.slice r hr).squeeze s' hq) V
    ⊢ iprop((holds c ((M.slice r hr).squeeze s' hq) X -∗ run c (kk ⟨⟩) Q)
      -∗ run c (.op (.store M r w Finset.univ hx hm) kk) Q) := by
  iintro H
  ihave H := (holds_open _ _ _) $$ H
  icases H with ⟨%f, %hf, H⟩
  iintro Hk
  iapply (wp_store 𝒱₀ (c : Thread nD τ) none Set.univ (m := M) (r := r) (w := w) (f := f)
    (S := ((M.slice r hr).squeeze s' hq).view.set)
    (by exact (View.setOn_subset_set _ _).trans (subset_of_eq (View.set_reshape (M.view.slice r) hq.numel_eq).symm))) $$ H
  iintro H
  iapply Hk
  have e : ((M.slice r hr).squeeze s' hq).view.read (Elt F) ((M.access r).write (Elt F) f w Finset.univ) = X := by
    rw [Memref.read_squeeze_slice M r hr hq hc, ← hX, View.readAt_rect]
    exact congrArg (fun v => shapeCast s' v hc) (View.read_write_univ _ _)
  iapply (holds_close c _ e); iexact H

end Cert.KernelIdeal.Ring
-- ==== Proof.KernelIdeal.Core.lean ====
/- The body's traffic as one state, and the steps over it. -/
module

public import proofs.«01_k».proof.Proof.KernelIdeal.Steps

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What the body carries -/

/-- The column's messages in the order a device awaits them. -/
def colIn (c : Dev nD) : List Msg :=
  if c.val / 4 = 0 then [.D 0] else if c.val / 4 = 1 then [.U 3, .U 2, .D 0, .U 1, .D 1]
  else if c.val / 4 = 2 then [.D 0, .D 1, .U 3, .U 2, .D 2] else [.U 3]

/-- Message `k` may be started: the peer's slot and the permissions. -/
def toSend (c : Dev nD) (k : Msg) : sProp 𝕄 := iprop(landing (k.dst c) k ∗ sendKit c k)

/-- The state of the traffic: `ks` still to be started, `rs` still to be awaited, `ss` started, `l` the semaphores done with,
    `bs` the starts completed, whose slots are back. -/
def core (c : Dev nD) (ks rs ss : List Msg) (l : List (Fin 40)) (bs : List Msg) : sProp 𝕄 := iprop(
  recs m ρ ∗ bigSepL ks (toSend c) ∗ oweL c ks ∗ bigSepL rs (recvKit c) ∗ bigSepL ss (sentKit c) ∗ zs c l ∗ bigSepL bs (sendPay c))

/-- Start the next message. -/
theorem core_send {c n : Dev nD} {k : Msg} {s : Shape} {e : EltTy}
    {src : Memref sig .tc .vmem s e} {dst : Memref sig .tc .vmem s e} {qs qr : DmaSem sig} {hsc hsrc hdst hsem}
    {α : Type} {Q : α → sProp 𝕄} {kk : PUnit → Prog (TpuEff nD τ sig (Elt F) Λ₀ .tc) α} {V : s.Idx → Elt F e}
    {ks rs ss : List Msg} {l : List (Fin 40)} {bs : List Msg}
    (hn : n = k.dst c) (hk : k.sends c = true) (hqs : qs = dsem k.sIx) (hqr : qr = dsem k.rIx) (hN : dst.view.dmaCredit = amt k)
    (hl : landing (F := F) (k.dst c) k ⊢ iprop(∃ X : s.Idx → Elt F e, holds (k.dst c) dst X))
    (hps : (holds c src V : sProp 𝕄) ⊢ sendPay c k) (hpr : (holds (k.dst c) dst V : sProp 𝕄) ⊢ recvPay m ρ (k.dst c) k) :
    iprop(core m ρ c (k :: ks) rs ss l bs ∗ holds c src V)
    ⊢ iprop((core m ρ c ks rs (k :: ss) l bs -∗ run c (kk ⟨⟩) Q)
      -∗ run c (.op (.enqueueDma src (.remote (Dev.tc n : Thread nD τ) dst (.dma qs) hsc) (.dma qr) hsrc hdst hsem) kk) Q) := by
  have e1 : bigSepL (k :: ks) (toSend (F := F) c)
      ⊢ iprop(bigSepL [k] (fun k => landing (F := F) (k.dst c) k) ∗ bigSepL [k] (sendKit c) ∗ bigSepL ks (toSend c)) := by
    rw [bigSepL_cons']; unfold toSend; rw [bigSepL_singleton, bigSepL_singleton]
    iintro ⟨⟨H1, H2⟩, H3⟩
    isplitl [H1]; · iexact H1
    isplitl [H2]; · iexact H2
    iexact H3
  unfold core
  iintro ⟨⟨#HR, HT, HO, HV, HS, HZ, HB⟩, HY⟩
  iintro Hk
  ihave HT := e1 $$ HT
  icases HT with ⟨HL, HK, HT⟩
  iapply (step_send m ρ (Q := Q) ks [] [] ss hn hk hqs hqr hN (Y := holds c src V) .rfl hl hps hpr) $$ [HY HL HK HO HS]
  · isplitr; · iexact HR
    isplitl [HY]; · iexact HY
    isplitl [HL]; · iexact HL
    isplitl [HK]; · iexact HK
    isplitl [HO]; · iexact HO
    iexact HS
  iintro ⟨-, -, HO, HS⟩
  iapply Hk
  isplitr; · iexact HR
  isplitl [HT]; · iexact HT
  isplitl [HO]; · iexact HO
  isplitl [HV]; · iexact HV
  isplitl [HS]; · iexact HS
  isplitl [HZ]; · iexact HZ
  iexact HB

/-- Await the next message. -/
theorem core_recv {c : Dev nD} {k : Msg} {sp sp' : Space} {s s' : Shape} {e e' : EltTy} {κ' : Idealize.ShloMosaic.Kind}
    {src : Memref sig .tc sp' s' e'} {dst : Memref sig κ' sp s e} {q : DmaSem sig} {hsrc hdst}
    {α : Type} {Q : α → sProp 𝕄} {kk : PUnit → Prog (TpuEff nD τ sig (Elt F) Λ₀ .tc) α}
    {ks rs ss : List Msg} {l : List (Fin 40)} {bs : List Msg}
    (hk : k.recvs c = true) (hq : q = dsem k.rIx) (hN : dst.view.dmaCredit = amt k)
    (hlev : ∀ k' ∈ ks, rlv c k < rlv (k'.dst c) k') :
    core m ρ c ks (k :: rs) ss l bs
    ⊢ iprop((core m ρ c ks rs ss (k.rIx :: l) bs ∗ recvPay m ρ c k -∗ run c (kk ⟨⟩) Q)
      -∗ run c (.op (.waitDma2 q src dst hsrc hdst) kk) Q) := by
  unfold core
  iintro ⟨#HR, HT, HO, HV, HS, HZ, HB⟩
  iintro Hk
  iapply (step_recv m ρ (Q := Q) ks rs l hk hq hN hlev) $$ [HV HO HZ]
  · isplitr; · iexact HR
    isplitl [HV]; · iexact HV
    isplitl [HO]; · iexact HO
    iexact HZ
  iintro ⟨HP, HV, HO, HZ⟩
  iapply Hk
  isplitr [HP]
  · isplitr; · iexact HR
    isplitl [HT]; · iexact HT
    isplitl [HO]; · iexact HO
    isplitl [HV]; · iexact HV
    isplitl [HS]; · iexact HS
    isplitl [HZ]; · iexact HZ
    iexact HB
  iexact HP

/-- Await the next start's completion, all messages started. -/
theorem core_done {c : Dev nD} {k : Msg} {sp sp' : Space} {s s' : Shape} {e e' : EltTy} {κ' : Idealize.ShloMosaic.Kind}
    {src : Memref sig .tc sp' s' e'} {dst : Memref sig κ' sp s e} {q : DmaSem sig} {hsrc hdst}
    {α : Type} {Q : α → sProp 𝕄} {kk : PUnit → Prog (TpuEff nD τ sig (Elt F) Λ₀ .tc) α}
    {rs ss : List Msg} {l : List (Fin 40)} {bs : List Msg}
    (hk : k.sends c = true) (hq : q = dsem k.sIx) (hN : dst.view.dmaCredit = amt k) :
    core m ρ c [] rs (k :: ss) l bs
    ⊢ iprop((core m ρ c [] rs ss (k.sIx :: l) (k :: bs) -∗ run c (kk ⟨⟩) Q)
      -∗ run c (.op (.waitDma2 q src dst hsrc hdst) kk) Q) := by
  unfold core
  iintro ⟨#HR, HT, HO, HV, HS, HZ, HB⟩
  iintro Hk
  iapply (step_done m ρ (Q := Q) [] ss bs l hk hq hN (fun k' h => absurd h List.not_mem_nil)) $$ [HS HO HZ HB]
  · isplitr; · iexact HR
    isplitl [HS]; · iexact HS
    isplitl [HO]; · iexact HO
    isplitl [HZ]; · iexact HZ
    iexact HB
  iintro ⟨HS, HO, HZ, HB⟩
  iapply Hk
  isplitr; · iexact HR
  isplitl [HT]; · iexact HT
  isplitl [HO]; · iexact HO
  isplitl [HV]; · iexact HV
  isplitl [HS]; · iexact HS
  isplitl [HZ]; · iexact HZ
  iexact HB

/-- The starts may be awaited in any order. -/
theorem core_perm {c : Dev nD} {ks rs ss ss' : List Msg} {l : List (Fin 40)} {bs : List Msg} (h : ss.Perm ss') (hn : ss.Nodup) :
    core m ρ c ks rs ss l bs ⊢ core m ρ c ks rs ss' l bs := by
  unfold core
  rw [TalkSites.bigSepL_perm h hn]

/-! ## The ring's messages -/

theorem amt_ring (M : Memref sig .tc .vmem S4x2x128x512 .bf16) (h : Fin 4) (s : Fin 2) (hM : M = fM ∨ M = bM) :
    (ringSlot M h s).view.dmaCredit = (ringSlot fM 0 0).view.dmaCredit := by
  rcases hM with rfl | rfl <;> rfl
theorem amt_col (M : Memref sig .tc .vmem S4x64x1024 .bf16) (d : Fin 4) (hM : M = uM ∨ M = dM) :
    (colSlot M d).view.dmaCredit = (colSlot uM 0).view.dmaCredit := by
  rcases hM with rfl | rfl <;> rfl

omit [FloatOps F] in
theorem holds_any (c : Dev nD) {s : Shape} {e : EltTy} (M : Memref sig .tc .vmem s e) (X : s.Idx → Elt F e) :
    (holds c M X : sProp 𝕄) ⊢ iprop(∃ X, holds c M X) := by iintro H; iexists X; iexact H

section Ring
variable {c n : Dev nD} {qs qr : DmaSem sig} {ks rs ss : List Msg} {l : List (Fin 40)} {bs : List Msg}

/-- Start message `F h s`, its slot stored. -/
theorem send_F (h : Fin 3) (s : Fin 2) {src dst : Memref sig .tc .vmem S128x512 .bf16} {hsc hsrc hdst hsem}
    {α : Type} {Q : α → sProp 𝕄} {kk : PUnit → Prog (TpuEff nD τ sig (Elt F) Λ₀ .tc) α}
    (hn : n = rt c) (hqs : qs = dsem (Msg.F h s).sIx) (hqr : qr = dsem (Msg.F h s).rIx)
    (hs : src = ringSlot fM h.castSucc s) (hd : dst = ringSlot fM h.succ s) :
    iprop(core m ρ c (.F h s :: ks) rs ss l bs ∗ holds c (ringSlot fM h.castSucc s) (vF m ρ h.val s c))
    ⊢ iprop((core m ρ c ks rs (.F h s :: ss) l bs -∗ run c (kk ⟨⟩) Q)
      -∗ run c (.op (.enqueueDma src (.remote (Dev.tc n : Thread nD τ) dst (.dma qs) hsc) (.dma qr) hsrc hdst hsem) kk) Q) := by
  subst hs hd
  exact core_send m ρ (k := .F h s) hn rfl hqs hqr (amt_ring fM _ s (.inl rfl)) .rfl (holds_any _ _ _) (by
    show _ ⊢ holds (rt c) (ringSlot fM h.succ s) (vF m ρ h.val s (lt (rt c)) : Vec F _ .bf16); rw [lt_rt]; exact .rfl)
/-- Start message `B h s`, its slot stored. -/
theorem send_B (h : Fin 3) (s : Fin 2) {src dst : Memref sig .tc .vmem S128x512 .bf16} {hsc hsrc hdst hsem}
    {α : Type} {Q : α → sProp 𝕄} {kk : PUnit → Prog (TpuEff nD τ sig (Elt F) Λ₀ .tc) α}
    (hn : n = lt c) (hqs : qs = dsem (Msg.B h s).sIx) (hqr : qr = dsem (Msg.B h s).rIx)
    (hs : src = ringSlot bM h.castSucc s) (hd : dst = ringSlot bM h.succ s) :
    iprop(core m ρ c (.B h s :: ks) rs ss l bs ∗ holds c (ringSlot bM h.castSucc s) (vB m ρ h.val s c))
    ⊢ iprop((core m ρ c ks rs (.B h s :: ss) l bs -∗ run c (kk ⟨⟩) Q)
      -∗ run c (.op (.enqueueDma src (.remote (Dev.tc n : Thread nD τ) dst (.dma qs) hsc) (.dma qr) hsrc hdst hsem) kk) Q) := by
  subst hs hd
  exact core_send m ρ (k := .B h s) hn rfl hqs hqr (amt_ring bM _ s (.inr rfl)) .rfl (holds_any _ _ _) (by
    show _ ⊢ holds (lt c) (ringSlot bM h.succ s) (vB m ρ h.val s (rt (lt c)) : Vec F _ .bf16); rw [rt_lt]; exact .rfl)
/-- Start message `U d`, its slot stored. -/
theorem send_U (d : Fin 4) {src dst : Memref sig .tc .vmem S64x1024 .bf16} {hsc hsrc hdst hsem}
    {α : Type} {Q : α → sProp 𝕄} {kk : PUnit → Prog (TpuEff nD τ sig (Elt F) Λ₀ .tc) α}
    (hn : n = up c) (hk : (Msg.U d).sends c = true) (hqs : qs = dsem (Msg.U d).sIx) (hqr : qr = dsem (Msg.U d).rIx)
    (hs : src = colSlot uM d) (hd : dst = colSlot uM d) :
    iprop(core m ρ c (.U d :: ks) rs ss l bs ∗ holds c (colSlot uM d) (vU m ρ c d))
    ⊢ iprop((core m ρ c ks rs (.U d :: ss) l bs -∗ run c (kk ⟨⟩) Q)
      -∗ run c (.op (.enqueueDma src (.remote (Dev.tc n : Thread nD τ) dst (.dma qs) hsc) (.dma qr) hsrc hdst hsem) kk) Q) := by
  subst hs hd
  exact core_send m ρ (k := .U d) hn hk hqs hqr (amt_col uM _ (.inl rfl)) .rfl (holds_any _ _ _) (by
    show _ ⊢ holds (up c) (colSlot uM d) (vU m ρ (dn (up c)) d : Vec F _ .bf16); rw [dn_up]; exact .rfl)
/-- Start message `D d`, its slot stored. -/
theorem send_D (d : Fin 4) {src dst : Memref sig .tc .vmem S64x1024 .bf16} {hsc hsrc hdst hsem}
    {α : Type} {Q : α → sProp 𝕄} {kk : PUnit → Prog (TpuEff nD τ sig (Elt F) Λ₀ .tc) α}
    (hn : n = dn c) (hk : (Msg.D d).sends c = true) (hqs : qs = dsem (Msg.D d).sIx) (hqr : qr = dsem (Msg.D d).rIx)
    (hs : src = colSlot dM d) (hd : dst = colSlot dM d) :
    iprop(core m ρ c (.D d :: ks) rs ss l bs ∗ holds c (colSlot dM d) (vD m ρ c d))
    ⊢ iprop((core m ρ c ks rs (.D d :: ss) l bs -∗ run c (kk ⟨⟩) Q)
      -∗ run c (.op (.enqueueDma src (.remote (Dev.tc n : Thread nD τ) dst (.dma qs) hsc) (.dma qr) hsrc hdst hsem) kk) Q) := by
  subst hs hd
  exact core_send m ρ (k := .D d) hn hk hqs hqr (amt_col dM _ (.inr rfl)) .rfl (holds_any _ _ _) (by
    show _ ⊢ holds (dn c) (colSlot dM d) (vD m ρ (up (dn c)) d : Vec F _ .bf16); rw [up_dn]; exact .rfl)

end Ring

/-! ## Loads and stores of slots and of whole buffers -/

section Slots
variable {c : Dev nD} {α : Type}

/-- A load of slot `(h, s)` of a ring buffer. -/
theorem load_ring (M : Memref sig .tc .vmem S4x2x128x512 .bf16) (h : Fin 4) (s : Fin 2) {V : Vec F S128x512 .bf16} {hl}
    {Q : α → sProp 𝕄} {kk : Vec F S1x1x128x512 .bf16 → Prog (TpuEff nD τ sig (Elt F) Λ₀ .tc) α} :
    (holds c (ringSlot M h s) V : sProp 𝕄)
    ⊢ iprop((holds c (ringSlot M h s) V -∗ run c (kk (shapeCast S1x1x128x512 V shapeCasts_S128x512_S1x1x128x512)) Q)
      -∗ run c (.op (.load M (ringRect h s).toLoadRect hl) kk) Q) :=
  step_load_slot shapeCasts_S1x1x128x512_S128x512 shapeCasts_S128x512_S1x1x128x512
/-- A store over slot `(h, s)` of a ring buffer. -/
theorem store_ring (M : Memref sig .tc .vmem S4x2x128x512 .bf16) (h : Fin 4) (s : Fin 2) {V : Vec F S128x512 .bf16} (X : Vec F S128x512 .bf16)
    {w : Vec F S1x1x128x512 .bf16} {hx hm} (hX : shapeCast S128x512 w shapeCasts_S1x1x128x512_S128x512 = X)
    {Q : α → sProp 𝕄} {kk : PUnit → Prog (TpuEff nD τ sig (Elt F) Λ₀ .tc) α} :
    (holds c (ringSlot M h s) V : sProp 𝕄)
    ⊢ iprop((holds c (ringSlot M h s) X -∗ run c (kk ⟨⟩) Q)
      -∗ run c (.op (.store M (ringRect h s) w Finset.univ hx hm) kk) Q) :=
  step_store_slot X shapeCasts_S1x1x128x512_S128x512 hX

/-- A load of slot `d` of a column buffer. -/
theorem load_col (M : Memref sig .tc .vmem S4x64x1024 .bf16) (d : Fin 4) {V : Vec F S64x1024 .bf16} {hl}
    {Q : α → sProp 𝕄} {kk : Vec F S1x64x1024 .bf16 → Prog (TpuEff nD τ sig (Elt F) Λ₀ .tc) α} :
    (holds c (colSlot M d) V : sProp 𝕄)
    ⊢ iprop((holds c (colSlot M d) V -∗ run c (kk (shapeCast S1x64x1024 V shapeCasts_S64x1024_S1x64x1024)) Q)
      -∗ run c (.op (.load M (colRect d).toLoadRect hl) kk) Q) :=
  step_load_slot shapeCasts_S1x64x1024_S64x1024 shapeCasts_S64x1024_S1x64x1024
/-- A store over slot `d` of a column buffer. -/
theorem store_col (M : Memref sig .tc .vmem S4x64x1024 .bf16) (d : Fin 4) {V : Vec F S64x1024 .bf16} (X : Vec F S64x1024 .bf16)
    {w : Vec F S1x64x1024 .bf16} {hx hm} (hX : shapeCast S64x1024 w shapeCasts_S1x64x1024_S64x1024 = X)
    {Q : α → sProp 𝕄} {kk : PUnit → Prog (TpuEff nD τ sig (Elt F) Λ₀ .tc) α} :
    (holds c (colSlot M d) V : sProp 𝕄)
    ⊢ iprop((holds c (colSlot M d) X -∗ run c (kk ⟨⟩) Q)
      -∗ run c (.op (.store M (colRect d) w Finset.univ hx hm) kk) Q) :=
  step_store_slot X shapeCasts_S1x64x1024_S64x1024 hX

/-- A load from a buffer held whole. -/
theorem load_rect {s : Shape} {e : EltTy} {M : Memref sig .tc .vmem s e} {V : s.Idx → Elt F e} {r : LoadRect s} {hl}
    (Y : r.shape.Idx → Elt F e) (hY : ∀ j, V (r.idx j) = Y j)
    {Q : α → sProp 𝕄} {kk : (r.shape.Idx → Elt F e) → Prog (TpuEff nD τ sig (Elt F) Λ₀ .tc) α} :
    (holds c M V : sProp 𝕄)
    ⊢ iprop((holds c M V -∗ run c (kk Y) Q) -∗ run c (.op (.load M r hl) kk) Q) := by
  iintro H
  ihave H := (holds_open _ _ _) $$ H
  icases H with ⟨%f, %hf, H⟩
  iintro Hk
  iapply (wp_load 𝒱₀ (c : Thread nD τ) none Set.univ (m := M) (r := r) (q := fullShare) (f := f)
    (S := M.view.set) (View.setOn_subset_set _ _)) $$ H
  iintro H
  have e : M.view.readAt (Elt F) r f = Y := by
    funext j; rw [← hY j, ← hf]; rfl
  rw [e]
  iapply Hk
  iapply (holds_close c _ hf); iexact H

/-- A store into a buffer held whole. -/
theorem store_rect {s : Shape} {e : EltTy} {M : Memref sig .tc .vmem s e} {V : s.Idx → Elt F e} {r : Rect s} {w : r.shape.Idx → Elt F e} {hx hm}
    (X : s.Idx → Elt F e) (h1 : ∀ j, X (r.emb j) = w j) (h2 : ∀ i, i ∉ r.set → X i = V i)
    {Q : α → sProp 𝕄} {kk : PUnit → Prog (TpuEff nD τ sig (Elt F) Λ₀ .tc) α} :
    (holds c M V : sProp 𝕄)
    ⊢ iprop((holds c M X -∗ run c (kk ⟨⟩) Q) -∗ run c (.op (.store M r w Finset.univ hx hm) kk) Q) := by
  iintro H
  ihave H := (holds_open _ _ _) $$ H
  icases H with ⟨%f, %hf, H⟩
  iintro Hk
  iapply (wp_store 𝒱₀ (c : Thread nD τ) none Set.univ (m := M) (r := r) (w := w) (f := f)
    (S := M.view.set) (Memref.setOn_access_subset M r Finset.univ)) $$ H
  iintro H
  iapply Hk
  have e : M.view.read (Elt F) ((M.access r).write (Elt F) f w Finset.univ) = X := by
    funext i
    by_cases hi : i ∈ r.set
    · rw [← Rect.map_emb_univ] at hi
      obtain ⟨j, -, rfl⟩ := Finset.mem_map.mp hi
      rw [h1 j]
      exact congrFun (View.read_write_univ (v := M.access r) _ _) j
    · rw [h2 i hi, ← hf]
      unfold View.read
      refine congrArg _ (View.write_of_not_mem (v := M.access r) _ _ _ fun h => hi ?_)
      have h' : M.view.emb i ∈ (M.view.slice r).set := h
      rw [View.set_slice] at h'
      exact (Finset.mem_map' _).mp h'
  iapply (holds_close c _ e); iexact H

end Slots

end Cert.KernelIdeal.Ring
-- ==== Proof.KernelIdeal.Moves.lean ====
/- The copies into the permuted buffer, the loads of its quarters, the stores of the ring's result and its loads. -/
module

public import proofs.«01_k».proof.Proof.KernelIdeal.Core

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The copies, the quarters and the ring's result -/

section Moves
variable {c : Dev nD} {α : Type}

theorem permPart_zero (f : Vec F S1024x64 .f32) : permPart m ρ c f 0 = f := by
  funext i; unfold permPart; rw [if_neg (by omega)]
theorem permPart_all (f : Vec F S1024x64 .f32) : permPart m ρ c f 16 = perm m ρ c := by
  funext i; unfold permPart perm
  have h : (i 0).val < 1024 := (i 0).isLt
  rw [if_pos (by omega)]

/-- One block of the permuted copy: load from `x`, load the destination, store. -/
theorem step_copy (n : ℕ) {a b : ℕ} {f : Vec F S1024x64 .f32} {pay : Vec F S64x64 .f32 → FVec F S64x64 .f32}
    {ia ib hl1 hl2 hx hm} {kk : PUnit → Prog (TpuEff nD τ sig (Elt F) Λ₀ .tc) α} {Q : α → sProp 𝕄}
    (ha : a = 64 * (4 * (n % 4) + n / 4)) (hb : b = 64 * n) (hpay : ∀ v, pay v = v) :
    iprop(holds c xM (xv m ρ c) ∗ holds c pM (permPart m ρ c f n))
    ⊢ iprop((holds c xM (xv m ρ c) ∗ holds c pM (permPart m ρ c f (n + 1)) -∗ run c (kk ⟨⟩) Q)
      -∗ run c (.op (.load xM (Rect.unit (s := S1024x64) ![a, 0] S64x64.size ia).toLoadRect hl1) fun v =>
          .op (.load pM (Rect.unit (s := S1024x64) ![b, 0] S64x64.size ib).toLoadRect hl2) fun _ =>
          .op (.store pM (Rect.unit (s := S1024x64) ![b, 0] S64x64.size ib) (pay v) Finset.univ hx hm) kk) Q) := by
  subst ha hb
  iintro ⟨Hx, Hp⟩
  iintro Hk
  iapply (load_rect (M := xM) (r := (Rect.unit (s := S1024x64) ![64 * (4 * (n % 4) + n / 4), 0] S64x64.size ia).toLoadRect)
    (fun j => (xv m ρ c : Vec F S1024x64 .f32) ((Rect.unit (s := S1024x64) ![64 * (4 * (n % 4) + n / 4), 0] S64x64.size ia).idx j)) (fun _ => rfl)) $$ Hx
  iintro Hx
  iapply (load_rect (M := pM) (r := (Rect.unit (s := S1024x64) ![64 * n, 0] S64x64.size ib).toLoadRect) _ (fun _ => rfl)) $$ Hp
  iintro Hp
  rw [hpay]
  iapply (store_rect (M := pM) (permPart m ρ c f (n + 1)) ?_ ?_) $$ Hp
  · intro j
    have hj : (j 0).val < 64 := (j 0).isLt
    unfold permPart
    have e0 : ((Rect.unit (s := S1024x64) ![64 * n, 0] S64x64.size ib).emb j 0).val = 64 * n + (j 0).val := by
      rw [Rect.emb_apply]; simp
    have e1 : ((Rect.unit (s := S1024x64) ![64 * n, 0] S64x64.size ib).emb j 1).val = (j 1).val := by
      rw [Rect.emb_apply]; simp
    rw [if_pos (by rw [e0]; omega)]
    congr 1
    funext a
    apply Fin.ext
    match a with
    | 0 => simp [permRow, e0]; omega
    | 1 => refine e1.trans ?_; simp
  · intro i hi
    have hc1 : (i 1).val < 64 := (i 1).isLt
    rw [Rect.mem_set_unit] at hi
    unfold permPart
    have : ¬ (64 * n ≤ (i 0).val ∧ (i 0).val < 64 * n + 64) := fun h => hi fun a => by
      match a with
      | 0 => simpa using h
      | 1 => simpa using hc1
    by_cases h : (i 0).val < 64 * n
    · rw [if_pos h, if_pos (by omega)]
    · rw [if_neg h, if_neg (by omega)]
  iintro Hp
  iapply Hk
  isplitl [Hx]; · iexact Hx
  iexact Hp

/-- The operands, and the permuted copy made. -/
def ins (c : Dev nD) : sProp 𝕄 := iprop(holds c xM (xv m ρ c) ∗ holds c wM (wv m ρ c) ∗ holds c pM (perm m ρ c))

/-- A load of quarter `r` of the permuted copy. -/
theorem load_quarter (r : Fin 4) {o : Fin 2 → ℕ} {io hl} {kk : Vec F S256x64 .f32 → Prog (TpuEff nD τ sig (Elt F) Λ₀ .tc) α} {Q : α → sProp 𝕄}
    (ho : o = ![256 * r.val, 0]) :
    ins m ρ c ⊢ iprop((ins m ρ c -∗ run c (kk (permQ m ρ c r)) Q)
      -∗ run c (.op (.load pM (Rect.unit (s := S1024x64) o S256x64.size io).toLoadRect hl) kk) Q) := by
  subst ho
  unfold ins
  iintro ⟨Hx, Hw, Hp⟩
  iintro Hk
  iapply (load_rect (M := pM) (r := (Rect.unit (s := S1024x64) ![256 * r.val, 0] S256x64.size io).toLoadRect) (permQ m ρ c r) ?_) $$ Hp
  · intro j
    unfold permQ
    congr 1
    funext a
    apply Fin.ext
    match a with
    | 0 => simp
    | 1 => simp
  iintro Hp
  iapply Hk
  isplitl [Hx]; · iexact Hx
  isplitl [Hw]; · iexact Hw
  iexact Hp

/-- A load of `w`. -/
theorem load_w {iw hl} {kk : Vec F S64x1024 .f32 → Prog (TpuEff nD τ sig (Elt F) Λ₀ .tc) α} {Q : α → sProp 𝕄} :
    ins m ρ c ⊢ iprop((ins m ρ c -∗ run c (kk (wv m ρ c)) Q)
      -∗ run c (.op (.load wM (Rect.unit (s := S64x1024) ![0, 0] S64x1024.size iw).toLoadRect hl) kk) Q) := by
  unfold ins
  iintro ⟨Hx, Hw, Hp⟩
  iintro Hk
  iapply (load_rect (M := wM) (r := (Rect.unit (s := S64x1024) ![0, 0] S64x1024.size iw).toLoadRect) (wv m ρ c) ?_) $$ Hw
  · intro j
    congr 1
    funext a
    apply Fin.ext
    match a with
    | 0 => simp
    | 1 => simp
  iintro Hw
  iapply Hk
  isplitl [Hx]; · iexact Hx
  isplitl [Hw]; · iexact Hw
  iexact Hp

/-- The ring's result over earlier contents `f`, its first `n` quarters stored. -/
def rPart (c : Dev nD) (f : Vec F S256x1024 .f32) (n : ℕ) : Vec F S256x1024 .f32 := fun i =>
  if 2 * ((i 0).val / 128) + (i 1).val / 512 < n then rv m ρ c i else f i

theorem rPart_zero (f : Vec F S256x1024 .f32) : rPart m ρ c f 0 = f := by
  funext i; unfold rPart; rw [if_neg (by omega)]
theorem rPart_all (f : Vec F S256x1024 .f32) : rPart m ρ c f 4 = rv m ρ c := by
  funext i; unfold rPart
  have h0 : (i 0).val < 256 := (i 0).isLt
  have h1 : (i 1).val < 1024 := (i 1).isLt
  rw [if_pos (by omega)]

/-- A store of a quarter of the ring's result. -/
theorem store_r (n : ℕ) (s : Fin 2) (t : ℕ) {f : Vec F S256x1024 .f32} {o : Fin 2 → ℕ} {io hx hm} {w : Vec F S128x512 .f32}
    {kk : PUnit → Prog (TpuEff nD τ sig (Elt F) Λ₀ .tc) α} {Q : α → sProp 𝕄}
    (ho : o = ![128 * s.val, 512 * t]) (hn : n = 2 * s.val + t) (hw : (t = 0 ∧ w = rL m ρ c s) ∨ (t = 1 ∧ w = rR m ρ c s)) :
    (holds c rM (rPart m ρ c f n) : sProp 𝕄)
    ⊢ iprop((holds c rM (rPart m ρ c f (n + 1)) -∗ run c (kk ⟨⟩) Q)
      -∗ run c (.op (.store rM (Rect.unit (s := S256x1024) o S128x512.size io) w Finset.univ hx hm) kk) Q) := by
  subst ho
  have ht : t < 2 := by rcases hw with h | h <;> omega
  refine store_rect (M := rM) (rPart m ρ c f (n + 1)) ?_ ?_
  · intro j
    have hj0 : (j 0).val < 128 := (j 0).isLt
    have hj1 : (j 1).val < 512 := (j 1).isLt
    have e0 : ((Rect.unit (s := S256x1024) ![128 * s.val, 512 * t] S128x512.size io).emb j 0).val = 128 * s.val + (j 0).val := by
      rw [Rect.emb_apply]; simp
    have e1 : ((Rect.unit (s := S256x1024) ![128 * s.val, 512 * t] S128x512.size io).emb j 1).val = 512 * t + (j 1).val := by
      rw [Rect.emb_apply]; simp
    generalize ((Rect.unit (s := S256x1024) ![128 * s.val, 512 * t] S128x512.size io).emb j) = i at e0 e1
    unfold rPart
    rw [if_pos (by rw [e0, e1]; omega)]
    unfold rv
    dsimp only
    have es : ∀ h, (⟨(i 0).val / 128, h⟩ : Fin 2) = s := fun h => Fin.ext (by simp only [e0]; omega)
    have ej : ∀ h h', (ValueIdx.ix2 (n0 := 128) (n1 := 512) ⟨(i 0).val % 128, h⟩ ⟨(i 1).val % 512, h'⟩ : S128x512.Idx) = j := fun h h' => by
      funext a; apply Fin.ext
      match a with
      | 0 => simp [e0]; omega
      | 1 => simp [e1]; omega
    rcases hw with ⟨rfl, rfl⟩ | ⟨rfl, rfl⟩
    · rw [if_pos (by rw [e1]; omega), es, ej]
    · rw [if_neg (by rw [e1]; omega), es, ej]
  · intro i hi
    have hc0 : (i 0).val < 256 := (i 0).isLt
    have hc1 : (i 1).val < 1024 := (i 1).isLt
    rw [Rect.mem_set_unit] at hi
    have : ¬ ((128 * s.val ≤ (i 0).val ∧ (i 0).val < 128 * s.val + 128) ∧ (512 * t ≤ (i 1).val ∧ (i 1).val < 512 * t + 512)) := fun h => hi fun a => by
      match a with
      | 0 => simpa using h.1
      | 1 => simpa using h.2
    unfold rPart
    have hs := s.isLt
    by_cases h : 2 * ((i 0).val / 128) + (i 1).val / 512 < n
    · rw [if_pos h, if_pos (by omega)]
    · rw [if_neg h, if_neg (by omega)]

/-- A load of the ring's result's rows for row `d` of the mesh. -/
theorem load_rb (d : Fin 4) {o : Fin 2 → ℕ} {io hl} {kk : Vec F S64x1024 .f32 → Prog (TpuEff nD τ sig (Elt F) Λ₀ .tc) α} {Q : α → sProp 𝕄}
    (ho : o = ![64 * d.val, 0]) :
    (holds c rM (rv m ρ c) : sProp 𝕄) ⊢ iprop((holds c rM (rv m ρ c) -∗ run c (kk (rb m ρ c d)) Q)
      -∗ run c (.op (.load rM (Rect.unit (s := S256x1024) o S64x1024.size io).toLoadRect hl) kk) Q) := by
  subst ho
  refine load_rect (M := rM) (r := (Rect.unit (s := S256x1024) ![64 * d.val, 0] S64x1024.size io).toLoadRect) (rb m ρ c d) ?_
  intro j
  unfold rb
  congr 1
  funext a
  apply Fin.ext
  match a with
  | 0 => simp
  | 1 => simp

/-- A load from the result's buffer, whatever it is used for, and a store over the whole of it. -/
theorem store_out {f : Vec F S64x1024 .f32} {io hx hm} {w : Vec F S64x1024 .f32} (X : Vec F S64x1024 .f32) (hX : w = X)
    {kk : PUnit → Prog (TpuEff nD τ sig (Elt F) Λ₀ .tc) α} {Q : α → sProp 𝕄} :
    (holds c oM f : sProp 𝕄) ⊢ iprop((holds c oM X -∗ run c (kk ⟨⟩) Q)
      -∗ run c (.op (.store oM (Rect.unit (s := S64x1024) ![0, 0] S64x1024.size io) w Finset.univ hx hm) kk) Q) := by
  subst hX
  refine store_rect (M := oM) w ?_ ?_
  · intro j
    congr 1
    funext a
    apply Fin.ext
    match a with
    | 0 => simp
    | 1 => simp
  · intro i hi
    rw [Rect.mem_set_unit] at hi
    exact absurd (fun a => by
      have h0 : (i 0).val < 64 := (i 0).isLt
      have h1 : (i 1).val < 1024 := (i 1).isLt
      match a with
      | 0 => simpa using h0
      | 1 => simpa using h1) hi

end Moves

end Cert.KernelIdeal.Ring
-- ==== Proof.KernelIdeal.Phase0.lean ====
/- The barrier, and the body's first parts. -/
module

public import proofs.«01_k».proof.Proof.KernelIdeal.Moves

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- A program that has ended. -/
theorem run_ret (c : Dev nD) {α : Type} (a : α) (Q : α → sProp 𝕄) : Q a ⊢ run c (Prog.ret a) Q := by
  unfold run
  rw [wp_ret]
  iintro H
  imodintro
  iexact H
/-- A part of the body on the kernel's buffers and semaphores. -/
abbrev onBufs {β : Type 1} (f : (arg0 : Memref sig .tc .vmem S1024x64 .f32) → arg0.IsWhole → (arg1 : Memref sig .tc .vmem S64x1024 .f32) → arg1.IsWhole →
    (arg2 : Memref sig .tc .vmem S64x1024 .f32) → arg2.IsWhole → (arg3 : Memref sig .tc .vmem S1024x64 .f32) → arg3.IsWhole →
    (arg4 : Memref sig .tc .vmem S4x2x128x512 .bf16) → arg4.IsWhole → (arg5 : Memref sig .tc .vmem S4x2x128x512 .bf16) → arg5.IsWhole →
    (arg6 : Memref sig .tc .vmem S256x1024 .f32) → arg6.IsWhole → (arg7 : Memref sig .tc .vmem S4x64x1024 .bf16) → arg7.IsWhole →
    (arg8 : Memref sig .tc .vmem S4x64x1024 .bf16) → arg8.IsWhole → DmaSems sig S3x2 → DmaSems sig S3x2 → DmaSems sig S3x2 → DmaSems sig S3x2 →
    DmaSems sig S4 → DmaSems sig S4 → DmaSems sig S4 → DmaSems sig S4 → β) : β :=
  f xM (Memref.isWhole_whole _) wM (Memref.isWhole_whole _) oM (Memref.isWhole_whole _) pM (Memref.isWhole_whole _) fM (Memref.isWhole_whole _)
    bM (Memref.isWhole_whole _) rM (Memref.isWhole_whole _) uM (Memref.isWhole_whole _) dM (Memref.isWhole_whole _)
    cc0_scratch6 cc0_scratch7 cc0_scratch8 cc0_scratch9 cc0_scratch10 cc0_scratch11 cc0_scratch12 cc0_scratch13

/-! ## The barrier -/

/-- What the signal to device `d`'s barrier semaphore in its duty `j` takes. -/
def sigKit (d : Dev nD) (j : Fin 4) : sProp 𝕄 := iprop(dutyTok ER (barCell d) 0 j ∗ barPay d j)

theorem step_signal {c d n : Dev nD} (j : Fin 4) {O₁ : CellTallies nD τ sig Unit} (O : CellTallies nD τ sig Unit) {W : Waits sig Unit} {k : ℕ}
    {α : Type} {Q : α → sProp 𝕄} {kk : PUnit → Prog (TpuEff nD τ sig (Elt F) Λ₀ .tc) α}
    (hn : n = d) (hj : j ∈ nbrs d) (hk : k = 1) (hO : O₁ = O + tallyAt (barCell d) () 1) :
    iprop(recs m ρ ∗ owes (c : Thread nD τ) O₁ W ∗ sigKit d j)
    ⊢ iprop((owes (c : Thread nD τ) O W -∗ run c (kk ⟨⟩) Q)
      -∗ run c (.op (.semSignal ((n, .tc) : Thread nD τ) barS k) kk) Q) := by
  subst hn hk
  iintro ⟨#HR, HO, HS⟩
  iintro Hk
  unfold sigKit
  icases HS with ⟨Ht, HP⟩
  ihave HR1 := (recs_cell m ρ (n, none)) $$ HR
  icases HR1 with ⟨⟨%κ, HI⟩, Hr⟩
  iapply (Rounds.wp_signal 𝒱₀ ER (Rd m ρ) (c : Thread nD τ) none (dst := (n : Thread nD τ)) (κ := κ) (d := j) (r := 0)
    (by rw [duties_bar]; exact hj) (amount_bar m ρ n j) () O hO) $$ [HI HO Ht HP Hr]
  · isplitl [HI]; · iexact HI
    isplitl [HO]; · iexact HO
    isplitl [Ht]; · iexact Ht
    isplitl [HP]; · rw [payload_bar]; iexact HP
    iexact Hr
  iexact Hk

/-- The units and the place at the barrier's cell. -/
def barKit (c : Dev nD) : sProp 𝕄 := iprop(cred (tallyAt (barCell c) () (nNbr c)) ∗ atPos ER (barCell c) 0 ∅ 0)

/-- What a device starts out with: the slots it sends from, those it sends into not yet. -/
def kits (c : Dev nD) (l : List (Fin 40)) : sProp 𝕄 := iprop(
  bigSepL (Msg.ring ++ colOut c) (sendKit c) ∗ bigSepL (Msg.ring ++ colIn c) (recvKit c) ∗ zs c l)

theorem close_bar (c : Dev nD) :
    iprop(recs m ρ ∗ atPos ER (barCell c) 1 ∅ 0) ⊢ iprop(|={Set.univ}=> semVal (barCell c) 0) := by
  iintro ⟨#HR, Hp⟩
  ihave HR1 := (recs_cell m ρ (c, none)) $$ HR
  icases HR1 with ⟨⟨%κ₁, HI1⟩, Hr1⟩
  iapply (Rounds.cell_close ER (Rd (F := F) m ρ) (κ := κ₁) (Set.mem_univ _) (fun h : False => h) (duties_later m ρ _)) $$ [HI1 Hp]
  isplitl [HI1]; · iexact HI1
  iexact Hp

theorem outs_perm : ∀ c : Dev nD, (outs c 0 ++ (outs c 1 ++ (outs c 2 ++ outs c 3))).Perm (Msg.ring ++ colOut c) := by decide +kernel
theorem outs_nodup : ∀ c : Dev nD, (outs c 0 ++ (outs c 1 ++ (outs c 2 ++ outs c 3))).Nodup := by decide +kernel

omit [FloatOps F] in
/-- Two lists of resources side by side. -/
theorem bigSepL_both {I : Type} (l : List I) (Φ Ψ : I → sProp 𝕄) :
    iprop(bigSepL l Φ ∗ bigSepL l Ψ) ⊢ bigSepL l fun i => iprop(Φ i ∗ Ψ i) := by
  induction l with
  | nil => rw [bigSepL_nil, bigSepL_nil, bigSepL_nil]; iintro ⟨H, -⟩; iexact H
  | cons i l ih =>
    rw [bigSepL_cons', bigSepL_cons', bigSepL_cons']
    iintro ⟨⟨H1, H2⟩, H3, H4⟩
    isplitl [H1 H3]
    · isplitl [H1]; · iexact H1
      iexact H3
    · iapply ih
      isplitl [H2]; · iexact H2
      iexact H4

omit [FloatOps F] in
/-- The four neighbours' slots and the permissions make the messages ready to be started. -/
theorem toSend_intro (c : Dev nD) :
    iprop((barPay c 0 ∗ barPay c 1 ∗ barPay c 2 ∗ barPay c 3) ∗ bigSepL (Msg.ring ++ colOut c) (sendKit c))
      ⊢ (bigSepL (Msg.ring ++ colOut c) (toSend c) : sProp 𝕄) := by
  unfold barPay
  rw [← bigSepL_append, ← bigSepL_append, ← bigSepL_append, TalkSites.bigSepL_perm (outs_perm c) (outs_nodup c)]
  exact bigSepL_both _ _ _

theorem lev_bar : ∀ c : Dev nD, ∀ k ∈ Msg.ring ++ colOut c, 1 < rlv (k.dst c) k := fun c k _ => rlv_pos _ k

/-- The wait on the barrier semaphore: every peer's slots are in hand. -/
theorem step_bar {c : Dev nD} {l : List (Fin 40)} {n : ℕ} {α : Type} {Q : α → sProp 𝕄} {kk : PUnit → Prog (TpuEff nD τ sig (Elt F) Λ₀ .tc) α}
    (hn : n = nNbr c) :
    iprop(recs m ρ ∗ oweL c (Msg.ring ++ colOut c) ∗ barKit c ∗ kits c l)
    ⊢ iprop((core m ρ c (Msg.ring ++ colOut c) (Msg.ring ++ colIn c) [] l [] ∗ semVal (barCell c) 0 -∗ run c (kk ⟨⟩) Q)
      -∗ run c (.op (.semWait barS n) kk) Q) := by
  subst hn
  unfold oweL barKit kits
  iintro ⟨#HR, ⟨%W, HO⟩, ⟨Hc, Hp⟩, HK, HV, HZ⟩
  iintro Hk
  ihave HR1 := (recs_cell m ρ (c, none)) $$ HR
  icases HR1 with ⟨⟨%κ, HI⟩, Hr⟩
  ihave HM := ((recs_lev m ρ).trans (mayWait_msgs (F := F) c (.reg barS) 1 (le_of_eq (lv_bar c ())) _ (lev_bar c))) $$ HR
  iapply (Rounds.wp_wait_rest_token 𝒱₀ ER (Rd m ρ) (c : Thread nD τ) none (κ := κ) (hw := wpE_semWait_eq 𝒱₀ (c : Thread nD τ) none Set.univ)
    (Set.mem_univ _) () (O := owedL c (Msg.ring ++ colOut c)) (W := W) (R := 0) (m := 0) (T := ∅)
    (by rw [Nat.zero_add]; exact (expect_bar m ρ c).symm)) $$ [HI Hc HO HM Hp]
  · isplitl [HI]; · iexact HI
    isplitl [Hc]; · iexact Hc
    isplitl [HO]; · iexact HO
    isplitl [HM]; · iexact HM
    iexact Hp
  iintro ⟨HO, Hp, -, HP⟩
  ihave HP := (rest_bar m ρ c) $$ HP
  ihave HZ1 := (close_bar m ρ c) $$ [Hp]
  · isplitr; · iexact HR
    iexact Hp
  imod HZ1
  ihave HT := (toSend_intro c) $$ [HP HK]
  · isplitl [HP]; · iexact HP
    iexact HK
  iapply Hk
  isplitr [HZ1]
  · unfold core
    isplitr; · iexact HR
    isplitl [HT]; · iexact HT
    isplitl [HO]; · unfold oweL; iexists _; iexact HO
    isplitl [HV]; · iexact HV
    isplitr; · rw [bigSepL_nil]; iempintro
    isplitl [HZ]; · iexact HZ
    rw [bigSepL_nil]; iempintro
  iexact HZ1

/-! ## The body's first parts -/

/-- A block cast twice to its own shape. -/
theorem cast2 (v : Vec F S64x64 .f32) (h h' : S64x64.ShapeCasts S64x64) : shapeCast S64x64 (shapeCast S64x64 v h) h' = v := by
  rw [shapeCast_self, shapeCast_self]

section Parts
variable {c : Dev nD} {α : Type}

theorem nbr_lt : ∀ c : Dev nD, (1 : Fin 4) ∈ nbrs (lt c) := by decide
theorem nbr_rt : ∀ c : Dev nD, (0 : Fin 4) ∈ nbrs (rt c) := by decide
theorem nbr_up : ∀ c : Dev nD, c.val / 4 < 3 → (3 : Fin 4) ∈ nbrs (up c) := by decide
theorem nbr_dn : ∀ c : Dev nD, 0 < c.val / 4 → (2 : Fin 4) ∈ nbrs (dn c) := by decide

/-- The device's number is read and the left neighbour signalled. -/
theorem part13 {W : Waits sig Unit}
    {Q : (Σ' (d0 : Dev nD) (v2 : BitVec 32) (v3 : BitVec 32) (v20 : BitVec 32) (v24 : BitVec 32) (v27 : BitVec 32) (v29 : BitVec 32) (v32 : BitVec 32), Sems sig S_) → sProp 𝕄} :
    iprop(recs m ρ ∗ owes (c : Thread nD τ) (O₀ c) W ∗ sigKit (lt c) 1)
    ⊢ iprop((∀ v2 v3 v20 v24 v27 v29 v32, owes (c : Thread nD τ) (O₁ c) W -∗ Q ⟨c, v2, v3, v20, v24, v27, v29, v32, SemArray.scalar (sig.barrier 0 rfl)⟩)
      -∗ run c (onBufs (k0_part13 (F := F))) Q) := by
  simp only [onBufs, k0_part13_eq_skeleton]
  unfold k0_part13_skel
  simp only [semSignalWord, Prog.lift, Prog.bind_op, Prog.bind_ret, Prog.pure_eq_ret, wp_deviceId]
  iintro ⟨#HR, HO, HS⟩
  iintro Hk
  iapply (step_signal m ρ (d := lt c) 1 (O₁ c) (dev1_eq c) (nbr_lt c) (by decide) rfl) $$ [HO HS]
  · isplitr; · iexact HR
    isplitl [HO]; · iexact HO
    iexact HS
  iintro HO
  iapply run_ret
  iapply Hk
  iexact HO

/-- The other neighbours are signalled, and the copy's first blocks made. -/
theorem part14 {v20 v24 v29 v32 : BitVec 32} {W : Waits sig Unit} {f : Vec F S1024x64 .f32} {Q : PUnit → sProp 𝕄} :
    iprop(recs m ρ ∗ owes (c : Thread nD τ) (O₁ c) W ∗ sigKit (rt c) 0 ∗ sigKit (up c) 3 ∗ sigKit (dn c) 2
      ∗ holds c xM (xv m ρ c) ∗ holds c pM (permPart m ρ c f 0))
    ⊢ iprop((oweL c (Msg.ring ++ colOut c) ∗ holds c xM (xv m ρ c) ∗ holds c pM (permPart m ρ c f 4) -∗ Q ⟨⟩)
      -∗ run c (onBufs (k0_part14 (F := F)) c v20 v24 v29 v32 (SemArray.scalar (sig.barrier 0 rfl))) Q) := by
  simp only [onBufs, k0_part14_eq_skeleton]
  unfold k0_part14_skel
  simp only [semSignalWord, Prog.lift, Prog.bind_op, Prog.bind_ret, Prog.pure_eq_ret]
  by_cases h1 : k0_cond1 c = 1#1 <;> by_cases h2 : k0_cond2 c = 1#1
  · simp only [dif_pos h1, dif_pos h2, Prog.bind_op, Prog.bind_ret]
    have u1 := (cond1_iff c).mp h1
    have u2 := (cond2_iff c).mp h2
    iintro ⟨#HR, HO, HS0, HS3, HS2, HX⟩
    iintro Hk
    iapply (step_signal m ρ (d := rt c) 0 (O₂ c) (dev2_eq c) (nbr_rt c) (by decide) rfl) $$ [HO HS0]
    · isplitr; · iexact HR
      isplitl [HO]; · iexact HO
      iexact HS0
    iintro HO
    iapply (step_signal m ρ (d := up c) 3 (O₁ := O₂ c) (O₃ c) (up_of _ (k0_dev3_eq c)) (nbr_up c u1) (by decide) (by unfold O₂ owedUp; rw [if_pos u1])) $$ [HO HS3]
    · isplitr; · iexact HR
      isplitl [HO]; · iexact HO
      iexact HS3
    iintro HO
    iapply (step_signal m ρ (d := dn c) 2 (O₁ := O₃ c) (owedL c (Msg.ring ++ colOut c)) (dn_of _ (k0_dev4_eq c)) (nbr_dn c u2) (by decide) (by unfold O₃ owedDn; rw [if_pos u2])) $$ [HO HS2]
    · isplitr; · iexact HR
      isplitl [HO]; · iexact HO
      iexact HS2
    iintro HO
    iapply (step_copy m ρ 0 (f := f) rfl rfl (fun v => cast2 v _ _)) $$ HX; iintro HX
    iapply (step_copy m ρ 1 (f := f) rfl rfl (fun v => cast2 v _ _)) $$ HX; iintro HX
    iapply (step_copy m ρ 2 (f := f) rfl rfl (fun v => cast2 v _ _)) $$ HX; iintro HX
    iapply (step_copy m ρ 3 (f := f) rfl rfl (fun v => cast2 v _ _)) $$ HX; iintro HX
    iapply run_ret
    iapply Hk
    isplitl [HO]; · unfold oweL; iexists W; iexact HO
    iexact HX
  · simp only [dif_pos h1, dif_neg h2, Prog.bind_op, Prog.bind_ret]
    have u1 := (cond1_iff c).mp h1
    have u2 := mt (cond2_iff c).mpr h2
    iintro ⟨#HR, HO, HS0, HS3, HS2, HX⟩
    iintro Hk
    iapply (step_signal m ρ (d := rt c) 0 (O₂ c) (dev2_eq c) (nbr_rt c) (by decide) rfl) $$ [HO HS0]
    · isplitr; · iexact HR
      isplitl [HO]; · iexact HO
      iexact HS0
    iintro HO
    iapply (step_signal m ρ (d := up c) 3 (O₁ := O₂ c) (O₃ c) (up_of _ (k0_dev3_eq c)) (nbr_up c u1) (by decide) (by unfold O₂ owedUp; rw [if_pos u1])) $$ [HO HS3]
    · isplitr; · iexact HR
      isplitl [HO]; · iexact HO
      iexact HS3
    iintro HO
    have e3 : O₃ c = owedL c (Msg.ring ++ colOut c) := by unfold O₃ owedDn; rw [if_neg u2, add_zero]
    ihave HO := (Entails.of_eq (congrArg (fun O => (owes (c : Thread nD τ) O W : sProp 𝕄)) e3)) $$ HO
    iapply (step_copy m ρ 0 (f := f) rfl rfl (fun v => cast2 v _ _)) $$ HX; iintro HX
    iapply (step_copy m ρ 1 (f := f) rfl rfl (fun v => cast2 v _ _)) $$ HX; iintro HX
    iapply (step_copy m ρ 2 (f := f) rfl rfl (fun v => cast2 v _ _)) $$ HX; iintro HX
    iapply (step_copy m ρ 3 (f := f) rfl rfl (fun v => cast2 v _ _)) $$ HX; iintro HX
    iapply run_ret
    iapply Hk
    isplitl [HO]; · unfold oweL; iexists W; iexact HO
    iexact HX
  · simp only [dif_neg h1, dif_pos h2, Prog.bind_op, Prog.bind_ret]
    have u1 := mt (cond1_iff c).mpr h1
    have u2 := (cond2_iff c).mp h2
    iintro ⟨#HR, HO, HS0, HS3, HS2, HX⟩
    iintro Hk
    iapply (step_signal m ρ (d := rt c) 0 (O₂ c) (dev2_eq c) (nbr_rt c) (by decide) rfl) $$ [HO HS0]
    · isplitr; · iexact HR
      isplitl [HO]; · iexact HO
      iexact HS0
    iintro HO
    have e2 : O₂ c = O₃ c := by unfold O₂ owedUp; rw [if_neg u1, add_zero]
    ihave HO := (Entails.of_eq (congrArg (fun O => (owes (c : Thread nD τ) O W : sProp 𝕄)) e2)) $$ HO
    iapply (step_signal m ρ (d := dn c) 2 (O₁ := O₃ c) (owedL c (Msg.ring ++ colOut c)) (dn_of _ (k0_dev4_eq c)) (nbr_dn c u2) (by decide) (by unfold O₃ owedDn; rw [if_pos u2])) $$ [HO HS2]
    · isplitr; · iexact HR
      isplitl [HO]; · iexact HO
      iexact HS2
    iintro HO
    iapply (step_copy m ρ 0 (f := f) rfl rfl (fun v => cast2 v _ _)) $$ HX; iintro HX
    iapply (step_copy m ρ 1 (f := f) rfl rfl (fun v => cast2 v _ _)) $$ HX; iintro HX
    iapply (step_copy m ρ 2 (f := f) rfl rfl (fun v => cast2 v _ _)) $$ HX; iintro HX
    iapply (step_copy m ρ 3 (f := f) rfl rfl (fun v => cast2 v _ _)) $$ HX; iintro HX
    iapply run_ret
    iapply Hk
    isplitl [HO]; · unfold oweL; iexists W; iexact HO
    iexact HX
  · simp only [dif_neg h1, dif_neg h2, Prog.bind_op, Prog.bind_ret]
    have u1 := mt (cond1_iff c).mpr h1
    have u2 := mt (cond2_iff c).mpr h2
    iintro ⟨#HR, HO, HS0, HS3, HS2, HX⟩
    iintro Hk
    iapply (step_signal m ρ (d := rt c) 0 (O₂ c) (dev2_eq c) (nbr_rt c) (by decide) rfl) $$ [HO HS0]
    · isplitr; · iexact HR
      isplitl [HO]; · iexact HO
      iexact HS0
    iintro HO
    have e2 : O₂ c = O₃ c := by unfold O₂ owedUp; rw [if_neg u1, add_zero]
    ihave HO := (Entails.of_eq (congrArg (fun O => (owes (c : Thread nD τ) O W : sProp 𝕄)) e2)) $$ HO
    have e3 : O₃ c = owedL c (Msg.ring ++ colOut c) := by unfold O₃ owedDn; rw [if_neg u2, add_zero]
    ihave HO := (Entails.of_eq (congrArg (fun O => (owes (c : Thread nD τ) O W : sProp 𝕄)) e3)) $$ HO
    iapply (step_copy m ρ 0 (f := f) rfl rfl (fun v => cast2 v _ _)) $$ HX; iintro HX
    iapply (step_copy m ρ 1 (f := f) rfl rfl (fun v => cast2 v _ _)) $$ HX; iintro HX
    iapply (step_copy m ρ 2 (f := f) rfl rfl (fun v => cast2 v _ _)) $$ HX; iintro HX
    iapply (step_copy m ρ 3 (f := f) rfl rfl (fun v => cast2 v _ _)) $$ HX; iintro HX
    iapply run_ret
    iapply Hk
    isplitl [HO]; · unfold oweL; iexists W; iexact HO
    iexact HX

/-- More blocks of the copy. -/
theorem part15 {f : Vec F S1024x64 .f32} {Q : PUnit → sProp 𝕄} :
    iprop(holds c xM (xv m ρ c) ∗ holds c pM (permPart m ρ c f 4))
    ⊢ iprop((holds c xM (xv m ρ c) ∗ holds c pM (permPart m ρ c f 10) -∗ Q ⟨⟩) -∗ run c (onBufs (k0_part15 (F := F))) Q) := by
  simp only [onBufs, k0_part15_eq_skeleton]
  unfold k0_part15_skel
  simp only [semSignalWord, Prog.lift, Prog.bind_op, Prog.bind_ret, Prog.pure_eq_ret]
  iintro HX
  iintro Hk
  iapply (step_copy m ρ 4 (f := f) rfl rfl (fun v => cast2 v _ _)) $$ HX; iintro HX
  iapply (step_copy m ρ 5 (f := f) rfl rfl (fun v => cast2 v _ _)) $$ HX; iintro HX
  iapply (step_copy m ρ 6 (f := f) rfl rfl (fun v => cast2 v _ _)) $$ HX; iintro HX
  iapply (step_copy m ρ 7 (f := f) rfl rfl (fun v => cast2 v _ _)) $$ HX; iintro HX
  iapply (step_copy m ρ 8 (f := f) rfl rfl (fun v => cast2 v _ _)) $$ HX; iintro HX
  iapply (step_copy m ρ 9 (f := f) rfl rfl (fun v => cast2 v _ _)) $$ HX; iintro HX
  iapply run_ret
  iapply Hk
  iexact HX

/-- The last blocks of the copy. -/
theorem part16 {v20 : BitVec 32} {f : Vec F S1024x64 .f32} {Q : BitVec 1 → sProp 𝕄} :
    iprop(holds c xM (xv m ρ c) ∗ holds c pM (permPart m ρ c f 10))
    ⊢ iprop((∀ v, holds c xM (xv m ρ c) ∗ holds c pM (perm m ρ c) -∗ Q v) -∗ run c (onBufs (k0_part16 (F := F)) v20) Q) := by
  simp only [onBufs, k0_part16_eq_skeleton]
  unfold k0_part16_skel
  simp only [semSignalWord, Prog.lift, Prog.bind_op, Prog.bind_ret, Prog.pure_eq_ret]
  have e : (holds c pM (permPart m ρ c f 16) : sProp 𝕄) ⊢ holds c pM (perm m ρ c) := by rw [permPart_all]
  iintro HX
  iintro Hk
  iapply (step_copy m ρ 10 (f := f) rfl rfl (fun v => cast2 v _ _)) $$ HX; iintro HX
  iapply (step_copy m ρ 11 (f := f) rfl rfl (fun v => cast2 v _ _)) $$ HX; iintro HX
  iapply (step_copy m ρ 12 (f := f) rfl rfl (fun v => cast2 v _ _)) $$ HX; iintro HX
  iapply (step_copy m ρ 13 (f := f) rfl rfl (fun v => cast2 v _ _)) $$ HX; iintro HX
  iapply (step_copy m ρ 14 (f := f) rfl rfl (fun v => cast2 v _ _)) $$ HX; iintro HX
  iapply (step_copy m ρ 15 (f := f) rfl rfl (fun v => cast2 v _ _)) $$ HX; iintro HX
  icases HX with ⟨Hx, Hp⟩
  ihave Hp := e $$ Hp
  iapply run_ret
  iapply Hk
  isplitl [Hx]; · iexact Hx
  iexact Hp

end Parts

end Cert.KernelIdeal.Ring
-- ==== Proof.KernelIdeal.Ring.lean ====
/- The ring's parts of the body. -/
module

public import proofs.«01_k».proof.Proof.KernelIdeal.Phase0

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The ring's messages at the printed slots -/

section Wrap
variable {c n : Dev nD} {qs qr q : DmaSem sig} {ks rs ss : List Msg} {l : List (Fin 40)} {bs : List Msg}

theorem start_F (h : Fin 3) (s : Fin 2) (h0 h1 : Fin 4) (i : ℕ) (e0 : h0 = h.castSucc) (e1 : h1 = h.succ) (ei : i = h.val)
    {src dst : Memref sig .tc .vmem S128x512 .bf16} {hsc hsrc hdst hsem}
    {α : Type} {Q : α → sProp 𝕄} {kk : PUnit → Prog (TpuEff nD τ sig (Elt F) Λ₀ .tc) α}
    (hn : n = rt c) (hqs : qs = dsem (Msg.F h s).sIx) (hqr : qr = dsem (Msg.F h s).rIx) (hs : src = ringSlot fM h0 s) (hd : dst = ringSlot fM h1 s) :
    iprop(core m ρ c (.F h s :: ks) rs ss l bs ∗ holds c (ringSlot fM h0 s) (vF m ρ i s c))
    ⊢ iprop((core m ρ c ks rs (.F h s :: ss) l bs -∗ run c (kk ⟨⟩) Q)
      -∗ run c (.op (.enqueueDma src (.remote (Dev.tc n : Thread nD τ) dst (.dma qs) hsc) (.dma qr) hsrc hdst hsem) kk) Q) := by
  subst e0 e1 ei
  exact send_F m ρ h s hn hqs hqr hs hd
theorem start_B (h : Fin 3) (s : Fin 2) (h0 h1 : Fin 4) (i : ℕ) (e0 : h0 = h.castSucc) (e1 : h1 = h.succ) (ei : i = h.val)
    {src dst : Memref sig .tc .vmem S128x512 .bf16} {hsc hsrc hdst hsem}
    {α : Type} {Q : α → sProp 𝕄} {kk : PUnit → Prog (TpuEff nD τ sig (Elt F) Λ₀ .tc) α}
    (hn : n = lt c) (hqs : qs = dsem (Msg.B h s).sIx) (hqr : qr = dsem (Msg.B h s).rIx) (hs : src = ringSlot bM h0 s) (hd : dst = ringSlot bM h1 s) :
    iprop(core m ρ c (.B h s :: ks) rs ss l bs ∗ holds c (ringSlot bM h0 s) (vB m ρ i s c))
    ⊢ iprop((core m ρ c ks rs (.B h s :: ss) l bs -∗ run c (kk ⟨⟩) Q)
      -∗ run c (.op (.enqueueDma src (.remote (Dev.tc n : Thread nD τ) dst (.dma qs) hsc) (.dma qr) hsrc hdst hsem) kk) Q) := by
  subst e0 e1 ei
  exact send_B m ρ h s hn hqs hqr hs hd

/-- Await message `F h s`: its slot, with what the left neighbour sent. -/
theorem await_F (h : Fin 3) (s : Fin 2) (h1 : Fin 4) (i : ℕ) (e1 : h1 = h.succ) (ei : i = h.val)
    {sp' : Space} {s' : Shape} {e' : EltTy} {src : Memref sig .tc sp' s' e'} {dst : Memref sig .tc .vmem S128x512 .bf16} {hsrc hdst}
    {α : Type} {Q : α → sProp 𝕄} {kk : PUnit → Prog (TpuEff nD τ sig (Elt F) Λ₀ .tc) α}
    (hq : q = dsem (Msg.F h s).rIx) (hd : dst = ringSlot fM h1 s) (hlev : ∀ k' ∈ ks, rlv c (.F h s) < rlv (k'.dst c) k') :
    core m ρ c ks (.F h s :: rs) ss l bs
    ⊢ iprop((core m ρ c ks rs ss ((Msg.F h s).rIx :: l) bs ∗ holds c (ringSlot fM h1 s) (vF m ρ i s (lt c)) -∗ run c (kk ⟨⟩) Q)
      -∗ run c (.op (.waitDma2 q src dst hsrc hdst) kk) Q) := by
  subst e1 ei hd
  exact core_recv m ρ (k := .F h s) rfl hq (amt_ring fM _ s (.inl rfl)) hlev
/-- Await message `B h s`: its slot, with what the right neighbour sent. -/
theorem await_B (h : Fin 3) (s : Fin 2) (h1 : Fin 4) (i : ℕ) (e1 : h1 = h.succ) (ei : i = h.val)
    {sp' : Space} {s' : Shape} {e' : EltTy} {src : Memref sig .tc sp' s' e'} {dst : Memref sig .tc .vmem S128x512 .bf16} {hsrc hdst}
    {α : Type} {Q : α → sProp 𝕄} {kk : PUnit → Prog (TpuEff nD τ sig (Elt F) Λ₀ .tc) α}
    (hq : q = dsem (Msg.B h s).rIx) (hd : dst = ringSlot bM h1 s) (hlev : ∀ k' ∈ ks, rlv c (.B h s) < rlv (k'.dst c) k') :
    core m ρ c ks (.B h s :: rs) ss l bs
    ⊢ iprop((core m ρ c ks rs ss ((Msg.B h s).rIx :: l) bs ∗ holds c (ringSlot bM h1 s) (vB m ρ i s (rt c)) -∗ run c (kk ⟨⟩) Q)
      -∗ run c (.op (.waitDma2 q src dst hsrc hdst) kk) Q) := by
  subst e1 ei hd
  exact core_recv m ρ (k := .B h s) rfl hq (amt_ring bM _ s (.inr rfl)) hlev

variable {α : Type}
theorem get_ring (M : Memref sig .tc .vmem S4x2x128x512 .bf16) (h : Fin 4) (s : Fin 2) {V : Vec F S128x512 .bf16} {o : Fin 4 → ℕ} {io hl} (ho : o = ![h.val, s.val, 0, 0])
    {Q : α → sProp 𝕄} {kk : Vec F S1x1x128x512 .bf16 → Prog (TpuEff nD τ sig (Elt F) Λ₀ .tc) α} :
    (holds c (ringSlot M h s) V : sProp 𝕄)
    ⊢ iprop((holds c (ringSlot M h s) V -∗ run c (kk (shapeCast S1x1x128x512 V shapeCasts_S128x512_S1x1x128x512)) Q)
      -∗ run c (.op (.load M (Rect.unit (s := S4x2x128x512) o S1x1x128x512.size io).toLoadRect hl) kk) Q) := by
  subst ho
  exact load_ring M h s
theorem set_ring (M : Memref sig .tc .vmem S4x2x128x512 .bf16) (h : Fin 4) (s : Fin 2) {V : Vec F S128x512 .bf16} (X : Vec F S128x512 .bf16) {o : Fin 4 → ℕ} {io}
    {w : Vec F S1x1x128x512 .bf16} {hx hm} (ho : o = ![h.val, s.val, 0, 0]) (hX : shapeCast S128x512 w shapeCasts_S1x1x128x512_S128x512 = X)
    {Q : α → sProp 𝕄} {kk : PUnit → Prog (TpuEff nD τ sig (Elt F) Λ₀ .tc) α} :
    (holds c (ringSlot M h s) V : sProp 𝕄)
    ⊢ iprop((holds c (ringSlot M h s) X -∗ run c (kk ⟨⟩) Q)
      -∗ run c (.op (.store M (Rect.unit (s := S4x2x128x512) o S1x1x128x512.size io) w Finset.univ hx hm) kk) Q) := by
  subst ho
  exact store_ring M h s X hX
/-- A load whose value is not used. -/
theorem load_it {s : Shape} {e : EltTy} {M : Memref sig .tc .vmem s e} {V : s.Idx → Elt F e} {r : LoadRect s} {hl}
    {Q : α → sProp 𝕄} {kk : (r.shape.Idx → Elt F e) → Prog (TpuEff nD τ sig (Elt F) Λ₀ .tc) α} :
    (holds c M V : sProp 𝕄) ⊢ iprop((holds c M V -∗ run c (kk fun j => V (r.idx j)) Q) -∗ run c (.op (.load M r hl) kk) Q) :=
  load_rect (fun j => V (r.idx j)) (fun _ => rfl)

end Wrap

/-! ## The values -/

/-- The quarter that lies `n` places on from the device's own. -/
abbrev Qt (c : Dev nD) (n : ℕ) : FVec F S256x1024 .f32 := k0_pay31 (permQ m ρ c (q4 (c.val % 4 + n))) (wv m ρ c)
/-- The same rows of the permuted copy. -/
abbrev Pt (c : Dev nD) (n : ℕ) : Vec F S256x64 .f32 := permQ m ρ c (q4 (c.val % 4 + n))
/-- A received message with a term added. -/
def hop (V : FVec F S128x512 .bf16) (H : FVec F S128x512 .f32) : FVec F S128x512 .bf16 :=
  truncf .bf16 (addf (extf .f32 V bitsLt_bf16_f32) H) bitsLt_bf16_f32
/-- A slot's value at the shape it is loaded with. -/
abbrev inSlot (V : FVec F S128x512 .bf16) : FVec F S1x1x128x512 .bf16 := shapeCast S1x1x128x512 V shapeCasts_S128x512_S1x1x128x512

theorem slot_cast {β : Type} (V : S128x512.Idx → β) (h : S128x512.ShapeCasts S1x1x128x512) (h' : S1x1x128x512.ShapeCasts S128x512) :
    shapeCast S128x512 (shapeCast S1x1x128x512 V h) h' = V :=
  shapeCast_shapeCast V h h'

theorem pay32_eq (a : Vec F S256x64 .f32) (b : Vec F S64x1024 .f32) : k0_pay32 a b = k0_pay31 a b := rfl
theorem pay38_eq (a : Vec F S256x64 .f32) (b : Vec F S64x1024 .f32) : k0_pay38 a b = k0_pay31 a b := rfl
theorem pay45_eq (a : Vec F S256x64 .f32) (b : Vec F S64x1024 .f32) : k0_pay45 a b = k0_pay31 a b := rfl
theorem pay46_eq (a : Vec F S256x64 .f32) (b : Vec F S64x1024 .f32) : k0_pay46 a b = k0_pay31 a b := rfl
theorem pay53_eq (a : Vec F S256x64 .f32) (b : Vec F S64x1024 .f32) : k0_pay53 a b = k0_pay31 a b := rfl
theorem vF_zero (s : Fin 2) (c : Dev nD) : vF m ρ 0 s c = truncf .bf16 (halfL s (Qt m ρ c 3)) bitsLt_bf16_f32 := rfl
theorem vB_zero (s : Fin 2) (c : Dev nD) : vB m ρ 0 s c = truncf .bf16 (halfR s (Qt m ρ c 1)) bitsLt_bf16_f32 := rfl
theorem vF_one (s : Fin 2) (c : Dev nD) : vF m ρ 1 s c = hop (vF m ρ 0 s (lt c)) (halfL s (Qt m ρ c 6)) := rfl
theorem vB_one (s : Fin 2) (c : Dev nD) : vB m ρ 1 s c = hop (vB m ρ 0 s (rt c)) (halfR s (Qt m ρ c 6)) := by
  have e : q4 (c.val % 4 + 2 + 0) = q4 (c.val % 4 + 6) := by unfold q4; apply Fin.ext; show (_ % 4) = (_ % 4); omega
  show hop (vB m ρ 0 s (rt c)) (halfR s (quarter m ρ c (q4 (c.val % 4 + 2 + 0)))) = _
  rw [e]; rfl
theorem vF_two (s : Fin 2) (c : Dev nD) : vF m ρ 2 s c = hop (vF m ρ 1 s (lt c)) (halfL s (Qt m ρ c 5)) := by
  have e : q4 (c.val % 4 + 6 - 1) = q4 (c.val % 4 + 5) := by unfold q4; apply Fin.ext; show (_ % 4) = (_ % 4); omega
  show hop (vF m ρ 1 s (lt c)) (halfL s (quarter m ρ c (q4 (c.val % 4 + 6 - 1)))) = _
  rw [e]; rfl
theorem vB_two (s : Fin 2) (c : Dev nD) : vB m ρ 2 s c = hop (vB m ρ 1 s (rt c)) (halfR s (Qt m ρ c 3)) := rfl

theorem off1_3 : ∀ c : Dev nD, k0_off1 c 3#32 = ![256 * (q4 (c.val % 4 + 3)).val, 0] := by decide +kernel
theorem off1_1 : ∀ c : Dev nD, k0_off1 c 1#32 = ![256 * (q4 (c.val % 4 + 1)).val, 0] := by decide +kernel
theorem off2_0 : ∀ c : Dev nD, k0_off2 c 0#32 = ![256 * (q4 (c.val % 4 + 6)).val, 0] := by decide +kernel
theorem off2_1 : ∀ c : Dev nD, k0_off2 c 1#32 = ![256 * (q4 (c.val % 4 + 5)).val, 0] := by decide +kernel
theorem off2_2 : ∀ c : Dev nD, k0_off2 c 2#32 = ![256 * (q4 (c.val % 4 + 4)).val, 0] := by decide +kernel
theorem off3_ : ∀ c : Dev nD, k0_off3 c = ![256 * (q4 (c.val % 4 + 3)).val, 0] := by decide +kernel
theorem amt1_eq : ∀ c : Dev nD, (k0_amt1 c).toInt = (nNbr c : ℤ) := by decide +kernel

/-! ## The parts -/

section Parts
variable {c : Dev nD} {ks rs ss : List Msg} {l : List (Fin 40)} {bs : List Msg} {v2 v3 v20 v24 v27 v29 v32 v327 v330 : BitVec 32} {v124 : BitVec 1}

/-- The barrier is passed; the first two quarters' products; the first slot stored. -/
theorem part17 {V : FVec F S128x512 .bf16} {Q : (Σ' (v139 : FVec F S256x1024 .f32), FVec F S256x1024 .f32) → sProp 𝕄} :
    iprop(recs m ρ ∗ oweL c (Msg.ring ++ colOut c) ∗ barKit c ∗ kits c l ∗ ins m ρ c ∗ holds c (ringSlot fM 0 0) V)
    ⊢ iprop((core m ρ c (Msg.ring ++ colOut c) (Msg.ring ++ colIn c) [] l [] ∗ semVal (barCell c) 0 ∗ ins m ρ c ∗ holds c (ringSlot fM 0 0) (vF m ρ 0 0 c) -∗ Q ⟨Qt m ρ c 3, Qt m ρ c 1⟩)
      -∗ run c (onBufs (k0_part17 (F := F)) c v3 v20 (SemArray.scalar (sig.barrier 0 rfl)) v124) Q) := by
  simp only [onBufs, k0_part17_eq_skeleton]
  unfold k0_part17_skel
  simp only [semWaitWord, Prog.lift, Prog.bind_op, Prog.bind_ret, Prog.pure_eq_ret, pay32_eq, amt1_eq]
  iintro ⟨#HR, HO, HB, HK, HI, Hf00⟩
  iintro Hk
  iapply (step_bar m ρ (l := l) (n := nNbr c) rfl) $$ [HO HB HK]
  · isplitr; · iexact HR
    isplitl [HO]; · iexact HO
    isplitl [HB]; · iexact HB
    iexact HK
  iintro ⟨HC, HB⟩
  iapply (load_quarter m ρ (q4 (c.val % 4 + 3)) (off1_3 c)) $$ HI; iintro HI
  iapply (load_w m ρ) $$ HI; iintro HI
  iapply (load_quarter m ρ (q4 (c.val % 4 + 1)) (off1_1 c)) $$ HI; iintro HI
  iapply (load_w m ρ) $$ HI; iintro HI
  iapply (get_ring fM 0 0 rfl) $$ Hf00; iintro Hf00
  iapply (set_ring fM 0 0 (vF m ρ 0 0 c) rfl (slot_cast _ _ _)) $$ Hf00; iintro Hf00
  iapply run_ret
  iapply Hk
  isplitl [HC]; · iexact HC
  isplitl [HB]; · iexact HB
  isplitl [HI]; · iexact HI
  iexact Hf00

/-- Messages `F 0 0` and `B 0 0` start. -/
theorem part18 {V V' : FVec F S128x512 .bf16} {Q : (Σ' (v177 : FVec F S128x512 .bf16), Vec F S1x1x128x512 .bf16) → sProp 𝕄} :
    iprop(core m ρ c (.F 0 0 :: .B 0 0 :: ks) rs ss l bs ∗ holds c (ringSlot fM 0 0) (vF m ρ 0 0 c) ∗ holds c (ringSlot bM 0 0) V ∗ holds c (ringSlot fM 0 1) V')
    ⊢ iprop((∀ w, core m ρ c ks rs (.B 0 0 :: .F 0 0 :: ss) l bs ∗ holds c (ringSlot fM 0 1) V' -∗ Q ⟨k0_pay35 (Qt m ρ c 3), w⟩)
      -∗ run c (onBufs (k0_part18 (F := F)) c v24 v27 (Qt m ρ c 3) (Qt m ρ c 1)) Q) := by
  simp only [onBufs, k0_part18_eq_skeleton]
  unfold k0_part18_skel
  simp only [semWaitWord, Prog.lift, Prog.bind_op, Prog.bind_ret, Prog.pure_eq_ret]
  iintro ⟨HC, Hf00, Hb00, Hf01⟩
  iintro Hk
  iapply (start_F m ρ 0 0 0 1 0 rfl rfl rfl (dev5_eq c) rfl rfl rfl rfl) $$ [HC Hf00]
  · isplitl [HC]; · iexact HC
    iexact Hf00
  iintro HC
  iapply (get_ring bM 0 0 rfl) $$ Hb00; iintro Hb00
  iapply (set_ring bM 0 0 (vB m ρ 0 0 c) rfl (slot_cast _ _ _)) $$ Hb00; iintro Hb00
  iapply (start_B m ρ 0 0 0 1 0 rfl rfl rfl (dev6_eq c) rfl rfl rfl rfl) $$ [HC Hb00]
  · isplitl [HC]; · iexact HC
    iexact Hb00
  iintro HC
  iapply (get_ring fM 0 1 rfl) $$ Hf01; iintro Hf01
  iapply run_ret
  iapply Hk
  isplitl [HC]; · iexact HC
  iexact Hf01

/-- Message `F 0 1` starts. -/
theorem part19 {w : Vec F S1x1x128x512 .bf16} {V V' : FVec F S128x512 .bf16} {Q : PUnit → sProp 𝕄} :
    iprop(core m ρ c (.F 0 1 :: ks) rs ss l bs ∗ holds c (ringSlot fM 0 1) V ∗ holds c (ringSlot bM 0 1) V')
    ⊢ iprop((core m ρ c ks rs (.F 0 1 :: ss) l bs ∗ holds c (ringSlot bM 0 1) (vB m ρ 0 1 c) -∗ Q ⟨⟩)
      -∗ run c (onBufs (k0_part19 (F := F)) c v24 v27 (Qt m ρ c 1) (k0_pay35 (Qt m ρ c 3)) w) Q) := by
  simp only [onBufs, k0_part19_eq_skeleton]
  unfold k0_part19_skel
  simp only [semWaitWord, Prog.lift, Prog.bind_op, Prog.bind_ret, Prog.pure_eq_ret]
  iintro ⟨HC, Hf01, Hb01⟩
  iintro Hk
  iapply (set_ring fM 0 1 (vF m ρ 0 1 c) rfl (slot_cast _ _ _)) $$ Hf01; iintro Hf01
  iapply (start_F m ρ 0 1 0 1 0 rfl rfl rfl (dev7_eq c) rfl rfl rfl rfl) $$ [HC Hf01]
  · isplitl [HC]; · iexact HC
    iexact Hf01
  iintro HC
  iapply (get_ring bM 0 1 rfl) $$ Hb01; iintro Hb01
  iapply (set_ring bM 0 1 (vB m ρ 0 1 c) rfl (slot_cast _ _ _)) $$ Hb01; iintro Hb01
  iapply run_ret
  iapply Hk
  isplitl [HC]; · iexact HC
  iexact Hb01

/-- Message `B 0 1` starts; `F 0 0` arrives. -/
theorem part20 (hl : ∀ k' ∈ ks, rlv c (.F 0 0) < rlv (k'.dst c) k') {Q : (Σ' (v215 : FVec F S256x1024 .f32) (v229 : FVec F S128x512 .bf16), Vec F S1x1x128x512 .bf16) → sProp 𝕄} :
    iprop(core m ρ c (.B 0 1 :: ks) (.F 0 0 :: rs) ss l bs ∗ ins m ρ c ∗ holds c (ringSlot bM 0 1) (vB m ρ 0 1 c))
    ⊢ iprop((∀ w, core m ρ c ks rs (.B 0 1 :: ss) ((Msg.F 0 0).rIx :: l) bs ∗ ins m ρ c ∗ holds c (ringSlot fM 1 0) (vF m ρ 0 0 (lt c)) -∗ Q ⟨Qt m ρ c 6, k0_pay39 (Pt m ρ c 6) (wv m ρ c) (inSlot (vF m ρ 0 0 (lt c))), w⟩)
      -∗ run c (onBufs (k0_part20 (F := F)) c v3 v24) Q) := by
  simp only [onBufs, k0_part20_eq_skeleton]
  unfold k0_part20_skel
  simp only [semWaitWord, Prog.lift, Prog.bind_op, Prog.bind_ret, Prog.pure_eq_ret, pay38_eq]
  iintro ⟨HC, HI, Hb01⟩
  iintro Hk
  iapply (start_B m ρ 0 1 0 1 0 rfl rfl rfl (dev8_eq c) rfl rfl rfl rfl) $$ [HC Hb01]
  · isplitl [HC]; · iexact HC
    iexact Hb01
  iintro HC
  iapply (load_quarter m ρ (q4 (c.val % 4 + 6)) (off2_0 c)) $$ HI; iintro HI
  iapply (load_w m ρ) $$ HI; iintro HI
  iapply (await_F m ρ 0 0 1 0 rfl rfl rfl rfl hl) $$ HC
  iintro ⟨HC, Hf10⟩
  iapply (get_ring fM 1 0 rfl) $$ Hf10; iintro Hf10
  iapply (get_ring fM 1 0 rfl) $$ Hf10; iintro Hf10
  iapply run_ret
  iapply Hk
  isplitl [HC]; · iexact HC
  isplitl [HI]; · iexact HI
  iexact Hf10

/-- Message `F 1 0` starts; `B 0 0` arrives. -/
theorem part21 {w : Vec F S1x1x128x512 .bf16} (hl : ∀ k' ∈ ks, rlv c (.B 0 0) < rlv (k'.dst c) k') {Q : FVec F S128x512 .f32 → sProp 𝕄} :
    iprop(core m ρ c (.F 1 0 :: ks) (.B 0 0 :: rs) ss l bs ∗ holds c (ringSlot fM 1 0) (vF m ρ 0 0 (lt c)))
    ⊢ iprop((core m ρ c ks rs (.F 1 0 :: ss) ((Msg.B 0 0).rIx :: l) bs ∗ holds c (ringSlot bM 1 0) (vB m ρ 0 0 (rt c)) -∗ Q (k0_pay41 (Qt m ρ c 6) (inSlot (vB m ρ 0 0 (rt c)))))
      -∗ run c (onBufs (k0_part21 (F := F)) c v24 v27 (Qt m ρ c 6) (k0_pay39 (Pt m ρ c 6) (wv m ρ c) (inSlot (vF m ρ 0 0 (lt c)))) w) Q) := by
  simp only [onBufs, k0_part21_eq_skeleton]
  unfold k0_part21_skel
  simp only [semWaitWord, Prog.lift, Prog.bind_op, Prog.bind_ret, Prog.pure_eq_ret]
  iintro ⟨HC, Hf10⟩
  iintro Hk
  iapply (set_ring fM 1 0 (vF m ρ 1 0 c) rfl (by simp only [vF_one, k0_pay40, k0_pay39, pay38_eq, slot_cast]; rfl)) $$ Hf10; iintro Hf10
  iapply (start_F m ρ 1 0 1 2 1 rfl rfl rfl (dev9_eq c) rfl rfl rfl rfl) $$ [HC Hf10]
  · isplitl [HC]; · iexact HC
    iexact Hf10
  iintro HC
  iapply (await_B m ρ 0 0 1 0 rfl rfl rfl rfl hl) $$ HC
  iintro ⟨HC, Hb10⟩
  iapply (get_ring bM 1 0 rfl) $$ Hb10; iintro Hb10
  iapply run_ret
  iapply Hk
  isplitl [HC]; · iexact HC
  iexact Hb10

/-- Message `B 1 0` starts; `F 0 1` arrives. -/
theorem part22 (hl : ∀ k' ∈ ks, rlv c (.F 0 1) < rlv (k'.dst c) k') {Q : PUnit → sProp 𝕄} :
    iprop(core m ρ c (.B 1 0 :: ks) (.F 0 1 :: rs) ss l bs ∗ holds c (ringSlot bM 1 0) (vB m ρ 0 0 (rt c)))
    ⊢ iprop((core m ρ c ks rs (.B 1 0 :: ss) ((Msg.F 0 1).rIx :: l) bs ∗ holds c (ringSlot fM 1 1) (vF m ρ 0 1 (lt c)) -∗ Q ⟨⟩)
      -∗ run c (onBufs (k0_part22 (F := F)) c v24 v27 (k0_pay41 (Qt m ρ c 6) (inSlot (vB m ρ 0 0 (rt c))))) Q) := by
  simp only [onBufs, k0_part22_eq_skeleton]
  unfold k0_part22_skel
  simp only [semWaitWord, Prog.lift, Prog.bind_op, Prog.bind_ret, Prog.pure_eq_ret]
  iintro ⟨HC, Hb10⟩
  iintro Hk
  iapply (get_ring bM 1 0 rfl) $$ Hb10; iintro Hb10
  iapply (set_ring bM 1 0 (vB m ρ 1 0 c) rfl (by simp only [vB_one, k0_pay42, k0_pay41, slot_cast]; rfl)) $$ Hb10; iintro Hb10
  iapply (start_B m ρ 1 0 1 2 1 rfl rfl rfl (dev10_eq c) rfl rfl rfl rfl) $$ [HC Hb10]
  · isplitl [HC]; · iexact HC
    iexact Hb10
  iintro HC
  iapply (await_F m ρ 0 1 1 0 rfl rfl rfl rfl hl) $$ HC
  iintro ⟨HC, Hf11⟩
  iapply run_ret
  iapply Hk
  isplitl [HC]; · iexact HC
  iexact Hf11

/-- Message `F 1 1` starts. -/
theorem part23  {Q : PUnit → sProp 𝕄} :
    iprop(core m ρ c (.F 1 1 :: ks) rs ss l bs ∗ holds c (ringSlot fM 1 1) (vF m ρ 0 1 (lt c)))
    ⊢ iprop((core m ρ c ks rs (.F 1 1 :: ss) l bs -∗ Q ⟨⟩)
      -∗ run c (onBufs (k0_part23 (F := F)) c v24 v27 (Qt m ρ c 6)) Q) := by
  simp only [onBufs, k0_part23_eq_skeleton]
  unfold k0_part23_skel
  simp only [semWaitWord, Prog.lift, Prog.bind_op, Prog.bind_ret, Prog.pure_eq_ret]
  iintro ⟨HC, Hf11⟩
  iintro Hk
  iapply (get_ring fM 1 1 rfl) $$ Hf11; iintro Hf11
  iapply (get_ring fM 1 1 rfl) $$ Hf11; iintro Hf11
  iapply (set_ring fM 1 1 (vF m ρ 1 1 c) rfl (by simp only [vF_one, k0_pay43, slot_cast]; rfl)) $$ Hf11; iintro Hf11
  iapply (start_F m ρ 1 1 1 2 1 rfl rfl rfl (dev11_eq c) rfl rfl rfl rfl) $$ [HC Hf11]
  · isplitl [HC]; · iexact HC
    iexact Hf11
  iintro HC
  iapply run_ret
  iapply Hk
  iexact HC

/-- `B 0 1` arrives; message `B 1 1` starts. -/
theorem part24 (hl : ∀ k' ∈ (Msg.B 1 1 :: ks), rlv c (.B 0 1) < rlv (k'.dst c) k') {Q : (Σ' (v327 : BitVec 32), BitVec 32) → sProp 𝕄} :
    iprop(core m ρ c (.B 1 1 :: ks) (.B 0 1 :: rs) ss l bs)
    ⊢ iprop((∀ w w', core m ρ c ks rs (.B 1 1 :: ss) ((Msg.B 0 1).rIx :: l) bs -∗ Q ⟨w, w'⟩)
      -∗ run c (onBufs (k0_part24 (F := F)) c v3 v27 (Qt m ρ c 6)) Q) := by
  simp only [onBufs, k0_part24_eq_skeleton]
  unfold k0_part24_skel
  simp only [semWaitWord, Prog.lift, Prog.bind_op, Prog.bind_ret, Prog.pure_eq_ret]
  iintro HC
  iintro Hk
  iapply (await_B m ρ 0 1 1 0 rfl rfl rfl rfl hl) $$ HC
  iintro ⟨HC, Hb11⟩
  iapply (get_ring bM 1 1 rfl) $$ Hb11; iintro Hb11
  iapply (get_ring bM 1 1 rfl) $$ Hb11; iintro Hb11
  iapply (set_ring bM 1 1 (vB m ρ 1 1 c) rfl (by simp only [vB_one, k0_pay44, slot_cast]; rfl)) $$ Hb11; iintro Hb11
  iapply (start_B m ρ 1 1 1 2 1 rfl rfl rfl (dev12_eq c) rfl rfl rfl rfl) $$ [HC Hb11]
  · isplitl [HC]; · iexact HC
    iexact Hb11
  iintro HC
  iapply run_ret
  iapply Hk
  iexact HC

/-- The next two quarters' products; `F 1 0` arrives. -/
theorem part25 (hl : ∀ k' ∈ ks, rlv c (.F 1 0) < rlv (k'.dst c) k') {Q : (Σ' (v336 : FVec F S256x1024 .f32) (v342 : FVec F S256x1024 .f32) (v356 : FVec F S128x512 .bf16), Vec F S1x1x128x512 .bf16) → sProp 𝕄} :
    iprop(core m ρ c ks (.F 1 0 :: rs) ss l bs ∗ ins m ρ c)
    ⊢ iprop((∀ w, core m ρ c ks rs ss ((Msg.F 1 0).rIx :: l) bs ∗ ins m ρ c ∗ holds c (ringSlot fM 2 0) (vF m ρ 1 0 (lt c)) -∗ Q ⟨Qt m ρ c 5, Qt m ρ c 3, k0_pay47 (Pt m ρ c 5) (wv m ρ c) (inSlot (vF m ρ 1 0 (lt c))), w⟩)
      -∗ run c (onBufs (k0_part25 (F := F)) c v24 v327 v330) Q) := by
  simp only [onBufs, k0_part25_eq_skeleton]
  unfold k0_part25_skel
  simp only [semWaitWord, Prog.lift, Prog.bind_op, Prog.bind_ret, Prog.pure_eq_ret, pay45_eq, pay46_eq]
  iintro ⟨HC, HI⟩
  iintro Hk
  iapply (load_quarter m ρ (q4 (c.val % 4 + 5)) (off2_1 c)) $$ HI; iintro HI
  iapply (load_w m ρ) $$ HI; iintro HI
  iapply (load_quarter m ρ (q4 (c.val % 4 + 3)) (off3_ c)) $$ HI; iintro HI
  iapply (load_w m ρ) $$ HI; iintro HI
  iapply (await_F m ρ 1 0 2 1 rfl rfl rfl rfl hl) $$ HC
  iintro ⟨HC, Hf20⟩
  iapply (get_ring fM 2 0 rfl) $$ Hf20; iintro Hf20
  iapply (get_ring fM 2 0 rfl) $$ Hf20; iintro Hf20
  iapply run_ret
  iapply Hk
  isplitl [HC]; · iexact HC
  isplitl [HI]; · iexact HI
  iexact Hf20

/-- Message `F 2 0` starts; `B 1 0` arrives. -/
theorem part26 {w : Vec F S1x1x128x512 .bf16} (hl : ∀ k' ∈ ks, rlv c (.B 1 0) < rlv (k'.dst c) k') {Q : FVec F S128x512 .f32 → sProp 𝕄} :
    iprop(core m ρ c (.F 2 0 :: ks) (.B 1 0 :: rs) ss l bs ∗ holds c (ringSlot fM 2 0) (vF m ρ 1 0 (lt c)))
    ⊢ iprop((core m ρ c ks rs (.F 2 0 :: ss) ((Msg.B 1 0).rIx :: l) bs ∗ holds c (ringSlot bM 2 0) (vB m ρ 1 0 (rt c)) -∗ Q (k0_pay49 (Qt m ρ c 3) (inSlot (vB m ρ 1 0 (rt c)))))
      -∗ run c (onBufs (k0_part26 (F := F)) c v24 v27 (Qt m ρ c 3) (k0_pay47 (Pt m ρ c 5) (wv m ρ c) (inSlot (vF m ρ 1 0 (lt c)))) w) Q) := by
  simp only [onBufs, k0_part26_eq_skeleton]
  unfold k0_part26_skel
  simp only [semWaitWord, Prog.lift, Prog.bind_op, Prog.bind_ret, Prog.pure_eq_ret]
  iintro ⟨HC, Hf20⟩
  iintro Hk
  iapply (set_ring fM 2 0 (vF m ρ 2 0 c) rfl (by simp only [vF_two, k0_pay48, k0_pay47, pay45_eq, slot_cast]; rfl)) $$ Hf20; iintro Hf20
  iapply (start_F m ρ 2 0 2 3 2 rfl rfl rfl (dev13_eq c) rfl rfl rfl rfl) $$ [HC Hf20]
  · isplitl [HC]; · iexact HC
    iexact Hf20
  iintro HC
  iapply (await_B m ρ 1 0 2 1 rfl rfl rfl rfl hl) $$ HC
  iintro ⟨HC, Hb20⟩
  iapply (get_ring bM 2 0 rfl) $$ Hb20; iintro Hb20
  iapply run_ret
  iapply Hk
  isplitl [HC]; · iexact HC
  iexact Hb20

/-- Message `B 2 0` starts; `F 1 1` arrives. -/
theorem part27 (hl : ∀ k' ∈ ks, rlv c (.F 1 1) < rlv (k'.dst c) k') {Q : PUnit → sProp 𝕄} :
    iprop(core m ρ c (.B 2 0 :: ks) (.F 1 1 :: rs) ss l bs ∗ holds c (ringSlot bM 2 0) (vB m ρ 1 0 (rt c)))
    ⊢ iprop((core m ρ c ks rs (.B 2 0 :: ss) ((Msg.F 1 1).rIx :: l) bs ∗ holds c (ringSlot fM 2 1) (vF m ρ 1 1 (lt c)) -∗ Q ⟨⟩)
      -∗ run c (onBufs (k0_part27 (F := F)) c v24 v27 (k0_pay49 (Qt m ρ c 3) (inSlot (vB m ρ 1 0 (rt c))))) Q) := by
  simp only [onBufs, k0_part27_eq_skeleton]
  unfold k0_part27_skel
  simp only [semWaitWord, Prog.lift, Prog.bind_op, Prog.bind_ret, Prog.pure_eq_ret]
  iintro ⟨HC, Hb20⟩
  iintro Hk
  iapply (get_ring bM 2 0 rfl) $$ Hb20; iintro Hb20
  iapply (set_ring bM 2 0 (vB m ρ 2 0 c) rfl (by simp only [vB_two, k0_pay50, k0_pay49, slot_cast]; rfl)) $$ Hb20; iintro Hb20
  iapply (start_B m ρ 2 0 2 3 2 rfl rfl rfl (dev14_eq c) rfl rfl rfl rfl) $$ [HC Hb20]
  · isplitl [HC]; · iexact HC
    iexact Hb20
  iintro HC
  iapply (await_F m ρ 1 1 2 1 rfl rfl rfl rfl hl) $$ HC
  iintro ⟨HC, Hf21⟩
  iapply run_ret
  iapply Hk
  isplitl [HC]; · iexact HC
  iexact Hf21

/-- Message `F 2 1` starts. -/
theorem part28  {Q : PUnit → sProp 𝕄} :
    iprop(core m ρ c (.F 2 1 :: ks) rs ss l bs ∗ holds c (ringSlot fM 2 1) (vF m ρ 1 1 (lt c)))
    ⊢ iprop((core m ρ c ks rs (.F 2 1 :: ss) l bs -∗ Q ⟨⟩)
      -∗ run c (onBufs (k0_part28 (F := F)) c v24 v27 (Qt m ρ c 5)) Q) := by
  simp only [onBufs, k0_part28_eq_skeleton]
  unfold k0_part28_skel
  simp only [semWaitWord, Prog.lift, Prog.bind_op, Prog.bind_ret, Prog.pure_eq_ret]
  iintro ⟨HC, Hf21⟩
  iintro Hk
  iapply (get_ring fM 2 1 rfl) $$ Hf21; iintro Hf21
  iapply (get_ring fM 2 1 rfl) $$ Hf21; iintro Hf21
  iapply (set_ring fM 2 1 (vF m ρ 2 1 c) rfl (by simp only [vF_two, k0_pay51, slot_cast]; rfl)) $$ Hf21; iintro Hf21
  iapply (start_F m ρ 2 1 2 3 2 rfl rfl rfl (dev15_eq c) rfl rfl rfl rfl) $$ [HC Hf21]
  · isplitl [HC]; · iexact HC
    iexact Hf21
  iintro HC
  iapply run_ret
  iapply Hk
  iexact HC

/-- `B 1 1` arrives; message `B 2 1` starts. -/
theorem part29 (hl : ∀ k' ∈ (Msg.B 2 1 :: ks), rlv c (.B 1 1) < rlv (k'.dst c) k') {Q : Vec F S256x64 .f32 → sProp 𝕄} :
    iprop(core m ρ c (.B 2 1 :: ks) (.B 1 1 :: rs) ss l bs ∗ ins m ρ c)
    ⊢ iprop((core m ρ c ks rs (.B 2 1 :: ss) ((Msg.B 1 1).rIx :: l) bs ∗ ins m ρ c -∗ Q (Pt m ρ c 4))
      -∗ run c (onBufs (k0_part29 (F := F)) c v3 v27 (Qt m ρ c 3)) Q) := by
  simp only [onBufs, k0_part29_eq_skeleton]
  unfold k0_part29_skel
  simp only [semWaitWord, Prog.lift, Prog.bind_op, Prog.bind_ret, Prog.pure_eq_ret]
  iintro ⟨HC, HI⟩
  iintro Hk
  iapply (await_B m ρ 1 1 2 1 rfl rfl rfl rfl hl) $$ HC
  iintro ⟨HC, Hb21⟩
  iapply (get_ring bM 2 1 rfl) $$ Hb21; iintro Hb21
  iapply (get_ring bM 2 1 rfl) $$ Hb21; iintro Hb21
  iapply (set_ring bM 2 1 (vB m ρ 2 1 c) rfl (by simp only [vB_two, k0_pay52, slot_cast]; rfl)) $$ Hb21; iintro Hb21
  iapply (start_B m ρ 2 1 2 3 2 rfl rfl rfl (dev16_eq c) rfl rfl rfl rfl) $$ [HC Hb21]
  · isplitl [HC]; · iexact HC
    iexact Hb21
  iintro HC
  iapply (load_quarter m ρ (q4 (c.val % 4 + 4)) (off2_2 c)) $$ HI; iintro HI
  iapply run_ret
  iapply Hk
  isplitl [HC]; · iexact HC
  iexact HI

/-- The last quarter's product; `F 2 0` arrives; the first quarter of the ring's result stored. -/
theorem part30 {f : Vec F S256x1024 .f32} (hl : ∀ k' ∈ ks, rlv c (.F 2 0) < rlv (k'.dst c) k') {Q : FVec F S256x1024 .f32 → sProp 𝕄} :
    iprop(core m ρ c ks (.F 2 0 :: rs) ss l bs ∗ ins m ρ c ∗ holds c rM (rPart m ρ c f 0))
    ⊢ iprop((core m ρ c ks rs ss ((Msg.F 2 0).rIx :: l) bs ∗ ins m ρ c ∗ holds c rM (rPart m ρ c f 1) ∗ holds c (ringSlot fM 3 0) (vF m ρ 2 0 (lt c)) -∗ Q (Qt m ρ c 4))
      -∗ run c (onBufs (k0_part30 (F := F)) v24 v27 (Pt m ρ c 4)) Q) := by
  simp only [onBufs, k0_part30_eq_skeleton]
  unfold k0_part30_skel
  simp only [semWaitWord, Prog.lift, Prog.bind_op, Prog.bind_ret, Prog.pure_eq_ret, pay53_eq]
  iintro ⟨HC, HI, Hr⟩
  iintro Hk
  iapply (load_w m ρ) $$ HI; iintro HI
  iapply (await_F m ρ 2 0 3 2 rfl rfl rfl rfl hl) $$ HC
  iintro ⟨HC, Hf30⟩
  iapply (get_ring fM 3 0 rfl) $$ Hf30; iintro Hf30
  iapply load_it $$ Hr; iintro Hr
  iapply (store_r m ρ 0 0 0 rfl rfl (.inl ⟨rfl, by simp only [k0_pay54, pay53_eq, slot_cast, shapeCast_self]; rfl⟩)) $$ Hr; iintro Hr
  iapply run_ret
  iapply Hk
  isplitl [HC]; · iexact HC
  isplitl [HI]; · iexact HI
  isplitl [Hr]; · iexact Hr
  iexact Hf30

/-- `B 2 0` and `F 2 1` arrive; the next two quarters of the ring's result stored. -/
theorem part31 {f : Vec F S256x1024 .f32} (hl : ∀ k' ∈ ks, rlv c (.B 2 0) < rlv (k'.dst c) k') (hl' : ∀ k' ∈ ks, rlv c (.F 2 1) < rlv (k'.dst c) k') {Q : PUnit → sProp 𝕄} :
    iprop(core m ρ c ks (.B 2 0 :: .F 2 1 :: rs) ss l bs ∗ holds c rM (rPart m ρ c f 1))
    ⊢ iprop((core m ρ c ks rs ss ((Msg.F 2 1).rIx :: (Msg.B 2 0).rIx :: l) bs ∗ holds c rM (rPart m ρ c f 3) ∗ holds c (ringSlot bM 3 0) (vB m ρ 2 0 (rt c)) ∗ holds c (ringSlot fM 3 1) (vF m ρ 2 1 (lt c)) -∗ Q ⟨⟩)
      -∗ run c (onBufs (k0_part31 (F := F)) v24 (Qt m ρ c 4)) Q) := by
  simp only [onBufs, k0_part31_eq_skeleton]
  unfold k0_part31_skel
  simp only [semWaitWord, Prog.lift, Prog.bind_op, Prog.bind_ret, Prog.pure_eq_ret]
  iintro ⟨HC, Hr⟩
  iintro Hk
  iapply (await_B m ρ 2 0 3 2 rfl rfl rfl rfl hl) $$ HC
  iintro ⟨HC, Hb30⟩
  iapply (get_ring bM 3 0 rfl) $$ Hb30; iintro Hb30
  iapply load_it $$ Hr; iintro Hr
  iapply (store_r m ρ 1 0 1 rfl rfl (.inr ⟨rfl, by simp only [k0_pay55, pay53_eq, slot_cast, shapeCast_self]; rfl⟩)) $$ Hr; iintro Hr
  iapply (await_F m ρ 2 1 3 2 rfl rfl rfl rfl hl') $$ HC
  iintro ⟨HC, Hf31⟩
  iapply (get_ring fM 3 1 rfl) $$ Hf31; iintro Hf31
  iapply load_it $$ Hr; iintro Hr
  iapply (store_r m ρ 2 1 0 rfl rfl (.inl ⟨rfl, by simp only [k0_pay56, pay53_eq, slot_cast, shapeCast_self]; rfl⟩)) $$ Hr; iintro Hr
  iapply run_ret
  iapply Hk
  isplitl [HC]; · iexact HC
  isplitl [Hr]; · iexact Hr
  isplitl [Hb30]; · iexact Hb30
  iexact Hf31

end Parts

end Cert.KernelIdeal.Ring
-- ==== Proof.KernelIdeal.Column.lean ====
/- The column's parts of the body. -/
module

public import proofs.«01_k».proof.Proof.KernelIdeal.Ring

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The column's messages at the printed slots -/

section Wrap
variable {c n : Dev nD} {qs qr q : DmaSem sig} {ks rs ss : List Msg} {l : List (Fin 40)} {bs : List Msg} {α : Type}

/-- Await message `U d`: its slot, with what the previous row's device sent. -/
theorem await_U (d : Fin 4) {sp' : Space} {s' : Shape} {e' : EltTy} {src : Memref sig .tc sp' s' e'} {dst : Memref sig .tc .vmem S64x1024 .bf16} {hsrc hdst}
    {Q : α → sProp 𝕄} {kk : PUnit → Prog (TpuEff nD τ sig (Elt F) Λ₀ .tc) α}
    (hk : (Msg.U d).recvs c = true) (hq : q = dsem (Msg.U d).rIx) (hd : dst = colSlot uM d) (hlev : ∀ k' ∈ ks, rlv c (.U d) < rlv (k'.dst c) k') :
    core m ρ c ks (.U d :: rs) ss l bs
    ⊢ iprop((core m ρ c ks rs ss ((Msg.U d).rIx :: l) bs ∗ holds c (colSlot uM d) (vU m ρ (dn c) d) -∗ run c (kk ⟨⟩) Q)
      -∗ run c (.op (.waitDma2 q src dst hsrc hdst) kk) Q) := by
  subst hd
  exact core_recv m ρ (k := .U d) hk hq (amt_col uM _ (.inl rfl)) hlev
/-- Await message `D d`: its slot, with what the next row's device sent. -/
theorem await_D (d : Fin 4) {sp' : Space} {s' : Shape} {e' : EltTy} {src : Memref sig .tc sp' s' e'} {dst : Memref sig .tc .vmem S64x1024 .bf16} {hsrc hdst}
    {Q : α → sProp 𝕄} {kk : PUnit → Prog (TpuEff nD τ sig (Elt F) Λ₀ .tc) α}
    (hk : (Msg.D d).recvs c = true) (hq : q = dsem (Msg.D d).rIx) (hd : dst = colSlot dM d) (hlev : ∀ k' ∈ ks, rlv c (.D d) < rlv (k'.dst c) k') :
    core m ρ c ks (.D d :: rs) ss l bs
    ⊢ iprop((core m ρ c ks rs ss ((Msg.D d).rIx :: l) bs ∗ holds c (colSlot dM d) (vD m ρ (up c) d) -∗ run c (kk ⟨⟩) Q)
      -∗ run c (.op (.waitDma2 q src dst hsrc hdst) kk) Q) := by
  subst hd
  exact core_recv m ρ (k := .D d) hk hq (amt_col dM _ (.inr rfl)) hlev

/-- Wait until a started message has left: its slot is back. -/
theorem done_U (d : Fin 4) {sp' : Space} {s' : Shape} {e' : EltTy} {src : Memref sig .tc sp' s' e'} {dst : Memref sig .tc .vmem S64x1024 .bf16} {hsrc hdst}
    {Q : α → sProp 𝕄} {kk : PUnit → Prog (TpuEff nD τ sig (Elt F) Λ₀ .tc) α}
    (hk : (Msg.U d).sends c = true) (hq : q = dsem (Msg.U d).sIx) (hd : dst = colSlot uM d) (hp : ss.Perm (.U d :: rs)) (hn : ss.Nodup) :
    core m ρ c [] ks ss l bs
    ⊢ iprop((core m ρ c [] ks rs ((Msg.U d).sIx :: l) (.U d :: bs) -∗ run c (kk ⟨⟩) Q)
      -∗ run c (.op (.waitDma2 q src dst hsrc hdst) kk) Q) := by
  subst hd
  exact (core_perm m ρ hp hn).trans (core_done m ρ (k := .U d) hk hq (amt_col uM _ (.inl rfl)))
theorem done_D (d : Fin 4) {sp' : Space} {s' : Shape} {e' : EltTy} {src : Memref sig .tc sp' s' e'} {dst : Memref sig .tc .vmem S64x1024 .bf16} {hsrc hdst}
    {Q : α → sProp 𝕄} {kk : PUnit → Prog (TpuEff nD τ sig (Elt F) Λ₀ .tc) α}
    (hk : (Msg.D d).sends c = true) (hq : q = dsem (Msg.D d).sIx) (hd : dst = colSlot dM d) (hp : ss.Perm (.D d :: rs)) (hn : ss.Nodup) :
    core m ρ c [] ks ss l bs
    ⊢ iprop((core m ρ c [] ks rs ((Msg.D d).sIx :: l) (.D d :: bs) -∗ run c (kk ⟨⟩) Q)
      -∗ run c (.op (.waitDma2 q src dst hsrc hdst) kk) Q) := by
  subst hd
  exact (core_perm m ρ hp hn).trans (core_done m ρ (k := .D d) hk hq (amt_col dM _ (.inr rfl)))
theorem done_F (h : Fin 3) (s : Fin 2) (h' : Fin 4) {sp' : Space} {s' : Shape} {e' : EltTy} {src : Memref sig .tc sp' s' e'} {dst : Memref sig .tc .vmem S128x512 .bf16} {hsrc hdst}
    {Q : α → sProp 𝕄} {kk : PUnit → Prog (TpuEff nD τ sig (Elt F) Λ₀ .tc) α}
    (hq : q = dsem (Msg.F h s).sIx) (hd : dst = ringSlot fM h' s) (hp : ss.Perm (.F h s :: rs)) (hn : ss.Nodup) :
    core m ρ c [] ks ss l bs
    ⊢ iprop((core m ρ c [] ks rs ((Msg.F h s).sIx :: l) (.F h s :: bs) -∗ run c (kk ⟨⟩) Q)
      -∗ run c (.op (.waitDma2 q src dst hsrc hdst) kk) Q) := by
  subst hd
  exact (core_perm m ρ hp hn).trans (core_done m ρ (k := .F h s) rfl hq (amt_ring fM _ s (.inl rfl)))
theorem done_B (h : Fin 3) (s : Fin 2) (h' : Fin 4) {sp' : Space} {s' : Shape} {e' : EltTy} {src : Memref sig .tc sp' s' e'} {dst : Memref sig .tc .vmem S128x512 .bf16} {hsrc hdst}
    {Q : α → sProp 𝕄} {kk : PUnit → Prog (TpuEff nD τ sig (Elt F) Λ₀ .tc) α}
    (hq : q = dsem (Msg.B h s).sIx) (hd : dst = ringSlot bM h' s) (hp : ss.Perm (.B h s :: rs)) (hn : ss.Nodup) :
    core m ρ c [] ks ss l bs
    ⊢ iprop((core m ρ c [] ks rs ((Msg.B h s).sIx :: l) (.B h s :: bs) -∗ run c (kk ⟨⟩) Q)
      -∗ run c (.op (.waitDma2 q src dst hsrc hdst) kk) Q) := by
  subst hd
  exact (core_perm m ρ hp hn).trans (core_done m ρ (k := .B h s) rfl hq (amt_ring bM _ s (.inr rfl)))

theorem get_col (M : Memref sig .tc .vmem S4x64x1024 .bf16) (d : Fin 4) {V : Vec F S64x1024 .bf16} {o : Fin 3 → ℕ} {io hl} (ho : o = ![d.val, 0, 0])
    {Q : α → sProp 𝕄} {kk : Vec F S1x64x1024 .bf16 → Prog (TpuEff nD τ sig (Elt F) Λ₀ .tc) α} :
    (holds c (colSlot M d) V : sProp 𝕄)
    ⊢ iprop((holds c (colSlot M d) V -∗ run c (kk (shapeCast S1x64x1024 V shapeCasts_S64x1024_S1x64x1024)) Q)
      -∗ run c (.op (.load M (Rect.unit (s := S4x64x1024) o S1x64x1024.size io).toLoadRect hl) kk) Q) := by
  subst ho
  exact load_col M d
theorem set_col (M : Memref sig .tc .vmem S4x64x1024 .bf16) (d : Fin 4) {V : Vec F S64x1024 .bf16} (X : Vec F S64x1024 .bf16) {o : Fin 3 → ℕ} {io}
    {w : Vec F S1x64x1024 .bf16} {hx hm} (ho : o = ![d.val, 0, 0]) (hX : shapeCast S64x1024 w shapeCasts_S1x64x1024_S64x1024 = X)
    {Q : α → sProp 𝕄} {kk : PUnit → Prog (TpuEff nD τ sig (Elt F) Λ₀ .tc) α} :
    (holds c (colSlot M d) V : sProp 𝕄)
    ⊢ iprop((holds c (colSlot M d) X -∗ run c (kk ⟨⟩) Q)
      -∗ run c (.op (.store M (Rect.unit (s := S4x64x1024) o S1x64x1024.size io) w Finset.univ hx hm) kk) Q) := by
  subst ho
  exact store_col M d X hX

end Wrap

/-! ## The values -/

theorem col_cast {β : Type} (V : S64x1024.Idx → β) (h : S64x1024.ShapeCasts S1x64x1024) (h' : S1x64x1024.ShapeCasts S64x1024) :
    shapeCast S64x1024 (shapeCast S1x64x1024 V h) h' = V := shapeCast_shapeCast V h h'

theorem vU_first {c : Dev nD} (ht : c.val / 4 = 0) (d : Fin 4) : vU m ρ c d = truncf .bf16 (rb m ρ c d) bitsLt_bf16_f32 := by unfold vU; rw [ht]; rfl
theorem vD_first {c : Dev nD} (ht : c.val / 4 = 3) (d : Fin 4) : vD m ρ c d = truncf .bf16 (rb m ρ c d) bitsLt_bf16_f32 := by unfold vD; rw [ht]; rfl
theorem row_dn : ∀ c : Dev nD, 0 < c.val / 4 → (dn c).val / 4 + 1 = c.val / 4 := by decide +kernel
theorem row_up : ∀ c : Dev nD, c.val / 4 < 3 → (up c).val / 4 = c.val / 4 + 1 := by decide +kernel
theorem vU_next {c : Dev nD} (ht : 0 < c.val / 4) (d : Fin 4) : vU m ρ c d = colAdd (vU m ρ (dn c) d) (rb m ρ c d) := by
  unfold vU; rw [← row_dn c ht]; rfl
theorem vD_next {c : Dev nD} (ht : c.val / 4 < 3) (d : Fin 4) : vD m ρ c d = colAdd (vD m ρ (up c) d) (rb m ρ c d) := by
  have e : 3 - c.val / 4 = (3 - (up c).val / 4) + 1 := by rw [row_up c ht]; omega
  unfold vD; rw [e]; rfl

/-! ## The parts -/

section Parts
variable {c : Dev nD} {ks rs ss : List Msg} {l : List (Fin 40)} {bs : List Msg} {v2 v20 v27 v29 v32 v690 : BitVec 32}

/-- Row 0: message `U 3` starts, the next slot is stored. -/
theorem part1 (ht : c.val / 4 = 0) {h : k0_cond3 c = 1#1} {V V' : FVec F S64x1024 .bf16} (hsU3 : (Msg.U 3).sends c = true) {Q : PUnit → sProp 𝕄} :
    iprop(core m ρ c (.U 3 :: ks) rs ss l bs ∗ holds c rM (rv m ρ c) ∗ holds c (colSlot uM 3) V ∗ holds c (colSlot uM 2) V')
    ⊢ iprop((core m ρ c ks rs (.U 3 :: ss) l bs ∗ holds c rM (rv m ρ c) ∗ holds c (colSlot uM 2) (vU m ρ c 2) -∗ Q ⟨⟩)
      -∗ run c (onBufs (k0_part1 (F := F)) c v29 h) Q) := by
  simp only [onBufs, k0_part1_eq_skeleton]
  unfold k0_part1_skel
  simp only [semWaitWord, Prog.lift, Prog.bind_op, Prog.bind_ret, Prog.pure_eq_ret]
  iintro ⟨HC, Hr, Hu3, Hu2⟩
  iintro Hk
  iapply (load_rb m ρ 3 rfl) $$ Hr; iintro Hr
  iapply (get_col uM 3 rfl) $$ Hu3; iintro Hu3
  iapply (set_col uM 3 (vU m ρ c 3) rfl (by rw [vU_first m ρ (c := c) ht]; simp only [k0_pay1, col_cast])) $$ Hu3; iintro Hu3
  iapply (send_U m ρ 3 (up_of _ (k0_dev17_eq c)) hsU3 rfl rfl rfl rfl) $$ [HC Hu3]
  · isplitl [HC]; · iexact HC
    iexact Hu3
  iintro HC
  iapply (load_rb m ρ 2 rfl) $$ Hr; iintro Hr
  iapply (get_col uM 2 rfl) $$ Hu2; iintro Hu2
  iapply (set_col uM 2 (vU m ρ c 2) rfl (by rw [vU_first m ρ (c := c) ht]; simp only [k0_pay2, col_cast])) $$ Hu2; iintro Hu2
  iapply run_ret
  iapply Hk
  isplitl [HC]; · iexact HC
  isplitl [Hr]; · iexact Hr
  iexact Hu2

/-- Row 0: messages `U 2` and `U 1` start, `D 0` arrives. -/
theorem part2 (ht : c.val / 4 = 0) {h : k0_cond3 c = 1#1} {V : FVec F S64x1024 .bf16} (hsU2 : (Msg.U 2).sends c = true) (hsU1 : (Msg.U 1).sends c = true) (hrD0 : (Msg.D 0).recvs c = true) (hlD0 : ∀ k' ∈ ks, rlv c (.D 0) < rlv (k'.dst c) k') {Q : Vec F S64x1024 .f32 → sProp 𝕄} :
    iprop(core m ρ c (.U 2 :: .U 1 :: ks) (.D 0 :: rs) ss l bs ∗ holds c rM (rv m ρ c) ∗ holds c (colSlot uM 2) (vU m ρ c 2) ∗ holds c (colSlot uM 1) V)
    ⊢ iprop((core m ρ c ks rs (.U 1 :: .U 2 :: ss) ((Msg.D 0).rIx :: l) bs ∗ holds c rM (rv m ρ c) ∗ holds c (colSlot dM 0) (vD m ρ (up c) 0) -∗ Q (rb m ρ c 0))
      -∗ run c (onBufs (k0_part2 (F := F)) c v2 v29 h) Q) := by
  simp only [onBufs, k0_part2_eq_skeleton]
  unfold k0_part2_skel
  simp only [semWaitWord, Prog.lift, Prog.bind_op, Prog.bind_ret, Prog.pure_eq_ret]
  iintro ⟨HC, Hr, Hu2, Hu1⟩
  iintro Hk
  iapply (send_U m ρ 2 (up_of _ (k0_dev18_eq c)) hsU2 rfl rfl rfl rfl) $$ [HC Hu2]
  · isplitl [HC]; · iexact HC
    iexact Hu2
  iintro HC
  iapply (load_rb m ρ 1 rfl) $$ Hr; iintro Hr
  iapply (get_col uM 1 rfl) $$ Hu1; iintro Hu1
  iapply (set_col uM 1 (vU m ρ c 1) rfl (by rw [vU_first m ρ (c := c) ht]; simp only [k0_pay3, col_cast])) $$ Hu1; iintro Hu1
  iapply (send_U m ρ 1 (up_of _ (k0_dev19_eq c)) hsU1 rfl rfl rfl rfl) $$ [HC Hu1]
  · isplitl [HC]; · iexact HC
    iexact Hu1
  iintro HC
  iapply (await_D m ρ 0 hrD0 rfl rfl hlD0) $$ HC
  iintro ⟨HC, Hd0⟩
  iapply (load_rb m ρ 0 rfl) $$ Hr; iintro Hr
  iapply run_ret
  iapply Hk
  isplitl [HC]; · iexact HC
  isplitl [Hr]; · iexact Hr
  iexact Hd0

/-- Row 1: message `U 3` arrives and goes on. -/
theorem part3 (ht : c.val / 4 = 1) {h : k0_cond4 c = 1#1} (hsU3 : (Msg.U 3).sends c = true) (hrU3 : (Msg.U 3).recvs c = true) (hlU3 : ∀ k' ∈ Msg.U 3 :: ks, rlv c (.U 3) < rlv (k'.dst c) k') {Q : PUnit → sProp 𝕄} :
    iprop(core m ρ c (.U 3 :: ks) (.U 3 :: rs) ss l bs ∗ holds c rM (rv m ρ c))
    ⊢ iprop((core m ρ c ks rs (.U 3 :: ss) ((Msg.U 3).rIx :: l) bs ∗ holds c rM (rv m ρ c) -∗ Q ⟨⟩)
      -∗ run c (onBufs (k0_part3 (F := F)) c v2 v29 h) Q) := by
  simp only [onBufs, k0_part3_eq_skeleton]
  unfold k0_part3_skel
  simp only [semWaitWord, Prog.lift, Prog.bind_op, Prog.bind_ret, Prog.pure_eq_ret]
  iintro ⟨HC, Hr⟩
  iintro Hk
  iapply (await_U m ρ 3 hrU3 rfl rfl hlU3) $$ HC
  iintro ⟨HC, Hu3⟩
  iapply (get_col uM 3 rfl) $$ Hu3; iintro Hu3
  iapply (load_rb m ρ 3 rfl) $$ Hr; iintro Hr
  iapply (get_col uM 3 rfl) $$ Hu3; iintro Hu3
  iapply (set_col uM 3 (vU m ρ c 3) rfl (by rw [vU_next m ρ (c := c) (by omega)]; simp only [k0_pay4, col_cast]; rfl)) $$ Hu3; iintro Hu3
  iapply (send_U m ρ 3 (up_of _ (k0_dev20_eq c)) hsU3 rfl rfl rfl rfl) $$ [HC Hu3]
  · isplitl [HC]; · iexact HC
    iexact Hu3
  iintro HC
  iapply run_ret
  iapply Hk
  isplitl [HC]; · iexact HC
  iexact Hr

/-- Row 1: message `U 2` arrives and goes on. -/
theorem part4 (ht : c.val / 4 = 1) {h : k0_cond4 c = 1#1} (hsU2 : (Msg.U 2).sends c = true) (hrU2 : (Msg.U 2).recvs c = true) (hlU2 : ∀ k' ∈ Msg.U 2 :: ks, rlv c (.U 2) < rlv (k'.dst c) k') {Q : PUnit → sProp 𝕄} :
    iprop(core m ρ c (.U 2 :: ks) (.U 2 :: rs) ss l bs ∗ holds c rM (rv m ρ c))
    ⊢ iprop((core m ρ c ks rs (.U 2 :: ss) ((Msg.U 2).rIx :: l) bs ∗ holds c rM (rv m ρ c) -∗ Q ⟨⟩)
      -∗ run c (onBufs (k0_part4 (F := F)) c v2 v29 h) Q) := by
  simp only [onBufs, k0_part4_eq_skeleton]
  unfold k0_part4_skel
  simp only [semWaitWord, Prog.lift, Prog.bind_op, Prog.bind_ret, Prog.pure_eq_ret]
  iintro ⟨HC, Hr⟩
  iintro Hk
  iapply (await_U m ρ 2 hrU2 rfl rfl hlU2) $$ HC
  iintro ⟨HC, Hu2⟩
  iapply (get_col uM 2 rfl) $$ Hu2; iintro Hu2
  iapply (load_rb m ρ 2 rfl) $$ Hr; iintro Hr
  iapply (get_col uM 2 rfl) $$ Hu2; iintro Hu2
  iapply (set_col uM 2 (vU m ρ c 2) rfl (by rw [vU_next m ρ (c := c) (by omega)]; simp only [k0_pay5, col_cast]; rfl)) $$ Hu2; iintro Hu2
  iapply (send_U m ρ 2 (up_of _ (k0_dev21_eq c)) hsU2 rfl rfl rfl rfl) $$ [HC Hu2]
  · isplitl [HC]; · iexact HC
    iexact Hu2
  iintro HC
  iapply run_ret
  iapply Hk
  isplitl [HC]; · iexact HC
  iexact Hr

/-- Row 1: message `D 0` arrives and goes on. -/
theorem part5 (ht : c.val / 4 = 1) {h : k0_cond4 c = 1#1} (hsD0 : (Msg.D 0).sends c = true) (hrD0 : (Msg.D 0).recvs c = true) (hlD0 : ∀ k' ∈ Msg.D 0 :: ks, rlv c (.D 0) < rlv (k'.dst c) k') {Q : BitVec 32 → sProp 𝕄} :
    iprop(core m ρ c (.D 0 :: ks) (.D 0 :: rs) ss l bs ∗ holds c rM (rv m ρ c))
    ⊢ iprop((∀ w, core m ρ c ks rs (.D 0 :: ss) ((Msg.D 0).rIx :: l) bs ∗ holds c rM (rv m ρ c) -∗ Q w)
      -∗ run c (onBufs (k0_part5 (F := F)) c v2 v32 h) Q) := by
  simp only [onBufs, k0_part5_eq_skeleton]
  unfold k0_part5_skel
  simp only [semWaitWord, Prog.lift, Prog.bind_op, Prog.bind_ret, Prog.pure_eq_ret]
  iintro ⟨HC, Hr⟩
  iintro Hk
  iapply (await_D m ρ 0 hrD0 rfl rfl hlD0) $$ HC
  iintro ⟨HC, Hd0⟩
  iapply (get_col dM 0 rfl) $$ Hd0; iintro Hd0
  iapply (load_rb m ρ 0 rfl) $$ Hr; iintro Hr
  iapply (get_col dM 0 rfl) $$ Hd0; iintro Hd0
  iapply (set_col dM 0 (vD m ρ c 0) rfl (by rw [vD_next m ρ (c := c) (by omega)]; simp only [k0_pay6, col_cast]; rfl)) $$ Hd0; iintro Hd0
  iapply (send_D m ρ 0 (dn_of _ (k0_dev22_eq c)) hsD0 rfl rfl rfl rfl) $$ [HC Hd0]
  · isplitl [HC]; · iexact HC
    iexact Hd0
  iintro HC
  iapply run_ret
  iapply Hk
  isplitl [HC]; · iexact HC
  iexact Hr

/-- Row 2: message `D 0` arrives and goes on. -/
theorem part7 (ht : c.val / 4 = 2) {h : k0_cond5 c = 1#1} (hsD0 : (Msg.D 0).sends c = true) (hrD0 : (Msg.D 0).recvs c = true) (hlD0 : ∀ k' ∈ Msg.D 0 :: ks, rlv c (.D 0) < rlv (k'.dst c) k') {Q : PUnit → sProp 𝕄} :
    iprop(core m ρ c (.D 0 :: ks) (.D 0 :: rs) ss l bs ∗ holds c rM (rv m ρ c))
    ⊢ iprop((core m ρ c ks rs (.D 0 :: ss) ((Msg.D 0).rIx :: l) bs ∗ holds c rM (rv m ρ c) -∗ Q ⟨⟩)
      -∗ run c (onBufs (k0_part7 (F := F)) c v2 v32 h) Q) := by
  simp only [onBufs, k0_part7_eq_skeleton]
  unfold k0_part7_skel
  simp only [semWaitWord, Prog.lift, Prog.bind_op, Prog.bind_ret, Prog.pure_eq_ret]
  iintro ⟨HC, Hr⟩
  iintro Hk
  iapply (await_D m ρ 0 hrD0 rfl rfl hlD0) $$ HC
  iintro ⟨HC, Hd0⟩
  iapply (get_col dM 0 rfl) $$ Hd0; iintro Hd0
  iapply (load_rb m ρ 0 rfl) $$ Hr; iintro Hr
  iapply (get_col dM 0 rfl) $$ Hd0; iintro Hd0
  iapply (set_col dM 0 (vD m ρ c 0) rfl (by rw [vD_next m ρ (c := c) (by omega)]; simp only [k0_pay8, col_cast]; rfl)) $$ Hd0; iintro Hd0
  iapply (send_D m ρ 0 (dn_of _ (k0_dev23_eq c)) hsD0 rfl rfl rfl rfl) $$ [HC Hd0]
  · isplitl [HC]; · iexact HC
    iexact Hd0
  iintro HC
  iapply run_ret
  iapply Hk
  isplitl [HC]; · iexact HC
  iexact Hr

/-- Row 2: message `D 1` arrives and goes on. -/
theorem part8 (ht : c.val / 4 = 2) {h : k0_cond5 c = 1#1} (hsD1 : (Msg.D 1).sends c = true) (hrD1 : (Msg.D 1).recvs c = true) (hlD1 : ∀ k' ∈ Msg.D 1 :: ks, rlv c (.D 1) < rlv (k'.dst c) k') {Q : PUnit → sProp 𝕄} :
    iprop(core m ρ c (.D 1 :: ks) (.D 1 :: rs) ss l bs ∗ holds c rM (rv m ρ c))
    ⊢ iprop((core m ρ c ks rs (.D 1 :: ss) ((Msg.D 1).rIx :: l) bs ∗ holds c rM (rv m ρ c) -∗ Q ⟨⟩)
      -∗ run c (onBufs (k0_part8 (F := F)) c v2 v32 h) Q) := by
  simp only [onBufs, k0_part8_eq_skeleton]
  unfold k0_part8_skel
  simp only [semWaitWord, Prog.lift, Prog.bind_op, Prog.bind_ret, Prog.pure_eq_ret]
  iintro ⟨HC, Hr⟩
  iintro Hk
  iapply (await_D m ρ 1 hrD1 rfl rfl hlD1) $$ HC
  iintro ⟨HC, Hd1⟩
  iapply (get_col dM 1 rfl) $$ Hd1; iintro Hd1
  iapply (load_rb m ρ 1 rfl) $$ Hr; iintro Hr
  iapply (get_col dM 1 rfl) $$ Hd1; iintro Hd1
  iapply (set_col dM 1 (vD m ρ c 1) rfl (by rw [vD_next m ρ (c := c) (by omega)]; simp only [k0_pay9, col_cast]; rfl)) $$ Hd1; iintro Hd1
  iapply (send_D m ρ 1 (dn_of _ (k0_dev24_eq c)) hsD1 rfl rfl rfl rfl) $$ [HC Hd1]
  · isplitl [HC]; · iexact HC
    iexact Hd1
  iintro HC
  iapply run_ret
  iapply Hk
  isplitl [HC]; · iexact HC
  iexact Hr

/-- Row 2: message `U 3` arrives and goes on. -/
theorem part9 (ht : c.val / 4 = 2) {h : k0_cond5 c = 1#1} (hsU3 : (Msg.U 3).sends c = true) (hrU3 : (Msg.U 3).recvs c = true) (hlU3 : ∀ k' ∈ Msg.U 3 :: ks, rlv c (.U 3) < rlv (k'.dst c) k') {Q : BitVec 32 → sProp 𝕄} :
    iprop(core m ρ c (.U 3 :: ks) (.U 3 :: rs) ss l bs ∗ holds c rM (rv m ρ c))
    ⊢ iprop((∀ w, core m ρ c ks rs (.U 3 :: ss) ((Msg.U 3).rIx :: l) bs ∗ holds c rM (rv m ρ c) -∗ Q w)
      -∗ run c (onBufs (k0_part9 (F := F)) c v2 v29 h) Q) := by
  simp only [onBufs, k0_part9_eq_skeleton]
  unfold k0_part9_skel
  simp only [semWaitWord, Prog.lift, Prog.bind_op, Prog.bind_ret, Prog.pure_eq_ret]
  iintro ⟨HC, Hr⟩
  iintro Hk
  iapply (await_U m ρ 3 hrU3 rfl rfl hlU3) $$ HC
  iintro ⟨HC, Hu3⟩
  iapply (get_col uM 3 rfl) $$ Hu3; iintro Hu3
  iapply (load_rb m ρ 3 rfl) $$ Hr; iintro Hr
  iapply (get_col uM 3 rfl) $$ Hu3; iintro Hu3
  iapply (set_col uM 3 (vU m ρ c 3) rfl (by rw [vU_next m ρ (c := c) (by omega)]; simp only [k0_pay10, col_cast]; rfl)) $$ Hu3; iintro Hu3
  iapply (send_U m ρ 3 (up_of _ (k0_dev25_eq c)) hsU3 rfl rfl rfl rfl) $$ [HC Hu3]
  · isplitl [HC]; · iexact HC
    iexact Hu3
  iintro HC
  iapply run_ret
  iapply Hk
  isplitl [HC]; · iexact HC
  iexact Hr

/-- Row 1: the last two messages arrive, the result is stored. -/
theorem part6 (ht : c.val / 4 = 1) {X : Vec F S64x1024 .f32} (hrU1 : (Msg.U 1).recvs c = true) (hrD1 : (Msg.D 1).recvs c = true) {Q : PUnit → sProp 𝕄} :
    iprop(core m ρ c [] (.U 1 :: .D 1 :: rs) ss l bs ∗ holds c rM (rv m ρ c) ∗ holds c oM X)
    ⊢ iprop((core m ρ c [] rs ss ((Msg.D 1).rIx :: (Msg.U 1).rIx :: l) bs ∗ holds c rM (rv m ρ c) ∗ holds c oM (outv m ρ c) ∗ holds c (colSlot uM 1) (vU m ρ (dn c) 1) ∗ holds c (colSlot dM 1) (vD m ρ (up c) 1) -∗ Q ⟨⟩)
      -∗ run c (onBufs (k0_part6 (F := F)) v2 v690) Q) := by
  simp only [onBufs, k0_part6_eq_skeleton]
  unfold k0_part6_skel
  simp only [semWaitWord, Prog.lift, Prog.bind_op, Prog.bind_ret, Prog.pure_eq_ret]
  iintro ⟨HC, Hr, Ho⟩
  iintro Hk
  iapply (await_U m ρ 1 hrU1 rfl rfl (by simp)) $$ HC
  iintro ⟨HC, Hu1⟩
  iapply (await_D m ρ 1 hrD1 rfl rfl (by simp)) $$ HC
  iintro ⟨HC, Hd1⟩
  iapply (load_rb m ρ 1 rfl) $$ Hr; iintro Hr
  iapply (get_col uM 1 rfl) $$ Hu1; iintro Hu1
  iapply (get_col dM 1 rfl) $$ Hd1; iintro Hd1
  iapply load_it $$ Ho; iintro Ho
  iapply (store_out (outv m ρ c) (by unfold outv; simp only [ht, k0_pay7, col_cast]; rfl)) $$ Ho; iintro Ho
  iapply run_ret
  iapply Hk
  isplitl [HC]; · iexact HC
  isplitl [Hr]; · iexact Hr
  isplitl [Ho]; · iexact Ho
  isplitl [Hu1]; · iexact Hu1
  iexact Hd1

/-- Row 2: the last two messages arrive, the result is stored. -/
theorem part10 (ht : c.val / 4 = 2) {X : Vec F S64x1024 .f32} (hrU2 : (Msg.U 2).recvs c = true) (hrD2 : (Msg.D 2).recvs c = true) {Q : PUnit → sProp 𝕄} :
    iprop(core m ρ c [] (.U 2 :: .D 2 :: rs) ss l bs ∗ holds c rM (rv m ρ c) ∗ holds c oM X)
    ⊢ iprop((core m ρ c [] rs ss ((Msg.D 2).rIx :: (Msg.U 2).rIx :: l) bs ∗ holds c rM (rv m ρ c) ∗ holds c oM (outv m ρ c) ∗ holds c (colSlot uM 2) (vU m ρ (dn c) 2) ∗ holds c (colSlot dM 2) (vD m ρ (up c) 2) -∗ Q ⟨⟩)
      -∗ run c (onBufs (k0_part10 (F := F)) v2 v690) Q) := by
  simp only [onBufs, k0_part10_eq_skeleton]
  unfold k0_part10_skel
  simp only [semWaitWord, Prog.lift, Prog.bind_op, Prog.bind_ret, Prog.pure_eq_ret]
  iintro ⟨HC, Hr, Ho⟩
  iintro Hk
  iapply (await_U m ρ 2 hrU2 rfl rfl (by simp)) $$ HC
  iintro ⟨HC, Hu2⟩
  iapply (await_D m ρ 2 hrD2 rfl rfl (by simp)) $$ HC
  iintro ⟨HC, Hd2⟩
  iapply (load_rb m ρ 2 rfl) $$ Hr; iintro Hr
  iapply (get_col uM 2 rfl) $$ Hu2; iintro Hu2
  iapply (get_col dM 2 rfl) $$ Hd2; iintro Hd2
  iapply load_it $$ Ho; iintro Ho
  iapply (store_out (outv m ρ c) (by unfold outv; simp only [ht, k0_pay11, col_cast]; rfl)) $$ Ho; iintro Ho
  iapply run_ret
  iapply Hk
  isplitl [HC]; · iexact HC
  isplitl [Hr]; · iexact Hr
  isplitl [Ho]; · iexact Ho
  isplitl [Hu2]; · iexact Hu2
  iexact Hd2

/-- Row 3: message `D 0` starts, the next slot is stored. -/
theorem part11 (ht : c.val / 4 = 3) {h : k0_cond6 c = 1#1} {V V' : FVec F S64x1024 .bf16} (hsD0 : (Msg.D 0).sends c = true) {Q : PUnit → sProp 𝕄} :
    iprop(core m ρ c (.D 0 :: ks) rs ss l bs ∗ holds c rM (rv m ρ c) ∗ holds c (colSlot dM 0) V ∗ holds c (colSlot dM 1) V')
    ⊢ iprop((core m ρ c ks rs (.D 0 :: ss) l bs ∗ holds c rM (rv m ρ c) ∗ holds c (colSlot dM 1) (vD m ρ c 1) -∗ Q ⟨⟩)
      -∗ run c (onBufs (k0_part11 (F := F)) c v32 h) Q) := by
  simp only [onBufs, k0_part11_eq_skeleton]
  unfold k0_part11_skel
  simp only [semWaitWord, Prog.lift, Prog.bind_op, Prog.bind_ret, Prog.pure_eq_ret]
  iintro ⟨HC, Hr, Hd0, Hd1⟩
  iintro Hk
  iapply (load_rb m ρ 0 rfl) $$ Hr; iintro Hr
  iapply (get_col dM 0 rfl) $$ Hd0; iintro Hd0
  iapply (set_col dM 0 (vD m ρ c 0) rfl (by rw [vD_first m ρ (c := c) ht]; simp only [k0_pay12, col_cast])) $$ Hd0; iintro Hd0
  iapply (send_D m ρ 0 (dn_of _ (k0_dev26_eq c)) hsD0 rfl rfl rfl rfl) $$ [HC Hd0]
  · isplitl [HC]; · iexact HC
    iexact Hd0
  iintro HC
  iapply (load_rb m ρ 1 rfl) $$ Hr; iintro Hr
  iapply (get_col dM 1 rfl) $$ Hd1; iintro Hd1
  iapply (set_col dM 1 (vD m ρ c 1) rfl (by rw [vD_first m ρ (c := c) ht]; simp only [k0_pay13, col_cast])) $$ Hd1; iintro Hd1
  iapply run_ret
  iapply Hk
  isplitl [HC]; · iexact HC
  isplitl [Hr]; · iexact Hr
  iexact Hd1

/-- Row 3: messages `D 1` and `D 2` start, `U 3` arrives. -/
theorem part12 (ht : c.val / 4 = 3) {h : k0_cond6 c = 1#1} {V : FVec F S64x1024 .bf16} (hsD1 : (Msg.D 1).sends c = true) (hsD2 : (Msg.D 2).sends c = true) (hrU3 : (Msg.U 3).recvs c = true) (hlU3 : ∀ k' ∈ ks, rlv c (.U 3) < rlv (k'.dst c) k') {Q : Vec F S64x1024 .f32 → sProp 𝕄} :
    iprop(core m ρ c (.D 1 :: .D 2 :: ks) (.U 3 :: rs) ss l bs ∗ holds c rM (rv m ρ c) ∗ holds c (colSlot dM 1) (vD m ρ c 1) ∗ holds c (colSlot dM 2) V)
    ⊢ iprop((core m ρ c ks rs (.D 2 :: .D 1 :: ss) ((Msg.U 3).rIx :: l) bs ∗ holds c rM (rv m ρ c) ∗ holds c (colSlot uM 3) (vU m ρ (dn c) 3) -∗ Q (rb m ρ c 3))
      -∗ run c (onBufs (k0_part12 (F := F)) c v2 v32 h) Q) := by
  simp only [onBufs, k0_part12_eq_skeleton]
  unfold k0_part12_skel
  simp only [semWaitWord, Prog.lift, Prog.bind_op, Prog.bind_ret, Prog.pure_eq_ret]
  iintro ⟨HC, Hr, Hd1, Hd2⟩
  iintro Hk
  iapply (send_D m ρ 1 (dn_of _ (k0_dev27_eq c)) hsD1 rfl rfl rfl rfl) $$ [HC Hd1]
  · isplitl [HC]; · iexact HC
    iexact Hd1
  iintro HC
  iapply (load_rb m ρ 2 rfl) $$ Hr; iintro Hr
  iapply (get_col dM 2 rfl) $$ Hd2; iintro Hd2
  iapply (set_col dM 2 (vD m ρ c 2) rfl (by rw [vD_first m ρ (c := c) ht]; simp only [k0_pay14, col_cast])) $$ Hd2; iintro Hd2
  iapply (send_D m ρ 2 (dn_of _ (k0_dev28_eq c)) hsD2 rfl rfl rfl rfl) $$ [HC Hd2]
  · isplitl [HC]; · iexact HC
    iexact Hd2
  iintro HC
  iapply (await_U m ρ 3 hrU3 rfl rfl hlU3) $$ HC
  iintro ⟨HC, Hu3⟩
  iapply (load_rb m ρ 3 rfl) $$ Hr; iintro Hr
  iapply run_ret
  iapply Hk
  isplitl [HC]; · iexact HC
  isplitl [Hr]; · iexact Hr
  iexact Hu3

end Parts

end Cert.KernelIdeal.Ring
-- ==== Proof.KernelIdeal.Rows.lean ====
/- The column in the four rows, and the waits at the end. -/
module

public import proofs.«01_k».proof.Proof.KernelIdeal.Column

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem run_bind {c : Dev nD} {α β : Type} {Q : α → sProp 𝕄} {p : Prog (TpuEff nD τ sig (Elt F) Λ₀ .tc) β} {k : β → Prog (TpuEff nD τ sig (Elt F) Λ₀ .tc) α} :
    run c p (fun a => run c (k a) Q) ⊢ run c (p >>= k) Q := by
  unfold run; rw [wp_bind]

/-! ## The column's state -/

/-- The ring's messages, the last started first. -/
abbrev sentRing : List Msg := [.B 2 1, .F 2 1, .B 2 0, .F 2 0, .B 1 1, .F 1 1, .B 1 0, .F 1 0, .B 0 1, .F 0 1, .B 0 0, .F 0 0]

/-- The semaphores that device `c` is done with in its column, the last first. -/
def colL (c : Dev nD) : List (Fin 40) :=
  if c.val / 4 = 0 then [(Msg.U 1).sIx, (Msg.U 2).sIx, (Msg.U 3).sIx, (Msg.D 0).rIx] else if c.val / 4 = 1 then [(Msg.D 0).sIx, (Msg.U 2).sIx, (Msg.U 3).sIx, (Msg.D 1).rIx, (Msg.U 1).rIx, (Msg.D 0).rIx, (Msg.U 2).rIx, (Msg.U 3).rIx]
  else if c.val / 4 = 2 then [(Msg.U 3).sIx, (Msg.D 1).sIx, (Msg.D 0).sIx, (Msg.D 2).rIx, (Msg.U 2).rIx, (Msg.U 3).rIx, (Msg.D 1).rIx, (Msg.D 0).rIx] else [(Msg.D 2).sIx, (Msg.D 1).sIx, (Msg.D 0).sIx, (Msg.U 3).rIx]

/-- The column's slots that are the device's own at the start, -/
def colHave (c : Dev nD) : sProp 𝕄 := bigSepL (Msg.col.filter fun k => !k.recvs c) (landing c)
/-- and all of them. -/
def colAll (c : Dev nD) : sProp 𝕄 := bigSepL Msg.col (landing c)

/-- The state before the column -/
def colPre (c : Dev nD) (l : List (Fin 40)) : sProp 𝕄 :=
  iprop(core m ρ c (colOut c) (colIn c) sentRing l [] ∗ colHave c ∗ holds c rM (rv m ρ c) ∗ ∃ X, holds c oM X)
/-- and after it. -/
def colPost (c : Dev nD) (l : List (Fin 40)) : sProp 𝕄 :=
  iprop(core m ρ c [] [] sentRing (colL c ++ l) [] ∗ colAll c ∗ holds c rM (rv m ρ c) ∗ holds c oM (outv m ρ c))
/-- The state in between, where the first three rows are through. -/
def colMid (c : Dev nD) (l : List (Fin 40)) : sProp 𝕄 := if c.val / 4 = 3 then colPre m ρ c l else colPost m ρ c l

theorem have_split {c : Dev nD} {used rest : List Msg} (h : (Msg.col.filter fun k => !k.recvs c).Perm (used ++ rest)) :
    (colHave c : sProp 𝕄) ⊢ iprop(bigSepL used (landing c) ∗ bigSepL rest (landing c)) := by
  unfold colHave
  rw [TalkSites.bigSepL_perm h (List.Nodup.filter _ (by decide)), bigSepL_append]
theorem all_join {c : Dev nD} {bs got rest : List Msg} (h : (bs ++ (got ++ rest)).Perm Msg.col) (hn : (bs ++ (got ++ rest)).Nodup) :
    iprop(bigSepL bs (landing c) ∗ bigSepL got (landing c) ∗ bigSepL rest (landing c)) ⊢ (colAll c : sProp 𝕄) := by
  unfold colAll
  rw [← TalkSites.bigSepL_perm h hn, bigSepL_append, bigSepL_append]
/-- Take the slots that came back out of the traffic's state. -/
theorem core_back {c : Dev nD} {ks rs ss : List Msg} {l : List (Fin 40)} {bs : List Msg} :
    core m ρ c ks rs ss l bs ⊢ iprop(core m ρ c ks rs ss l [] ∗ bigSepL bs (sendPay c)) := by
  unfold core
  iintro ⟨#HR, HT, HO, HV, HS, HZ, HB⟩
  isplitr [HB]
  · isplitr; · iexact HR
    isplitl [HT]; · iexact HT
    isplitl [HO]; · iexact HO
    isplitl [HV]; · iexact HV
    isplitl [HS]; · iexact HS
    isplitl [HZ]; · iexact HZ
    rw [bigSepL_nil]; iempintro
  · iexact HB
/-- The column's end. -/
theorem col_end {c : Dev nD} {l l' : List (Fin 40)} {bs got rest : List Msg} (e : l' = colL c ++ l) (hb : (bigSepL bs (sendPay c) : sProp 𝕄) ⊢ bigSepL bs (landing c))
    (h : (bs ++ (got ++ rest)).Perm Msg.col) (hn : (bs ++ (got ++ rest)).Nodup) :
    iprop(core m ρ c [] [] sentRing l' bs ∗ bigSepL got (landing c) ∗ bigSepL rest (landing c) ∗ holds c rM (rv m ρ c) ∗ holds c oM (outv m ρ c))
    ⊢ colPost m ρ c l := by
  subst e
  unfold colPost
  iintro ⟨HC, HG, HE, Hr, Ho⟩
  ihave HC := (core_back m ρ) $$ HC
  icases HC with ⟨HC, HB⟩
  isplitl [HC]; · iexact HC
  isplitl [HB HG HE]
  · ihave HB := hb $$ HB
    iapply (all_join h hn)
    isplitl [HB]; · iexact HB
    isplitl [HG]; · iexact HG
    iexact HE
  isplitl [Hr]; · iexact Hr
  iexact Ho

theorem mid_pre {c : Dev nD} {l : List (Fin 40)} (ht : c.val / 4 = 3) : colMid m ρ c l = colPre m ρ c l := if_pos ht
theorem mid_post {c : Dev nD} {l : List (Fin 40)} (ht : c.val / 4 ≠ 3) : colMid m ρ c l = colPost m ρ c l := if_neg ht

theorem out_0 {c : Dev nD} (ht : c.val / 4 = 0) : colOut c = [.U 3, .U 2, .U 1] := by unfold colOut; simp [ht]
theorem in_0 {c : Dev nD} (ht : c.val / 4 = 0) : colIn c = [.D 0] := by unfold colIn; simp [ht]
theorem colL_0 {c : Dev nD} (ht : c.val / 4 = 0) : colL c = [(Msg.U 1).sIx, (Msg.U 2).sIx, (Msg.U 3).sIx, (Msg.D 0).rIx] := by unfold colL; simp [ht]
theorem have_0 : ∀ c : Dev nD, c.val / 4 = 0 → (Msg.col.filter fun k => !k.recvs c).Perm ([.U 3, .U 2, .U 1] ++ [.U 0, .D 1, .D 2, .D 3]) := by decide +kernel
theorem out_1 {c : Dev nD} (ht : c.val / 4 = 1) : colOut c = [.U 3, .U 2, .D 0] := by unfold colOut; simp [ht]
theorem in_1 {c : Dev nD} (ht : c.val / 4 = 1) : colIn c = [.U 3, .U 2, .D 0, .U 1, .D 1] := by unfold colIn; simp [ht]
theorem colL_1 {c : Dev nD} (ht : c.val / 4 = 1) : colL c = [(Msg.D 0).sIx, (Msg.U 2).sIx, (Msg.U 3).sIx, (Msg.D 1).rIx, (Msg.U 1).rIx, (Msg.D 0).rIx, (Msg.U 2).rIx, (Msg.U 3).rIx] := by unfold colL; simp [ht]
theorem have_1 : ∀ c : Dev nD, c.val / 4 = 1 → (Msg.col.filter fun k => !k.recvs c).Perm ([] ++ [.U 0, .D 2, .D 3]) := by decide +kernel
theorem out_2 {c : Dev nD} (ht : c.val / 4 = 2) : colOut c = [.D 0, .D 1, .U 3] := by unfold colOut; simp [ht]
theorem in_2 {c : Dev nD} (ht : c.val / 4 = 2) : colIn c = [.D 0, .D 1, .U 3, .U 2, .D 2] := by unfold colIn; simp [ht]
theorem colL_2 {c : Dev nD} (ht : c.val / 4 = 2) : colL c = [(Msg.U 3).sIx, (Msg.D 1).sIx, (Msg.D 0).sIx, (Msg.D 2).rIx, (Msg.U 2).rIx, (Msg.U 3).rIx, (Msg.D 1).rIx, (Msg.D 0).rIx] := by unfold colL; simp [ht]
theorem have_2 : ∀ c : Dev nD, c.val / 4 = 2 → (Msg.col.filter fun k => !k.recvs c).Perm ([] ++ [.U 0, .U 1, .D 3]) := by decide +kernel
theorem out_3 {c : Dev nD} (ht : c.val / 4 = 3) : colOut c = [.D 0, .D 1, .D 2] := by unfold colOut; simp [ht]
theorem in_3 {c : Dev nD} (ht : c.val / 4 = 3) : colIn c = [.U 3] := by unfold colIn; simp [ht]
theorem colL_3 {c : Dev nD} (ht : c.val / 4 = 3) : colL c = [(Msg.D 2).sIx, (Msg.D 1).sIx, (Msg.D 0).sIx, (Msg.U 3).rIx] := by unfold colL; simp [ht]
theorem have_3 : ∀ c : Dev nD, c.val / 4 = 3 → (Msg.col.filter fun k => !k.recvs c).Perm ([.D 0, .D 1, .D 2] ++ [.U 0, .U 1, .U 2, .D 3]) := by decide +kernel

theorem lev_B21 : ∀ c : Dev nD, ∀ k' ∈ colOut c, rlv c (.B 2 1) < rlv (k'.dst c) k' := by decide +kernel
theorem post_open {c : Dev nD} {l : List (Fin 40)} :
    colPost m ρ c l ⊢ iprop(core m ρ c [] [] sentRing (colL c ++ l) [] ∗ colAll c ∗ holds c rM (rv m ρ c) ∗ holds c oM (outv m ρ c)) := .rfl
theorem lev_1_D0 : ∀ c : Dev nD, c.val / 4 = 1 → ∀ k' ∈ ([.D 0] : List Msg), rlv c (.D 0) < rlv (k'.dst c) k' := by decide +kernel
theorem lev_1_U2 : ∀ c : Dev nD, c.val / 4 = 1 → ∀ k' ∈ ([.U 2, .D 0] : List Msg), rlv c (.U 2) < rlv (k'.dst c) k' := by decide +kernel
theorem lev_1_U3 : ∀ c : Dev nD, c.val / 4 = 1 → ∀ k' ∈ ([.U 3, .U 2, .D 0] : List Msg), rlv c (.U 3) < rlv (k'.dst c) k' := by decide +kernel
theorem lev_2_D0 : ∀ c : Dev nD, c.val / 4 = 2 → ∀ k' ∈ ([.D 0, .D 1, .U 3] : List Msg), rlv c (.D 0) < rlv (k'.dst c) k' := by decide +kernel
theorem lev_2_D1 : ∀ c : Dev nD, c.val / 4 = 2 → ∀ k' ∈ ([.D 1, .U 3] : List Msg), rlv c (.D 1) < rlv (k'.dst c) k' := by decide +kernel
theorem lev_2_U3 : ∀ c : Dev nD, c.val / 4 = 2 → ∀ k' ∈ ([.U 3] : List Msg), rlv c (.U 3) < rlv (k'.dst c) k' := by decide +kernel
theorem r_0_D0 : ∀ c : Dev nD, c.val / 4 = 0 → (Msg.D 0).recvs c = true := by decide +kernel
theorem r_1_D0 : ∀ c : Dev nD, c.val / 4 = 1 → (Msg.D 0).recvs c = true := by decide +kernel
theorem r_1_D1 : ∀ c : Dev nD, c.val / 4 = 1 → (Msg.D 1).recvs c = true := by decide +kernel
theorem r_1_U1 : ∀ c : Dev nD, c.val / 4 = 1 → (Msg.U 1).recvs c = true := by decide +kernel
theorem r_1_U2 : ∀ c : Dev nD, c.val / 4 = 1 → (Msg.U 2).recvs c = true := by decide +kernel
theorem r_1_U3 : ∀ c : Dev nD, c.val / 4 = 1 → (Msg.U 3).recvs c = true := by decide +kernel
theorem r_2_D0 : ∀ c : Dev nD, c.val / 4 = 2 → (Msg.D 0).recvs c = true := by decide +kernel
theorem r_2_D1 : ∀ c : Dev nD, c.val / 4 = 2 → (Msg.D 1).recvs c = true := by decide +kernel
theorem r_2_D2 : ∀ c : Dev nD, c.val / 4 = 2 → (Msg.D 2).recvs c = true := by decide +kernel
theorem r_2_U2 : ∀ c : Dev nD, c.val / 4 = 2 → (Msg.U 2).recvs c = true := by decide +kernel
theorem r_2_U3 : ∀ c : Dev nD, c.val / 4 = 2 → (Msg.U 3).recvs c = true := by decide +kernel
theorem r_3_U3 : ∀ c : Dev nD, c.val / 4 = 3 → (Msg.U 3).recvs c = true := by decide +kernel
theorem s_0_U1 : ∀ c : Dev nD, c.val / 4 = 0 → (Msg.U 1).sends c = true := by decide +kernel
theorem s_0_U2 : ∀ c : Dev nD, c.val / 4 = 0 → (Msg.U 2).sends c = true := by decide +kernel
theorem s_0_U3 : ∀ c : Dev nD, c.val / 4 = 0 → (Msg.U 3).sends c = true := by decide +kernel
theorem s_1_D0 : ∀ c : Dev nD, c.val / 4 = 1 → (Msg.D 0).sends c = true := by decide +kernel
theorem s_1_U2 : ∀ c : Dev nD, c.val / 4 = 1 → (Msg.U 2).sends c = true := by decide +kernel
theorem s_1_U3 : ∀ c : Dev nD, c.val / 4 = 1 → (Msg.U 3).sends c = true := by decide +kernel
theorem s_2_D0 : ∀ c : Dev nD, c.val / 4 = 2 → (Msg.D 0).sends c = true := by decide +kernel
theorem s_2_D1 : ∀ c : Dev nD, c.val / 4 = 2 → (Msg.D 1).sends c = true := by decide +kernel
theorem s_2_U3 : ∀ c : Dev nD, c.val / 4 = 2 → (Msg.U 3).sends c = true := by decide +kernel
theorem s_3_D0 : ∀ c : Dev nD, c.val / 4 = 3 → (Msg.D 0).sends c = true := by decide +kernel
theorem s_3_D1 : ∀ c : Dev nD, c.val / 4 = 3 → (Msg.D 1).sends c = true := by decide +kernel
theorem s_3_D2 : ∀ c : Dev nD, c.val / 4 = 3 → (Msg.D 2).sends c = true := by decide +kernel

theorem open_0 (c : Dev nD) : (bigSepL [Msg.U 3, Msg.U 2, Msg.U 1] (landing c) : sProp 𝕄)
    ⊢ iprop((∃ X, holds c (colSlot uM 3) X) ∗ (∃ X, holds c (colSlot uM 2) X) ∗ (∃ X, holds c (colSlot uM 1) X)) := by
  simp only [bigSepL_cons_cons, bigSepL_singleton]; exact .rfl
theorem open_3 (c : Dev nD) : (bigSepL [Msg.D 0, Msg.D 1, Msg.D 2] (landing c) : sProp 𝕄)
    ⊢ iprop((∃ X, holds c (colSlot dM 0) X) ∗ (∃ X, holds c (colSlot dM 1) X) ∗ (∃ X, holds c (colSlot dM 2) X)) := by
  simp only [bigSepL_cons_cons, bigSepL_singleton]; exact .rfl
theorem got_0 {c : Dev nD} {V0 : Vec F S64x1024 .bf16} :
    iprop(holds c (colSlot dM 0) V0) ⊢ (bigSepL [Msg.D 0] (landing c) : sProp 𝕄) := by
  rw [bigSepL_singleton]; unfold landing
  iintro H0
  iapply (holds_any c _ _); iexact H0
theorem back_0 (c : Dev nD) : (bigSepL [Msg.U 1, Msg.U 2, Msg.U 3] (sendPay c) : sProp 𝕄) ⊢ bigSepL [Msg.U 1, Msg.U 2, Msg.U 3] (landing c) := by
  simp only [bigSepL_cons_cons, bigSepL_singleton]; exact .rfl
theorem got_1 {c : Dev nD} {V0 V1 : Vec F S64x1024 .bf16} :
    iprop(holds c (colSlot uM 1) V0 ∗ holds c (colSlot dM 1) V1) ⊢ (bigSepL [Msg.U 1, Msg.D 1] (landing c) : sProp 𝕄) := by
  rw [bigSepL_cons', bigSepL_singleton]; unfold landing
  iintro ⟨H0, H1⟩
  isplitl [H0]
  · iapply (holds_any c _ _); iexact H0
  iapply (holds_any c _ _); iexact H1
theorem back_1 (c : Dev nD) : (bigSepL [Msg.D 0, Msg.U 2, Msg.U 3] (sendPay c) : sProp 𝕄) ⊢ bigSepL [Msg.D 0, Msg.U 2, Msg.U 3] (landing c) := by
  simp only [bigSepL_cons_cons, bigSepL_singleton]; exact .rfl
theorem got_2 {c : Dev nD} {V0 V1 : Vec F S64x1024 .bf16} :
    iprop(holds c (colSlot uM 2) V0 ∗ holds c (colSlot dM 2) V1) ⊢ (bigSepL [Msg.U 2, Msg.D 2] (landing c) : sProp 𝕄) := by
  rw [bigSepL_cons', bigSepL_singleton]; unfold landing
  iintro ⟨H0, H1⟩
  isplitl [H0]
  · iapply (holds_any c _ _); iexact H0
  iapply (holds_any c _ _); iexact H1
theorem back_2 (c : Dev nD) : (bigSepL [Msg.U 3, Msg.D 1, Msg.D 0] (sendPay c) : sProp 𝕄) ⊢ bigSepL [Msg.U 3, Msg.D 1, Msg.D 0] (landing c) := by
  simp only [bigSepL_cons_cons, bigSepL_singleton]; exact .rfl
theorem got_3 {c : Dev nD} {V0 : Vec F S64x1024 .bf16} :
    iprop(holds c (colSlot uM 3) V0) ⊢ (bigSepL [Msg.U 3] (landing c) : sProp 𝕄) := by
  rw [bigSepL_singleton]; unfold landing
  iintro H0
  iapply (holds_any c _ _); iexact H0
theorem back_3 (c : Dev nD) : (bigSepL [Msg.D 2, Msg.D 1, Msg.D 0] (sendPay c) : sProp 𝕄) ⊢ bigSepL [Msg.D 2, Msg.D 1, Msg.D 0] (landing c) := by
  simp only [bigSepL_cons_cons, bigSepL_singleton]; exact .rfl

section Parts
variable {c : Dev nD} {ks rs ss : List Msg} {l : List (Fin 40)} {bs : List Msg} {v2 v20 v24 v27 v29 v32 : BitVec 32}

theorem part32_0 (ht : c.val / 4 = 0) {f : Vec F S256x1024 .f32} {X : Vec F S64x1024 .f32} {Q : PUnit → sProp 𝕄} :
    iprop(core m ρ c (colOut c) (.B 2 1 :: colIn c) sentRing l [] ∗ colHave c ∗ holds c rM (rPart m ρ c f 3) ∗ holds c oM X)
    ⊢ iprop((colMid m ρ c ((Msg.B 2 1).rIx :: l) ∗ (∃ X, holds c (ringSlot bM 3 1) X) -∗ Q ⟨⟩)
      -∗ run c (onBufs (k0_part32 (F := F)) c v2 v20 v27 v29 v32 (Qt m ρ c 4)) Q) := by
  simp only [onBufs, k0_part32_eq_skeleton]
  unfold k0_part32_skel
  simp only [Prog.lift, Prog.bind_op, Prog.bind_ret, Prog.pure_eq_ret, dif_pos ((cond3_iff c).2 ht), dif_neg (fun h => absurd ((cond4_iff c).1 h) (by omega)), dif_neg (fun h => absurd ((cond5_iff c).1 h) (by omega))]
  rw [mid_post m ρ (by omega)]
  rw [out_0 ht, in_0 ht]
  iintro ⟨HC, HV, Hr, Ho⟩
  iintro Hk
  iapply (await_B m ρ 2 1 3 2 rfl rfl rfl rfl (by rw [← out_0 ht]; exact lev_B21 c)) $$ HC
  iintro ⟨HC, Hb31⟩
  iapply (get_ring bM 3 1 rfl) $$ Hb31; iintro Hb31
  iapply load_it $$ Hr; iintro Hr
  iapply (store_r m ρ 3 1 1 rfl rfl (.inr ⟨rfl, by simp only [k0_pay57, slot_cast, shapeCast_self]; rfl⟩)) $$ Hr; iintro Hr
  ihave Hr := (Entails.of_eq (congrArg (fun X => (holds c rM X : sProp 𝕄)) (rPart_all m ρ (c := c) f))) $$ Hr
  ihave HV := (have_split (have_0 c ht)) $$ HV
  icases HV with ⟨HU, HV⟩
  ihave HU := (open_0 c) $$ HU
  icases HU with ⟨⟨%VHu3, Hu3⟩, ⟨%VHu2, Hu2⟩, ⟨%VHu1, Hu1⟩⟩
  iapply run_bind; iapply (part1 m ρ ht (s_0_U3 c ht)) $$ [HC Hr Hu3 Hu2]
  · isplitl [HC]; · iexact HC
    isplitl [Hr]; · iexact Hr
    isplitl [Hu3]; · iexact Hu3
    iexact Hu2
  iintro ⟨HC, Hr, Hu2⟩
  iapply run_bind; iapply (part2 m ρ ht (s_0_U2 c ht) (s_0_U1 c ht) (r_0_D0 c ht) (ks := []) (by simp)) $$ [HC Hr Hu2 Hu1]
  · isplitl [HC]; · iexact HC
    isplitl [Hr]; · iexact Hr
    isplitl [Hu2]; · iexact Hu2
    iexact Hu1
  iintro ⟨HC, Hr, Hd0⟩
  iapply (get_col dM 0 rfl) $$ Hd0; iintro Hd0
  iapply load_it $$ Ho; iintro Ho
  iapply (store_out (outv m ρ c) (by unfold outv; simp only [ht, k0_pay58, col_cast]; rfl)) $$ Ho; iintro Ho
  iapply (done_U m ρ (rs := [.U 1, .U 2, .B 2 1, .F 2 1, .B 2 0, .F 2 0, .B 1 1, .F 1 1, .B 1 0, .F 1 0, .B 0 1, .F 0 1, .B 0 0, .F 0 0]) 3 (s_0_U3 c ht) rfl rfl (by decide) (by decide)) $$ HC; iintro HC
  iapply (done_U m ρ (rs := [.U 1, .B 2 1, .F 2 1, .B 2 0, .F 2 0, .B 1 1, .F 1 1, .B 1 0, .F 1 0, .B 0 1, .F 0 1, .B 0 0, .F 0 0]) 2 (s_0_U2 c ht) rfl rfl (by decide) (by decide)) $$ HC; iintro HC
  iapply (done_U m ρ (rs := [.B 2 1, .F 2 1, .B 2 0, .F 2 0, .B 1 1, .F 1 1, .B 1 0, .F 1 0, .B 0 1, .F 0 1, .B 0 0, .F 0 0]) 1 (s_0_U1 c ht) rfl rfl (by decide) (by decide)) $$ HC; iintro HC
  ihave HG := (got_0 (c := c)) $$ [Hd0]
  · iexact Hd0
  ihave HQ := (col_end m ρ (bs := [Msg.U 1, Msg.U 2, Msg.U 3]) (got := [Msg.D 0]) (rest := [Msg.U 0, Msg.D 1, Msg.D 2, Msg.D 3]) (l' := (Msg.U 1).sIx :: (Msg.U 2).sIx :: (Msg.U 3).sIx :: (Msg.D 0).rIx :: (Msg.B 2 1).rIx :: l) (l := (Msg.B 2 1).rIx :: l) (by rw [colL_0 ht]; rfl) (back_0 c) (by decide) (by decide)) $$ [HC HG HV Hr Ho]
  · isplitl [HC]; · iexact HC
    isplitl [HG]; · iexact HG
    isplitl [HV]; · iexact HV
    isplitl [Hr]; · iexact Hr
    iexact Ho
  iapply run_ret
  iapply Hk
  isplitl [HQ]; · iexact HQ
  iapply (holds_any c _ _); iexact Hb31

theorem part32_1 (ht : c.val / 4 = 1) {f : Vec F S256x1024 .f32} {X : Vec F S64x1024 .f32} {Q : PUnit → sProp 𝕄} :
    iprop(core m ρ c (colOut c) (.B 2 1 :: colIn c) sentRing l [] ∗ colHave c ∗ holds c rM (rPart m ρ c f 3) ∗ holds c oM X)
    ⊢ iprop((colMid m ρ c ((Msg.B 2 1).rIx :: l) ∗ (∃ X, holds c (ringSlot bM 3 1) X) -∗ Q ⟨⟩)
      -∗ run c (onBufs (k0_part32 (F := F)) c v2 v20 v27 v29 v32 (Qt m ρ c 4)) Q) := by
  simp only [onBufs, k0_part32_eq_skeleton]
  unfold k0_part32_skel
  simp only [Prog.lift, Prog.bind_op, Prog.bind_ret, Prog.pure_eq_ret, dif_neg (fun h => absurd ((cond3_iff c).1 h) (by omega)), dif_pos ((cond4_iff c).2 ht), dif_neg (fun h => absurd ((cond5_iff c).1 h) (by omega))]
  rw [mid_post m ρ (by omega)]
  rw [out_1 ht, in_1 ht]
  iintro ⟨HC, HV, Hr, Ho⟩
  iintro Hk
  iapply (await_B m ρ 2 1 3 2 rfl rfl rfl rfl (by rw [← out_1 ht]; exact lev_B21 c)) $$ HC
  iintro ⟨HC, Hb31⟩
  iapply (get_ring bM 3 1 rfl) $$ Hb31; iintro Hb31
  iapply load_it $$ Hr; iintro Hr
  iapply (store_r m ρ 3 1 1 rfl rfl (.inr ⟨rfl, by simp only [k0_pay57, slot_cast, shapeCast_self]; rfl⟩)) $$ Hr; iintro Hr
  ihave Hr := (Entails.of_eq (congrArg (fun X => (holds c rM X : sProp 𝕄)) (rPart_all m ρ (c := c) f))) $$ Hr
  ihave HV := (have_split (have_1 c ht)) $$ HV
  icases HV with ⟨-, HV⟩
  iapply run_bind; iapply (part3 m ρ ht (s_1_U3 c ht) (r_1_U3 c ht) (lev_1_U3 c ht)) $$ [HC Hr]
  · isplitl [HC]; · iexact HC
    iexact Hr
  iintro ⟨HC, Hr⟩
  iapply run_bind; iapply (part4 m ρ ht (s_1_U2 c ht) (r_1_U2 c ht) (lev_1_U2 c ht)) $$ [HC Hr]
  · isplitl [HC]; · iexact HC
    iexact Hr
  iintro ⟨HC, Hr⟩
  iapply run_bind; iapply (part5 m ρ ht (s_1_D0 c ht) (r_1_D0 c ht) (lev_1_D0 c ht)) $$ [HC Hr]
  · isplitl [HC]; · iexact HC
    iexact Hr
  iintro %w
  iintro ⟨HC, Hr⟩
  iapply run_bind; iapply (part6 m ρ ht (r_1_U1 c ht) (r_1_D1 c ht)) $$ [HC Hr Ho]
  · isplitl [HC]; · iexact HC
    isplitl [Hr]; · iexact Hr
    iexact Ho
  iintro ⟨HC, Hr, Ho, Hu1, Hd1⟩
  iapply (done_U m ρ (rs := [.D 0, .U 2, .B 2 1, .F 2 1, .B 2 0, .F 2 0, .B 1 1, .F 1 1, .B 1 0, .F 1 0, .B 0 1, .F 0 1, .B 0 0, .F 0 0]) 3 (s_1_U3 c ht) rfl rfl (by decide) (by decide)) $$ HC; iintro HC
  iapply (done_U m ρ (rs := [.D 0, .B 2 1, .F 2 1, .B 2 0, .F 2 0, .B 1 1, .F 1 1, .B 1 0, .F 1 0, .B 0 1, .F 0 1, .B 0 0, .F 0 0]) 2 (s_1_U2 c ht) rfl rfl (by decide) (by decide)) $$ HC; iintro HC
  iapply (done_D m ρ (rs := [.B 2 1, .F 2 1, .B 2 0, .F 2 0, .B 1 1, .F 1 1, .B 1 0, .F 1 0, .B 0 1, .F 0 1, .B 0 0, .F 0 0]) 0 (s_1_D0 c ht) rfl rfl (by decide) (by decide)) $$ HC; iintro HC
  ihave HG := (got_1 (c := c)) $$ [Hu1 Hd1]
  · isplitl [Hu1]; · iexact Hu1
    iexact Hd1
  ihave HQ := (col_end m ρ (bs := [Msg.D 0, Msg.U 2, Msg.U 3]) (got := [Msg.U 1, Msg.D 1]) (rest := [Msg.U 0, Msg.D 2, Msg.D 3]) (l' := (Msg.D 0).sIx :: (Msg.U 2).sIx :: (Msg.U 3).sIx :: (Msg.D 1).rIx :: (Msg.U 1).rIx :: (Msg.D 0).rIx :: (Msg.U 2).rIx :: (Msg.U 3).rIx :: (Msg.B 2 1).rIx :: l) (l := (Msg.B 2 1).rIx :: l) (by rw [colL_1 ht]; rfl) (back_1 c) (by decide) (by decide)) $$ [HC HG HV Hr Ho]
  · isplitl [HC]; · iexact HC
    isplitl [HG]; · iexact HG
    isplitl [HV]; · iexact HV
    isplitl [Hr]; · iexact Hr
    iexact Ho
  iapply run_ret
  iapply Hk
  isplitl [HQ]; · iexact HQ
  iapply (holds_any c _ _); iexact Hb31

theorem part32_2 (ht : c.val / 4 = 2) {f : Vec F S256x1024 .f32} {X : Vec F S64x1024 .f32} {Q : PUnit → sProp 𝕄} :
    iprop(core m ρ c (colOut c) (.B 2 1 :: colIn c) sentRing l [] ∗ colHave c ∗ holds c rM (rPart m ρ c f 3) ∗ holds c oM X)
    ⊢ iprop((colMid m ρ c ((Msg.B 2 1).rIx :: l) ∗ (∃ X, holds c (ringSlot bM 3 1) X) -∗ Q ⟨⟩)
      -∗ run c (onBufs (k0_part32 (F := F)) c v2 v20 v27 v29 v32 (Qt m ρ c 4)) Q) := by
  simp only [onBufs, k0_part32_eq_skeleton]
  unfold k0_part32_skel
  simp only [Prog.lift, Prog.bind_op, Prog.bind_ret, Prog.pure_eq_ret, dif_neg (fun h => absurd ((cond3_iff c).1 h) (by omega)), dif_neg (fun h => absurd ((cond4_iff c).1 h) (by omega)), dif_pos ((cond5_iff c).2 ht)]
  rw [mid_post m ρ (by omega)]
  rw [out_2 ht, in_2 ht]
  iintro ⟨HC, HV, Hr, Ho⟩
  iintro Hk
  iapply (await_B m ρ 2 1 3 2 rfl rfl rfl rfl (by rw [← out_2 ht]; exact lev_B21 c)) $$ HC
  iintro ⟨HC, Hb31⟩
  iapply (get_ring bM 3 1 rfl) $$ Hb31; iintro Hb31
  iapply load_it $$ Hr; iintro Hr
  iapply (store_r m ρ 3 1 1 rfl rfl (.inr ⟨rfl, by simp only [k0_pay57, slot_cast, shapeCast_self]; rfl⟩)) $$ Hr; iintro Hr
  ihave Hr := (Entails.of_eq (congrArg (fun X => (holds c rM X : sProp 𝕄)) (rPart_all m ρ (c := c) f))) $$ Hr
  ihave HV := (have_split (have_2 c ht)) $$ HV
  icases HV with ⟨-, HV⟩
  iapply run_bind; iapply (part7 m ρ ht (s_2_D0 c ht) (r_2_D0 c ht) (lev_2_D0 c ht)) $$ [HC Hr]
  · isplitl [HC]; · iexact HC
    iexact Hr
  iintro ⟨HC, Hr⟩
  iapply run_bind; iapply (part8 m ρ ht (s_2_D1 c ht) (r_2_D1 c ht) (lev_2_D1 c ht)) $$ [HC Hr]
  · isplitl [HC]; · iexact HC
    iexact Hr
  iintro ⟨HC, Hr⟩
  iapply run_bind; iapply (part9 m ρ ht (s_2_U3 c ht) (r_2_U3 c ht) (lev_2_U3 c ht)) $$ [HC Hr]
  · isplitl [HC]; · iexact HC
    iexact Hr
  iintro %w
  iintro ⟨HC, Hr⟩
  iapply run_bind; iapply (part10 m ρ ht (r_2_U2 c ht) (r_2_D2 c ht)) $$ [HC Hr Ho]
  · isplitl [HC]; · iexact HC
    isplitl [Hr]; · iexact Hr
    iexact Ho
  iintro ⟨HC, Hr, Ho, Hu2, Hd2⟩
  iapply (done_D m ρ (rs := [.U 3, .D 1, .B 2 1, .F 2 1, .B 2 0, .F 2 0, .B 1 1, .F 1 1, .B 1 0, .F 1 0, .B 0 1, .F 0 1, .B 0 0, .F 0 0]) 0 (s_2_D0 c ht) rfl rfl (by decide) (by decide)) $$ HC; iintro HC
  iapply (done_D m ρ (rs := [.U 3, .B 2 1, .F 2 1, .B 2 0, .F 2 0, .B 1 1, .F 1 1, .B 1 0, .F 1 0, .B 0 1, .F 0 1, .B 0 0, .F 0 0]) 1 (s_2_D1 c ht) rfl rfl (by decide) (by decide)) $$ HC; iintro HC
  iapply (done_U m ρ (rs := [.B 2 1, .F 2 1, .B 2 0, .F 2 0, .B 1 1, .F 1 1, .B 1 0, .F 1 0, .B 0 1, .F 0 1, .B 0 0, .F 0 0]) 3 (s_2_U3 c ht) rfl rfl (by decide) (by decide)) $$ HC; iintro HC
  ihave HG := (got_2 (c := c)) $$ [Hu2 Hd2]
  · isplitl [Hu2]; · iexact Hu2
    iexact Hd2
  ihave HQ := (col_end m ρ (bs := [Msg.U 3, Msg.D 1, Msg.D 0]) (got := [Msg.U 2, Msg.D 2]) (rest := [Msg.U 0, Msg.U 1, Msg.D 3]) (l' := (Msg.U 3).sIx :: (Msg.D 1).sIx :: (Msg.D 0).sIx :: (Msg.D 2).rIx :: (Msg.U 2).rIx :: (Msg.U 3).rIx :: (Msg.D 1).rIx :: (Msg.D 0).rIx :: (Msg.B 2 1).rIx :: l) (l := (Msg.B 2 1).rIx :: l) (by rw [colL_2 ht]; rfl) (back_2 c) (by decide) (by decide)) $$ [HC HG HV Hr Ho]
  · isplitl [HC]; · iexact HC
    isplitl [HG]; · iexact HG
    isplitl [HV]; · iexact HV
    isplitl [Hr]; · iexact Hr
    iexact Ho
  iapply run_ret
  iapply Hk
  isplitl [HQ]; · iexact HQ
  iapply (holds_any c _ _); iexact Hb31

theorem part32_3 (ht : c.val / 4 = 3) {f : Vec F S256x1024 .f32} {X : Vec F S64x1024 .f32} {Q : PUnit → sProp 𝕄} :
    iprop(core m ρ c (colOut c) (.B 2 1 :: colIn c) sentRing l [] ∗ colHave c ∗ holds c rM (rPart m ρ c f 3) ∗ holds c oM X)
    ⊢ iprop((colMid m ρ c ((Msg.B 2 1).rIx :: l) ∗ (∃ X, holds c (ringSlot bM 3 1) X) -∗ Q ⟨⟩)
      -∗ run c (onBufs (k0_part32 (F := F)) c v2 v20 v27 v29 v32 (Qt m ρ c 4)) Q) := by
  simp only [onBufs, k0_part32_eq_skeleton]
  unfold k0_part32_skel
  simp only [Prog.lift, Prog.bind_op, Prog.bind_ret, Prog.pure_eq_ret, dif_neg (fun h => absurd ((cond3_iff c).1 h) (by omega)), dif_neg (fun h => absurd ((cond4_iff c).1 h) (by omega)), dif_neg (fun h => absurd ((cond5_iff c).1 h) (by omega))]
  rw [mid_pre m ρ ht]
  unfold colPre
  iintro ⟨HC, HV, Hr, Ho⟩
  iintro Hk
  iapply (await_B m ρ 2 1 3 2 rfl rfl rfl rfl (lev_B21 c)) $$ HC
  iintro ⟨HC, Hb31⟩
  iapply (get_ring bM 3 1 rfl) $$ Hb31; iintro Hb31
  iapply load_it $$ Hr; iintro Hr
  iapply (store_r m ρ 3 1 1 rfl rfl (.inr ⟨rfl, by simp only [k0_pay57, slot_cast, shapeCast_self]; rfl⟩)) $$ Hr; iintro Hr
  ihave Hr := (Entails.of_eq (congrArg (fun X => (holds c rM X : sProp 𝕄)) (rPart_all m ρ (c := c) f))) $$ Hr
  iapply run_ret
  iapply Hk
  isplitl [HC HV Hr Ho]
  · isplitl [HC]; · iexact HC
    isplitl [HV]; · iexact HV
    isplitl [Hr]; · iexact Hr
    iapply (holds_any c _ _); iexact Ho
  iapply (holds_any c _ _); iexact Hb31

/-- `B 2 1` arrives: the ring's result is whole; then the column, in its first three rows. -/
theorem part32 {f : Vec F S256x1024 .f32} {X : Vec F S64x1024 .f32} {Q : PUnit → sProp 𝕄} :
    iprop(core m ρ c (colOut c) (.B 2 1 :: colIn c) sentRing l [] ∗ colHave c ∗ holds c rM (rPart m ρ c f 3) ∗ holds c oM X)
    ⊢ iprop((colMid m ρ c ((Msg.B 2 1).rIx :: l) ∗ (∃ X, holds c (ringSlot bM 3 1) X) -∗ Q ⟨⟩)
      -∗ run c (onBufs (k0_part32 (F := F)) c v2 v20 v27 v29 v32 (Qt m ρ c 4)) Q) := by
  have h4 : c.val / 4 = 0 ∨ c.val / 4 = 1 ∨ c.val / 4 = 2 ∨ c.val / 4 = 3 := by revert c; decide
  rcases h4 with ht | ht | ht | ht
  · exact part32_0 m ρ ht
  · exact part32_1 m ρ ht
  · exact part32_2 m ρ ht
  · exact part32_3 m ρ ht

/-- The last row's column; then the first two of the ring's messages have left. -/
theorem part33 {Q : PUnit → sProp 𝕄} :
    colMid m ρ c l
    ⊢ iprop((core m ρ c [] [] [.B 2 1, .F 2 1, .B 2 0, .F 2 0, .B 1 1, .F 1 1, .B 1 0, .F 1 0, .B 0 1, .B 0 0] ((Msg.F 0 1).sIx :: (Msg.F 0 0).sIx :: (colL c ++ l)) [.F 0 1, .F 0 0]
        ∗ colAll c ∗ holds c rM (rv m ρ c) ∗ holds c oM (outv m ρ c) -∗ Q ⟨⟩)
      -∗ run c (onBufs (k0_part33 (F := F)) c v2 v32) Q) := by
  simp only [onBufs, k0_part33_eq_skeleton]
  unfold k0_part33_skel
  by_cases ht : c.val / 4 = 3
  · simp only [Prog.lift, Prog.bind_op, Prog.bind_ret, Prog.pure_eq_ret, dif_pos ((cond6_iff c).2 ht)]
    rw [mid_pre m ρ ht]
    unfold colPre
    rw [out_3 ht, in_3 ht]
    iintro ⟨HC, HV, Hr, ⟨%X, Ho⟩⟩
    iintro Hk
    ihave HV := (have_split (have_3 c ht)) $$ HV
    icases HV with ⟨HU, HV⟩
    ihave HU := (open_3 c) $$ HU
    icases HU with ⟨⟨%VHd0, Hd0⟩, ⟨%VHd1, Hd1⟩, ⟨%VHd2, Hd2⟩⟩
    iapply run_bind; iapply (part11 m ρ ht (s_3_D0 c ht)) $$ [HC Hr Hd0 Hd1]
    · isplitl [HC]; · iexact HC
      isplitl [Hr]; · iexact Hr
      isplitl [Hd0]; · iexact Hd0
      iexact Hd1
    iintro ⟨HC, Hr, Hd1⟩
    iapply run_bind; iapply (part12 m ρ ht (s_3_D1 c ht) (s_3_D2 c ht) (r_3_U3 c ht) (ks := []) (by simp)) $$ [HC Hr Hd1 Hd2]
    · isplitl [HC]; · iexact HC
      isplitl [Hr]; · iexact Hr
      isplitl [Hd1]; · iexact Hd1
      iexact Hd2
    iintro ⟨HC, Hr, Hu3⟩
    iapply (get_col uM 3 rfl) $$ Hu3; iintro Hu3
    iapply load_it $$ Ho; iintro Ho
    iapply (store_out (outv m ρ c) (by unfold outv; simp only [ht, k0_pay59, col_cast]; rfl)) $$ Ho; iintro Ho
    iapply (done_D m ρ (rs := [.D 2, .D 1, .B 2 1, .F 2 1, .B 2 0, .F 2 0, .B 1 1, .F 1 1, .B 1 0, .F 1 0, .B 0 1, .F 0 1, .B 0 0, .F 0 0]) 0 (s_3_D0 c ht) rfl rfl (by decide) (by decide)) $$ HC; iintro HC
    iapply (done_D m ρ (rs := [.D 2, .B 2 1, .F 2 1, .B 2 0, .F 2 0, .B 1 1, .F 1 1, .B 1 0, .F 1 0, .B 0 1, .F 0 1, .B 0 0, .F 0 0]) 1 (s_3_D1 c ht) rfl rfl (by decide) (by decide)) $$ HC; iintro HC
    iapply (done_D m ρ (rs := [.B 2 1, .F 2 1, .B 2 0, .F 2 0, .B 1 1, .F 1 1, .B 1 0, .F 1 0, .B 0 1, .F 0 1, .B 0 0, .F 0 0]) 2 (s_3_D2 c ht) rfl rfl (by decide) (by decide)) $$ HC; iintro HC
    ihave HG := (got_3 (c := c)) $$ [Hu3]
    · iexact Hu3
    ihave HQ := (col_end m ρ (bs := [Msg.D 2, Msg.D 1, Msg.D 0]) (got := [Msg.U 3]) (rest := [Msg.U 0, Msg.U 1, Msg.U 2, Msg.D 3]) (l' := (Msg.D 2).sIx :: (Msg.D 1).sIx :: (Msg.D 0).sIx :: (Msg.U 3).rIx :: l) (l := l) (by rw [colL_3 ht]; rfl) (back_3 c) (by decide) (by decide)) $$ [HC HG HV Hr Ho]
    · isplitl [HC]; · iexact HC
      isplitl [HG]; · iexact HG
      isplitl [HV]; · iexact HV
      isplitl [Hr]; · iexact Hr
      iexact Ho
    ihave HQ := (post_open m ρ) $$ HQ
    icases HQ with ⟨HC, HV, Hr, Ho⟩
    iapply (done_F m ρ (rs := [.B 2 1, .F 2 1, .B 2 0, .F 2 0, .B 1 1, .F 1 1, .B 1 0, .F 1 0, .B 0 1, .F 0 1, .B 0 0]) 0 0 0 rfl rfl (by decide) (by decide)) $$ HC; iintro HC
    iapply (done_F m ρ (rs := [.B 2 1, .F 2 1, .B 2 0, .F 2 0, .B 1 1, .F 1 1, .B 1 0, .F 1 0, .B 0 1, .B 0 0]) 0 1 0 rfl rfl (by decide) (by decide)) $$ HC; iintro HC
    iapply run_ret
    iapply Hk
    isplitl [HC]; · iexact HC
    isplitl [HV]; · iexact HV
    isplitl [Hr]; · iexact Hr
    iexact Ho
  · simp only [Prog.lift, Prog.bind_op, Prog.bind_ret, Prog.pure_eq_ret, dif_neg (fun h => ht ((cond6_iff c).1 h))]
    rw [mid_post m ρ ht]
    iintro HQ
    iintro Hk
    ihave HQ := (post_open m ρ) $$ HQ
    icases HQ with ⟨HC, HV, Hr, Ho⟩
    iapply (done_F m ρ (rs := [.B 2 1, .F 2 1, .B 2 0, .F 2 0, .B 1 1, .F 1 1, .B 1 0, .F 1 0, .B 0 1, .F 0 1, .B 0 0]) 0 0 0 rfl rfl (by decide) (by decide)) $$ HC; iintro HC
    iapply (done_F m ρ (rs := [.B 2 1, .F 2 1, .B 2 0, .F 2 0, .B 1 1, .F 1 1, .B 1 0, .F 1 0, .B 0 1, .B 0 0]) 0 1 0 rfl rfl (by decide) (by decide)) $$ HC; iintro HC
    iapply run_ret
    iapply Hk
    isplitl [HC]; · iexact HC
    isplitl [HV]; · iexact HV
    isplitl [Hr]; · iexact Hr
    iexact Ho

/-- Three more have left. -/
theorem part34 {Q : PUnit → sProp 𝕄} :
    core m ρ c [] [] [.B 2 1, .F 2 1, .B 2 0, .F 2 0, .B 1 1, .F 1 1, .B 1 0, .F 1 0, .B 0 1, .B 0 0] l bs
    ⊢ iprop((core m ρ c [] [] [.B 2 1, .F 2 1, .B 2 0, .F 2 0, .B 1 1, .F 1 1, .B 1 0] ((Msg.F 1 0).sIx :: (Msg.B 0 1).sIx :: (Msg.B 0 0).sIx :: l) (.F 1 0 :: .B 0 1 :: .B 0 0 :: bs) -∗ Q ⟨⟩)
      -∗ run c (onBufs (k0_part34 (F := F))) Q) := by
  simp only [onBufs, k0_part34_eq_skeleton]
  unfold k0_part34_skel
  simp only [Prog.lift, Prog.bind_op, Prog.bind_ret, Prog.pure_eq_ret]
  iintro HC
  iintro Hk
  iapply (done_B m ρ (rs := [.B 2 1, .F 2 1, .B 2 0, .F 2 0, .B 1 1, .F 1 1, .B 1 0, .F 1 0, .B 0 1]) 0 0 0 rfl rfl (by decide) (by decide)) $$ HC; iintro HC
  iapply (done_B m ρ (rs := [.B 2 1, .F 2 1, .B 2 0, .F 2 0, .B 1 1, .F 1 1, .B 1 0, .F 1 0]) 0 1 0 rfl rfl (by decide) (by decide)) $$ HC; iintro HC
  iapply (done_F m ρ (rs := [.B 2 1, .F 2 1, .B 2 0, .F 2 0, .B 1 1, .F 1 1, .B 1 0]) 1 0 1 rfl rfl (by decide) (by decide)) $$ HC; iintro HC
  iapply run_ret
  iapply Hk
  iexact HC

/-- Three more have left. -/
theorem part35 {Q : PUnit → sProp 𝕄} :
    core m ρ c [] [] [.B 2 1, .F 2 1, .B 2 0, .F 2 0, .B 1 1, .F 1 1, .B 1 0] l bs
    ⊢ iprop((core m ρ c [] [] [.B 2 1, .F 2 1, .B 2 0, .F 2 0] ((Msg.B 1 1).sIx :: (Msg.B 1 0).sIx :: (Msg.F 1 1).sIx :: l) (.B 1 1 :: .B 1 0 :: .F 1 1 :: bs) -∗ Q ⟨⟩)
      -∗ run c (onBufs (k0_part35 (F := F))) Q) := by
  simp only [onBufs, k0_part35_eq_skeleton]
  unfold k0_part35_skel
  simp only [Prog.lift, Prog.bind_op, Prog.bind_ret, Prog.pure_eq_ret]
  iintro HC
  iintro Hk
  iapply (done_F m ρ (rs := [.B 2 1, .F 2 1, .B 2 0, .F 2 0, .B 1 1, .B 1 0]) 1 1 1 rfl rfl (by decide) (by decide)) $$ HC; iintro HC
  iapply (done_B m ρ (rs := [.B 2 1, .F 2 1, .B 2 0, .F 2 0, .B 1 1]) 1 0 1 rfl rfl (by decide) (by decide)) $$ HC; iintro HC
  iapply (done_B m ρ (rs := [.B 2 1, .F 2 1, .B 2 0, .F 2 0]) 1 1 1 rfl rfl (by decide) (by decide)) $$ HC; iintro HC
  iapply run_ret
  iapply Hk
  iexact HC

/-- Three more have left. -/
theorem part36 {Q : PUnit → sProp 𝕄} :
    core m ρ c [] [] [.B 2 1, .F 2 1, .B 2 0, .F 2 0] l bs
    ⊢ iprop((core m ρ c [] [] [.B 2 1] ((Msg.B 2 0).sIx :: (Msg.F 2 1).sIx :: (Msg.F 2 0).sIx :: l) (.B 2 0 :: .F 2 1 :: .F 2 0 :: bs) -∗ Q ⟨⟩)
      -∗ run c (onBufs (k0_part36 (F := F))) Q) := by
  simp only [onBufs, k0_part36_eq_skeleton]
  unfold k0_part36_skel
  simp only [Prog.lift, Prog.bind_op, Prog.bind_ret, Prog.pure_eq_ret]
  iintro HC
  iintro Hk
  iapply (done_F m ρ (rs := [.B 2 1, .F 2 1, .B 2 0]) 2 0 2 rfl rfl (by decide) (by decide)) $$ HC; iintro HC
  iapply (done_F m ρ (rs := [.B 2 1, .B 2 0]) 2 1 2 rfl rfl (by decide) (by decide)) $$ HC; iintro HC
  iapply (done_B m ρ (rs := [.B 2 1]) 2 0 2 rfl rfl (by decide) (by decide)) $$ HC; iintro HC
  iapply run_ret
  iapply Hk
  iexact HC

end Parts

end Cert.KernelIdeal.Ring
-- ==== Proof.KernelIdeal.Body.lean ====
/- /- The whole body: its parts one after the other, from what a device starts out with to what it ends with. -/ -/
module

public import proofs.«01_k».proof.Proof.KernelIdeal.Rows

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## What a device starts out with, and what it ends with -/

/-- The semaphores of the messages the device takes no part in. -/
def idle (c : Dev nD) : List (Fin 40) :=
  ((Msg.col.filter fun k => !k.sends c).map Msg.sIx) ++ ((Msg.col.filter fun k => !k.recvs c).map Msg.rIx)

/-- What the four signals to the neighbours take. -/
def sigs (c : Dev nD) : sProp 𝕄 := iprop(sigKit (lt c) 1 ∗ sigKit (rt c) 0 ∗ sigKit (up c) 3 ∗ sigKit (dn c) 2)

/-- The slots the first messages of the ring are sent from. -/
def first (c : Dev nD) : sProp 𝕄 := iprop((∃ X, holds c (ringSlot fM 0 0) X) ∗ (∃ X, holds c (ringSlot fM 0 1) X)
  ∗ (∃ X, holds c (ringSlot bM 0 0) X) ∗ (∃ X, holds c (ringSlot bM 0 1) X))
/-- The slots the last messages of the ring land in. -/
def final (c : Dev nD) : sProp 𝕄 := iprop((∃ X, holds c (ringSlot fM 3 0) X) ∗ (∃ X, holds c (ringSlot fM 3 1) X)
  ∗ (∃ X, holds c (ringSlot bM 3 0) X) ∗ (∃ X, holds c (ringSlot bM 3 1) X))

/-- The order in which the messages' departures are awaited, the last first. -/
abbrev leftAll : List Msg := [.B 2 1, .B 2 0, .F 2 1, .F 2 0, .B 1 1, .B 1 0, .F 1 1, .F 1 0, .B 0 1, .B 0 0, .F 0 1, .F 0 0]

/-- The semaphores done with by the end, the last first. -/
def endL (c : Dev nD) (l : List (Fin 40)) : List (Fin 40) :=
  leftAll.map Msg.sIx ++ (colL c ++ ([Msg.B 2 1, .F 2 1, .B 2 0, .F 2 0, .B 1 1, .F 1 1, .B 1 0, .F 1 0, .B 0 1, .F 0 1, .B 0 0, .F 0 0].map Msg.rIx ++ l))

/-- Before the body -/
def pre (c : Dev nD) : sProp 𝕄 := iprop(recs m ρ ∗ (∃ W, owes (c : Thread nD τ) (O₀ c) W) ∗ sigs c ∗ barKit c ∗ kits c (idle c)
  ∗ holds c xM (xv m ρ c) ∗ holds c wM (wv m ρ c) ∗ (∃ X, holds c oM X) ∗ (∃ X, holds c pM X) ∗ (∃ X, holds c rM X) ∗ first c ∗ colHave c)
/-- and after it. -/
def post (c : Dev nD) : sProp 𝕄 := iprop(oweL c [] ∗ zs c (endL c (idle c)) ∗ bigSepL leftAll (sendPay c) ∗ semVal (barCell c) 0
  ∗ ins m ρ c ∗ final c ∗ colAll c ∗ holds c rM (rv m ρ c) ∗ holds c oM (outv m ρ c))

/-! ## Every wait is at a level below what the device owes -/

theorem lev_F00 : ∀ c : Dev nD, ∀ k' ∈ (.F 1 0 :: .B 1 0 :: .F 1 1 :: .B 1 1 :: .F 2 0 :: .B 2 0 :: .F 2 1 :: .B 2 1 :: colOut c : List Msg), rlv c (.F 0 0) < rlv (k'.dst c) k' := by decide +kernel
theorem lev_B00 : ∀ c : Dev nD, ∀ k' ∈ (.B 1 0 :: .F 1 1 :: .B 1 1 :: .F 2 0 :: .B 2 0 :: .F 2 1 :: .B 2 1 :: colOut c : List Msg), rlv c (.B 0 0) < rlv (k'.dst c) k' := by decide +kernel
theorem lev_F01 : ∀ c : Dev nD, ∀ k' ∈ (.F 1 1 :: .B 1 1 :: .F 2 0 :: .B 2 0 :: .F 2 1 :: .B 2 1 :: colOut c : List Msg), rlv c (.F 0 1) < rlv (k'.dst c) k' := by decide +kernel
theorem lev_B01 : ∀ c : Dev nD, ∀ k' ∈ (.B 1 1 :: .F 2 0 :: .B 2 0 :: .F 2 1 :: .B 2 1 :: colOut c : List Msg), rlv c (.B 0 1) < rlv (k'.dst c) k' := by decide +kernel
theorem lev_F10 : ∀ c : Dev nD, ∀ k' ∈ (.F 2 0 :: .B 2 0 :: .F 2 1 :: .B 2 1 :: colOut c : List Msg), rlv c (.F 1 0) < rlv (k'.dst c) k' := by decide +kernel
theorem lev_B10 : ∀ c : Dev nD, ∀ k' ∈ (.B 2 0 :: .F 2 1 :: .B 2 1 :: colOut c : List Msg), rlv c (.B 1 0) < rlv (k'.dst c) k' := by decide +kernel
theorem lev_F11 : ∀ c : Dev nD, ∀ k' ∈ (.F 2 1 :: .B 2 1 :: colOut c : List Msg), rlv c (.F 1 1) < rlv (k'.dst c) k' := by decide +kernel
theorem lev_B11 : ∀ c : Dev nD, ∀ k' ∈ (.B 2 1 :: colOut c : List Msg), rlv c (.B 1 1) < rlv (k'.dst c) k' := by decide +kernel
theorem lev_F20 : ∀ c : Dev nD, ∀ k' ∈ (colOut c : List Msg), rlv c (.F 2 0) < rlv (k'.dst c) k' := by decide +kernel
theorem lev_B20 : ∀ c : Dev nD, ∀ k' ∈ (colOut c : List Msg), rlv c (.B 2 0) < rlv (k'.dst c) k' := by decide +kernel
theorem lev_F21 : ∀ c : Dev nD, ∀ k' ∈ (colOut c : List Msg), rlv c (.F 2 1) < rlv (k'.dst c) k' := by decide +kernel

theorem ring_out (c : Dev nD) : Msg.ring ++ colOut c = (.F 0 0 :: .B 0 0 :: .F 0 1 :: .B 0 1 :: .F 1 0 :: .B 1 0 :: .F 1 1 :: .B 1 1 :: .F 2 0 :: .B 2 0 :: .F 2 1 :: .B 2 1 :: colOut c) := rfl
theorem ring_in (c : Dev nD) : Msg.ring ++ colIn c = (.F 0 0 :: .B 0 0 :: .F 0 1 :: .B 0 1 :: .F 1 0 :: .B 1 0 :: .F 1 1 :: .B 1 1 :: .F 2 0 :: .B 2 0 :: .F 2 1 :: .B 2 1 :: colIn c) := rfl

/-! ## The body -/

variable {c : Dev nD}

theorem ins_close : iprop(holds c xM (xv m ρ c) ∗ holds c wM (wv m ρ c) ∗ holds c pM (perm m ρ c)) ⊢ ins m ρ c := .rfl
theorem core_end {l : List (Fin 40)} {bs : List Msg} :
    core m ρ c [] [] [] l bs ⊢ iprop(oweL c [] ∗ zs c l ∗ bigSepL bs (sendPay c)) := by
  unfold core
  iintro ⟨-, -, HO, -, -, HZ, HB⟩
  isplitl [HO]; · iexact HO
  isplitl [HZ]; · iexact HZ
  iexact HB

theorem body_run {Q : PUnit → sProp 𝕄} :
    pre m ρ c ⊢ iprop((post m ρ c -∗ Q ⟨⟩) -∗ run c (onBufs (cc0_body (F := F))) Q) := by
  rw [cc0_body_eq_skeleton]
  simp only [onBufs]
  unfold cc0_body_skel
  simp only [Prog.lift, Prog.pure_eq_ret]
  unfold pre sigs first
  iintro ⟨#HR, ⟨%W, HO⟩, ⟨Sl, Sr, Su, Sd⟩, HB, HK, Hx, Hw, ⟨%o₀, Ho⟩, ⟨%p₀, Hp⟩, ⟨%r₀, Hr⟩, ⟨⟨%f0, Hf0⟩, ⟨%f1, Hf1⟩, ⟨%b0, Hb0⟩, ⟨%b1, Hb1⟩⟩, HV⟩
  iintro Hk
  ihave Hp := (Entails.of_eq (congrArg (fun X => (holds c pM X : sProp 𝕄)) (permPart_zero m ρ p₀).symm)) $$ Hp
  ihave Hr := (Entails.of_eq (congrArg (fun X => (holds c rM X : sProp 𝕄)) (rPart_zero m ρ r₀).symm)) $$ Hr
  iapply run_bind; iapply (part13 m ρ) $$ [HO Sl]
  · isplitr; · iexact HR
    isplitl [HO]; · iexact HO
    iexact Sl
  iintro %v2 %v3 %v20 %v24 %v27 %v29 %v32 HO
  iapply run_bind; iapply (part14 m ρ) $$ [HO Sr Su Sd Hx Hp]
  · isplitr; · iexact HR
    isplitl [HO]; · iexact HO
    isplitl [Sr]; · iexact Sr
    isplitl [Su]; · iexact Su
    isplitl [Sd]; · iexact Sd
    isplitl [Hx]; · iexact Hx
    iexact Hp
  iintro ⟨HO, Hx, Hp⟩
  iapply run_bind; iapply (part15 m ρ) $$ [Hx Hp]
  · isplitl [Hx]; · iexact Hx
    iexact Hp
  iintro ⟨Hx, Hp⟩
  iapply run_bind; iapply (part16 m ρ) $$ [Hx Hp]
  · isplitl [Hx]; · iexact Hx
    iexact Hp
  iintro %v124
  iintro ⟨Hx, Hp⟩
  ihave HI := (ins_close m ρ) $$ [Hx Hw Hp]
  · isplitl [Hx]; · iexact Hx
    isplitl [Hw]; · iexact Hw
    iexact Hp
  iapply run_bind; iapply (part17 m ρ) $$ [HO HB HK HI Hf0]
  · isplitr; · iexact HR
    isplitl [HO]; · iexact HO
    isplitl [HB]; · iexact HB
    isplitl [HK]; · iexact HK
    isplitl [HI]; · iexact HI
    iexact Hf0
  iintro ⟨HC, HZ, HI, Hf0⟩
  ihave HC := (Entails.of_eq (congrArg₂ (fun a b => core m ρ c a b [] (idle c) []) (ring_out c) (ring_in c))) $$ HC
  iapply run_bind; iapply (part18 m ρ) $$ [HC Hf0 Hb0 Hf1]
  · isplitl [HC]; · iexact HC
    isplitl [Hf0]; · iexact Hf0
    isplitl [Hb0]; · iexact Hb0
    iexact Hf1
  iintro %w
  iintro ⟨HC, Hf1⟩
  iapply run_bind; iapply (part19 m ρ) $$ [HC Hf1 Hb1]
  · isplitl [HC]; · iexact HC
    isplitl [Hf1]; · iexact Hf1
    iexact Hb1
  iintro ⟨HC, Hb1⟩
  iapply run_bind; iapply (part20 m ρ (lev_F00 c)) $$ [HC HI Hb1]
  · isplitl [HC]; · iexact HC
    isplitl [HI]; · iexact HI
    iexact Hb1
  iintro %w1
  iintro ⟨HC, HI, Hf⟩
  iapply run_bind; iapply (part21 m ρ (lev_B00 c)) $$ [HC Hf]
  · isplitl [HC]; · iexact HC
    iexact Hf
  iintro ⟨HC, Hb⟩
  iapply run_bind; iapply (part22 m ρ (lev_F01 c)) $$ [HC Hb]
  · isplitl [HC]; · iexact HC
    iexact Hb
  iintro ⟨HC, Hf⟩
  iapply run_bind; iapply (part23 m ρ) $$ [HC Hf]
  · isplitl [HC]; · iexact HC
    iexact Hf
  iintro HC
  iapply run_bind; iapply (part24 m ρ (lev_B01 c)) $$ HC
  iintro %w2
  iintro %w3
  iintro HC
  iapply run_bind; iapply (part25 m ρ (lev_F10 c)) $$ [HC HI]
  · isplitl [HC]; · iexact HC
    iexact HI
  iintro %w4
  iintro ⟨HC, HI, Hf⟩
  iapply run_bind; iapply (part26 m ρ (lev_B10 c)) $$ [HC Hf]
  · isplitl [HC]; · iexact HC
    iexact Hf
  iintro ⟨HC, Hb⟩
  iapply run_bind; iapply (part27 m ρ (lev_F11 c)) $$ [HC Hb]
  · isplitl [HC]; · iexact HC
    iexact Hb
  iintro ⟨HC, Hf⟩
  iapply run_bind; iapply (part28 m ρ) $$ [HC Hf]
  · isplitl [HC]; · iexact HC
    iexact Hf
  iintro HC
  iapply run_bind; iapply (part29 m ρ (lev_B11 c)) $$ [HC HI]
  · isplitl [HC]; · iexact HC
    iexact HI
  iintro ⟨HC, HI⟩
  iapply run_bind; iapply (part30 m ρ (lev_F20 c)) $$ [HC HI Hr]
  · isplitl [HC]; · iexact HC
    isplitl [HI]; · iexact HI
    iexact Hr
  iintro ⟨HC, HI, Hr, Hf30⟩
  iapply run_bind; iapply (part31 m ρ (lev_B20 c) (lev_F21 c)) $$ [HC Hr]
  · isplitl [HC]; · iexact HC
    iexact Hr
  iintro ⟨HC, Hr, Hb30, Hf31⟩
  iapply run_bind; iapply (part32 m ρ) $$ [HC HV Hr Ho]
  · isplitl [HC]; · iexact HC
    isplitl [HV]; · iexact HV
    isplitl [Hr]; · iexact Hr
    iexact Ho
  iintro ⟨HM, Hb31⟩
  iapply run_bind; iapply (part33 m ρ) $$ HM
  iintro ⟨HC, HV, Hr, Ho⟩
  iapply run_bind; iapply (part34 m ρ) $$ HC
  iintro HC
  iapply run_bind; iapply (part35 m ρ) $$ HC
  iintro HC
  iapply run_bind; iapply (part36 m ρ) $$ HC
  iintro HC
  simp only [Prog.bind_op, Prog.bind_ret]
  iapply (done_B m ρ (rs := []) 2 1 2 rfl rfl (by decide) (by decide)) $$ HC; iintro HC
  iapply run_ret
  iapply Hk
  unfold post final
  ihave HC := (core_end m ρ) $$ HC
  icases HC with ⟨HO, HS, HP⟩
  isplitl [HO]; · iexact HO
  isplitl [HS]; · iexact HS
  isplitl [HP]; · iexact HP
  isplitl [HZ]; · iexact HZ
  isplitl [HI]; · iexact HI
  isplitl [Hf30 Hf31 Hb30 Hb31]
  · isplitl [Hf30]; · iexists _; iexact Hf30
    isplitl [Hf31]; · iexists _; iexact Hf31
    isplitl [Hb30]; · iexists _; iexact Hb30
    iexact Hb31
  isplitl [HV]; · iexact HV
  isplitl [Hr]; · iexact Hr
  iexact Ho

end Cert.KernelIdeal.Ring
-- ==== Proof.KernelIdeal.Slots.lean ====
/- A buffer held whole is held slot by slot, and back. -/
module

public import proofs.«01_k».proof.Proof.KernelIdeal.Body

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

variable {c : Dev nD}

theorem ring_set (M : Memref sig .tc .vmem S4x2x128x512 .bf16) (h : Fin 4) (s : Fin 2) :
    (ringSlot M h s).view.set = (ringRect h s).set.map M.view.emb :=
  (View.set_reshape (M.view.slice (ringRect h s)) squeezes_S1x1x128x512_S128x512.numel_eq).trans (View.set_slice M.view _)
theorem col_set (M : Memref sig .tc .vmem S4x64x1024 .bf16) (d : Fin 4) :
    (colSlot M d).view.set = (colRect d).set.map M.view.emb :=
  (View.set_reshape (M.view.slice (colRect d)) squeezes_S1x64x1024_S64x1024.numel_eq).trans (View.set_slice M.view _)

theorem ringRect_disjoint : ∀ a b : Fin 4 × Fin 2, a ≠ b → Disjoint (ringRect a.1 a.2).set (ringRect b.1 b.2).set := fun a b hab => by
  rw [Finset.disjoint_left]
  intro i hi hj
  rw [Rect.mem_set_unit] at hi hj
  have h0 := hi 0; have h1 := hi 1; have g0 := hj 0; have g1 := hj 1
  change a.1.val ≤ (i 0).val ∧ (i 0).val < a.1.val + 1 at h0
  change a.2.val ≤ (i 1).val ∧ (i 1).val < a.2.val + 1 at h1
  change b.1.val ≤ (i 0).val ∧ (i 0).val < b.1.val + 1 at g0
  change b.2.val ≤ (i 1).val ∧ (i 1).val < b.2.val + 1 at g1
  exact hab (Prod.ext (Fin.ext (by omega)) (Fin.ext (by omega)))
theorem colRect_disjoint : ∀ a b : Fin 4, a ≠ b → Disjoint (colRect a).set (colRect b).set := fun a b hab => by
  rw [Finset.disjoint_left]
  intro i hi hj
  rw [Rect.mem_set_unit] at hi hj
  have h0 := hi 0; have g0 := hj 0
  change a.val ≤ (i 0).val ∧ (i 0).val < a.val + 1 at h0
  change b.val ≤ (i 0).val ∧ (i 0).val < b.val + 1 at g0
  exact hab (Fin.ext (by omega))

theorem ringRect_cover (i : S4x2x128x512.Idx) : i ∈ (ringRect (i 0) (i 1)).set := by
  rw [Rect.mem_set_unit]
  intro a
  have h := (i a).isLt
  fin_cases a
  · exact ⟨le_refl _, Nat.lt_succ_self _⟩
  · exact ⟨le_refl _, Nat.lt_succ_self _⟩
  · exact ⟨Nat.zero_le _, lt_of_lt_of_eq h (Nat.zero_add _).symm⟩
  · exact ⟨Nat.zero_le _, lt_of_lt_of_eq h (Nat.zero_add _).symm⟩
theorem colRect_cover (i : S4x64x1024.Idx) : i ∈ (colRect (i 0)).set := by
  rw [Rect.mem_set_unit]
  intro a
  have h := (i a).isLt
  fin_cases a
  · exact ⟨le_refl _, Nat.lt_succ_self _⟩
  · exact ⟨Nat.zero_le _, lt_of_lt_of_eq h (Nat.zero_add _).symm⟩
  · exact ⟨Nat.zero_le _, lt_of_lt_of_eq h (Nat.zero_add _).symm⟩

section Family

variable {s : Shape} {e : EltTy} (M : Memref sig .tc .vmem s e) (hM : M.view.set = Finset.univ) {T : Type} [Fintype T] [DecidableEq T]
  (R : T → Rect s) (hc : ∀ i : s.Idx, ∃ a, i ∈ (R a).set)

include hM hc in
omit [Fintype T] [DecidableEq T] in
theorem map_cover (j : M.view.ty.Idx) : ∃ a, j ∈ (R a).set.map M.view.emb := by
  have hj : j ∈ M.view.set := hM ▸ Finset.mem_univ j
  obtain ⟨i, -, rfl⟩ := Finset.mem_map.mp hj
  obtain ⟨a, ha⟩ := hc i
  exact ⟨a, Finset.mem_map_of_mem _ ha⟩

end Family

theorem ring_disj (M : Memref sig .tc .vmem S4x2x128x512 .bf16) (a b : Fin 4 × Fin 2) (h : a ≠ b) :
    Disjoint ((ringRect a.1 a.2).set.map M.view.emb) ((ringRect b.1 b.2).set.map M.view.emb) := (Finset.disjoint_map _).mpr (ringRect_disjoint a b h)
theorem col_disj (M : Memref sig .tc .vmem S4x64x1024 .bf16) (a b : Fin 4) (h : a ≠ b) :
    Disjoint ((colRect a).set.map M.view.emb) ((colRect b).set.map M.view.emb) := (Finset.disjoint_map _).mpr (colRect_disjoint a b h)
theorem ring_cov (M : Memref sig .tc .vmem S4x2x128x512 .bf16) (hM : M.view.set = Finset.univ) (j : M.view.ty.Idx) :
    ∃ a : Fin 4 × Fin 2, a ∈ Finset.univ ∧ j ∈ (ringRect a.1 a.2).set.map M.view.emb := by
  obtain ⟨a, h⟩ := map_cover M hM (fun a : Fin 4 × Fin 2 => ringRect a.1 a.2) (fun i => ⟨(i 0, i 1), ringRect_cover i⟩) j
  exact ⟨a, Finset.mem_univ _, h⟩
theorem col_cov (M : Memref sig .tc .vmem S4x64x1024 .bf16) (hM : M.view.set = Finset.univ) (j : M.view.ty.Idx) :
    ∃ a : Fin 4, a ∈ Finset.univ ∧ j ∈ (colRect a).set.map M.view.emb := by
  obtain ⟨a, h⟩ := map_cover M hM (fun a : Fin 4 => colRect a) (fun i => ⟨i 0, colRect_cover i⟩) j
  exact ⟨a, Finset.mem_univ _, h⟩

/-- A ring buffer held whole is its eight slots, each at whatever contents, -/
theorem ring_split (M : Memref sig .tc .vmem S4x2x128x512 .bf16) (hM : M.view.set = Finset.univ) (f : Buf (Elt F) (M.view.loc (c : Thread nD τ))) :
    (M.view.loc (c : Thread nD τ) ↦{fullShare} f : sProp 𝕄) ⊢ bigSep Finset.univ fun a : Fin 4 × Fin 2 => iprop(∃ X, holds c (ringSlot M a.1 a.2) X) := by
  rw [Idealize.ShloMosaic.Ring.pointsTo_blocks (fun a : Fin 4 × Fin 2 => (ringRect a.1 a.2).set.map M.view.emb)
    (ring_disj M) (Finset.eq_univ_iff_forall.mpr fun j => Finset.mem_biUnion.mpr (ring_cov M hM j))]
  exact bigSep_mono fun a _ => by
    rw [← ring_set]
    exact (holds_close c (ringSlot M a.1 a.2) rfl).trans (holds_any c _ _)
/-- and back. -/
theorem ring_join (M : Memref sig .tc .vmem S4x2x128x512 .bf16) (hM : M.view.set = Finset.univ) (f₀ : Buf (Elt F) (M.view.loc (c : Thread nD τ))) :
    (bigSep Finset.univ fun a : Fin 4 × Fin 2 => iprop(∃ X, holds c (ringSlot M a.1 a.2) X)) ⊢ (iprop(∃ f, M.view.loc (c : Thread nD τ) ↦{fullShare} f) : sProp 𝕄) := by
  refine BI.Entails.trans (bigSep_mono (Ψ := fun a : Fin 4 × Fin 2 => iprop(∃ f, M.view.loc (c : Thread nD τ) ↦[(ringRect a.1 a.2).set.map M.view.emb]{fullShare} f)) fun a _ => ?_)
    (Idealize.ShloMosaic.Ring.pointsTo_blocks_join_exists (ℓ := M.view.loc (c : Thread nD τ)) (q := fullShare) (fun a : Fin 4 × Fin 2 => (ringRect a.1 a.2).set.map M.view.emb)
      (ring_disj M) (Finset.eq_univ_iff_forall.mpr fun j => Finset.mem_biUnion.mpr (ring_cov M hM j)) f₀)
  rw [← ring_set]
  show iprop(∃ X, holds c (ringSlot M a.1 a.2) X) ⊢ (iprop(∃ f, M.view.loc (c : Thread nD τ) ↦[(ringSlot M a.1 a.2).view.set]{fullShare} f) : sProp 𝕄)
  iintro ⟨%X, H⟩
  ihave H := (holds_open _ _ _) $$ H
  icases H with ⟨%f, -, H⟩
  iexists f
  iexact H

/-- A column buffer held whole is its four slots, each at whatever contents, -/
theorem col_split (M : Memref sig .tc .vmem S4x64x1024 .bf16) (hM : M.view.set = Finset.univ) (f : Buf (Elt F) (M.view.loc (c : Thread nD τ))) :
    (M.view.loc (c : Thread nD τ) ↦{fullShare} f : sProp 𝕄) ⊢ bigSep Finset.univ fun a : Fin 4 => iprop(∃ X, holds c (colSlot M a) X) := by
  rw [Idealize.ShloMosaic.Ring.pointsTo_blocks (fun a : Fin 4 => (colRect a).set.map M.view.emb)
    (col_disj M) (Finset.eq_univ_iff_forall.mpr fun j => Finset.mem_biUnion.mpr (col_cov M hM j))]
  exact bigSep_mono fun a _ => by
    rw [← col_set]
    exact (holds_close c (colSlot M a) rfl).trans (holds_any c _ _)
/-- and back. -/
theorem col_join (M : Memref sig .tc .vmem S4x64x1024 .bf16) (hM : M.view.set = Finset.univ) (f₀ : Buf (Elt F) (M.view.loc (c : Thread nD τ))) :
    (bigSep Finset.univ fun a : Fin 4 => iprop(∃ X, holds c (colSlot M a) X)) ⊢ (iprop(∃ f, M.view.loc (c : Thread nD τ) ↦{fullShare} f) : sProp 𝕄) := by
  refine BI.Entails.trans (bigSep_mono (Ψ := fun a : Fin 4 => iprop(∃ f, M.view.loc (c : Thread nD τ) ↦[(colRect a).set.map M.view.emb]{fullShare} f)) fun a _ => ?_)
    (Idealize.ShloMosaic.Ring.pointsTo_blocks_join_exists (ℓ := M.view.loc (c : Thread nD τ)) (q := fullShare) (fun a : Fin 4 => (colRect a).set.map M.view.emb)
      (col_disj M) (Finset.eq_univ_iff_forall.mpr fun j => Finset.mem_biUnion.mpr (col_cov M hM j)) f₀)
  rw [← col_set]
  show iprop(∃ X, holds c (colSlot M a) X) ⊢ (iprop(∃ f, M.view.loc (c : Thread nD τ) ↦[(colSlot M a).view.set]{fullShare} f) : sProp 𝕄)
  iintro ⟨%X, H⟩
  ihave H := (holds_open _ _ _) $$ H
  icases H with ⟨%f, -, H⟩
  iexists f
  iexact H

/-! ## The slots listed by the messages that land in them -/

theorem bigSepL_congr' {I : Type} {l : List I} {Φ Ψ : I → sProp 𝕄} (h : ∀ k ∈ l, Φ k = Ψ k) : bigSepL l Φ = bigSepL l Ψ := by
  induction l with
  | nil => rfl
  | cons k l ih =>
    rw [bigSepL_cons', bigSepL_cons', h k List.mem_cons_self, ih fun k' hk => h k' (List.mem_cons_of_mem _ hk)]

theorem bigSepL_two {I : Type} (i j : I) (Φ : I → sProp 𝕄) : bigSepL [i, j] Φ = iprop(Φ i ∗ Φ j) := by
  rw [bigSepL_cons', bigSepL_singleton]

/-- The messages of the ring to the right, and to the left. -/
abbrev fwd : List Msg := [.F 0 0, .F 0 1, .F 1 0, .F 1 1, .F 2 0, .F 2 1]
abbrev bwd : List Msg := [.B 0 0, .B 0 1, .B 1 0, .B 1 1, .B 2 0, .B 2 1]

theorem fM_eq : (bigSep Finset.univ fun a : Fin 4 × Fin 2 => iprop(∃ X, holds c (ringSlot fM a.1 a.2) X) : sProp 𝕄)
    = iprop(((∃ X, holds c (ringSlot fM 0 0) X) ∗ (∃ X, holds c (ringSlot fM 0 1) X)) ∗ bigSepL fwd (landing c)) := by
  rw [bigSep_univ_eq_bigSepL ([(0, 0), (0, 1)] ++ [(1, 0), (1, 1), (2, 0), (2, 1), (3, 0), (3, 1)]) (by decide) (by decide), bigSepL_append]
  rfl
theorem bM_eq : (bigSep Finset.univ fun a : Fin 4 × Fin 2 => iprop(∃ X, holds c (ringSlot bM a.1 a.2) X) : sProp 𝕄)
    = iprop(((∃ X, holds c (ringSlot bM 0 0) X) ∗ (∃ X, holds c (ringSlot bM 0 1) X)) ∗ bigSepL bwd (landing c)) := by
  rw [bigSep_univ_eq_bigSepL ([(0, 0), (0, 1)] ++ [(1, 0), (1, 1), (2, 0), (2, 1), (3, 0), (3, 1)]) (by decide) (by decide), bigSepL_append]
  rfl
theorem colAll_eq : (colAll c : sProp 𝕄)
    = iprop((bigSep Finset.univ fun a : Fin 4 => iprop(∃ X, holds c (colSlot uM a) X)) ∗ (bigSep Finset.univ fun a : Fin 4 => iprop(∃ X, holds c (colSlot dM a) X))) := by
  unfold colAll
  rw [show Msg.col = [.U 0, .U 1, .U 2, .U 3] ++ [.D 0, .D 1, .D 2, .D 3] from rfl, bigSepL_append,
    bigSep_univ_eq_bigSepL [0, 1, 2, 3] (by decide) (by decide), bigSep_univ_eq_bigSepL [0, 1, 2, 3] (by decide) (by decide)]
  rfl

theorem to_lt : ∀ c : Dev nD, ∀ k ∈ outs (lt c) 1, k.dst (lt c) = c := by decide +kernel
theorem to_rt : ∀ c : Dev nD, ∀ k ∈ outs (rt c) 0, k.dst (rt c) = c := by decide +kernel
theorem to_up : ∀ c : Dev nD, ∀ k ∈ outs (up c) 3, k.dst (up c) = c := by decide +kernel
theorem to_dn : ∀ c : Dev nD, ∀ k ∈ outs (dn c) 2, k.dst (dn c) = c := by decide +kernel

/-- What a signal passes on is the device's own slots. -/
theorem barPay_own {d : Dev nD} {j : Fin 4} (h : ∀ k ∈ outs d j, k.dst d = c) : (barPay d j : sProp 𝕄) = bigSepL (outs d j) (landing c) := by
  unfold barPay
  exact bigSepL_congr' fun k hk => by rw [h k hk]

theorem outs_col : ∀ c : Dev nD, (outs (up c) 3 ++ (outs (dn c) 2 ++ (Msg.col.filter fun k => !k.recvs c))).Perm Msg.col := by decide +kernel
theorem col_outs (c : Dev nD) : (colAll c : sProp 𝕄) = iprop(barPay (up c) 3 ∗ barPay (dn c) 2 ∗ colHave c) := by
  rw [barPay_own (to_up c), barPay_own (to_dn c)]
  unfold colAll colHave
  rw [TalkSites.bigSepL_perm (outs_col c).symm (by decide), bigSepL_append, bigSepL_append]

/-- The slots the ring's messages were sent from and the last landed in are all eight of either buffer. -/
theorem ring_back : iprop(bigSepL leftAll (sendPay c) ∗ final c)
    ⊢ (iprop((bigSep Finset.univ fun a : Fin 4 × Fin 2 => iprop(∃ X, holds c (ringSlot fM a.1 a.2) X))
      ∗ (bigSep Finset.univ fun a : Fin 4 × Fin 2 => iprop(∃ X, holds c (ringSlot bM a.1 a.2) X))) : sProp 𝕄) := by
  rw [TalkSites.bigSepL_perm (show leftAll.Perm (fwd ++ bwd) by decide) (by decide), bigSepL_append,
    bigSep_univ_eq_bigSepL ([(0, 0), (0, 1), (1, 0), (1, 1), (2, 0), (2, 1)] ++ [(3, 0), (3, 1)]) (by decide) (by decide), bigSepL_append,
    bigSep_univ_eq_bigSepL ([(0, 0), (0, 1), (1, 0), (1, 1), (2, 0), (2, 1)] ++ [(3, 0), (3, 1)]) (by decide) (by decide), bigSepL_append,
    bigSepL_two, bigSepL_two]
  unfold final
  iintro ⟨⟨HF, HB⟩, H1, H2, H3, H4⟩
  isplitl [HF H1 H2]
  · isplitl [HF]; · iexact HF
    isplitl [H1]; · iexact H1
    iexact H2
  isplitl [HB]; · iexact HB
  isplitl [H3]; · iexact H3
  iexact H4

end Cert.KernelIdeal.Ring
-- ==== Proof.KernelIdeal.Credits.lean ====
/- The units dealt at launch: per semaphore of a device, what all the devices owe it. -/
module

public import proofs.«01_k».proof.Proof.KernelIdeal.Slots

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

theorem r_inj {a b : Dev nD} {k k' : Msg} (h : rCell a k = rCell b k') : a = b ∧ k = k' := by
  refine ⟨congrArg (fun g : GSem nD τ sig => g.1.1) h, ?_⟩
  have e : kind (osem k.rIx) = kind (osem k'.rIx) := congrArg (fun g : GSem nD τ sig => kind g.2) h
  rw [kind_r, kind_r] at e
  exact Kind.recv.inj e
theorem r_ne_bar {a b : Dev nD} {k : Msg} (h : rCell a k = barCell b) : False := by
  have e : kind (osem k.rIx) = kind (.reg barS) := congrArg (fun g : GSem nD τ sig => kind g.2) h
  rw [kind_r, kind_bar] at e
  exact Kind.noConfusion e
theorem bar_inj {a b : Dev nD} (h : barCell a = barCell b) : a = b := congrArg (fun g : GSem nD τ sig => g.1.1) h

/-! ## What a device owes a semaphore at launch -/

theorem owedL_r (d c : Dev nD) (k : Msg) : ∀ {ks : List Msg}, ks.Nodup →
    owedL d ks (rCell c k) () = if k ∈ ks ∧ k.dst d = c then amt k else 0
  | [], _ => by rw [if_neg fun h => List.not_mem_nil h.1]; rfl
  | k' :: ks, hn => by
    have hk := (List.nodup_cons.mp hn).1
    unfold owedL
    rw [Pi.add_apply, Finsupp.add_apply, owedL_r d c k (List.nodup_cons.mp hn).2, tallyAt_apply]
    by_cases h : k = k'
    · subst h
      rw [if_neg fun h' => hk h'.1, Nat.zero_add]
      by_cases hc : k.dst d = c
      · rw [if_pos ⟨by rw [hc], rfl⟩, if_pos ⟨List.mem_cons_self, hc⟩]
      · rw [if_neg fun h' => hc (r_inj h'.1).1.symm, if_neg fun h' => hc h'.2]
    · rw [if_neg (fun h' : rCell c k = rCell (k'.dst d) k' ∧ _ => h (r_inj h'.1).2), Nat.add_zero]
      by_cases hc : k ∈ ks ∧ k.dst d = c
      · rw [if_pos hc, if_pos ⟨List.mem_cons_of_mem _ hc.1, hc.2⟩]
      · rw [if_neg hc, if_neg fun h' => hc ⟨(List.mem_cons.mp h'.1).resolve_left h, h'.2⟩]
theorem owedL_bar (d c : Dev nD) (ks : List Msg) : owedL d ks (barCell c) () = 0 :=
  Nat.eq_zero_of_not_pos fun h => by
    obtain ⟨k, -, e⟩ := owedL_pos h
    exact r_ne_bar e.symm

theorem tally_r (a c : Dev nD) (k : Msg) : tallyAt (barCell a) () 1 (rCell c k) () = 0 := by
  rw [tallyAt_apply, if_neg fun h => r_ne_bar h.1]
theorem tally_bar (a c : Dev nD) : tallyAt (barCell a) () 1 (barCell c) () = if a = c then 1 else 0 := by
  rw [tallyAt_apply]
  by_cases h : a = c
  · subst h; rw [if_pos ⟨rfl, rfl⟩, if_pos rfl]
  · rw [if_neg fun h' => h (bar_inj h'.1).symm, if_neg h]

theorem nodup_out : ∀ d : Dev nD, (Msg.ring ++ colOut d).Nodup := by decide +kernel

theorem owed_r (d c : Dev nD) (k : Msg) : O₀ d (rCell c k) () = if k ∈ Msg.ring ++ colOut d ∧ k.dst d = c then amt k else 0 := by
  have hu : owedUp d (rCell c k) () = 0 := by unfold owedUp; split <;> first | exact tally_r _ _ _ | rfl
  have hd : owedDn d (rCell c k) () = 0 := by unfold owedDn; split <;> first | exact tally_r _ _ _ | rfl
  unfold O₀ O₁ O₂ O₃
  rw [Pi.add_apply, Finsupp.add_apply, Pi.add_apply, Finsupp.add_apply, Pi.add_apply, Finsupp.add_apply, Pi.add_apply, Finsupp.add_apply,
    owedL_r d c k (nodup_out d), hu, hd, tally_r, tally_r]
  simp only [Nat.add_zero]

/-- The signals to device `c` from device `d`. -/
def sigsTo (d c : Dev nD) : ℕ := (if 0 < d.val / 4 ∧ dn d = c then 1 else 0) + (if d.val / 4 < 3 ∧ up d = c then 1 else 0)
  + (if rt d = c then 1 else 0) + (if lt d = c then 1 else 0)

theorem owed_bar (d c : Dev nD) : O₀ d (barCell c) () = sigsTo d c := by
  have hu : owedUp d (barCell c) () = if d.val / 4 < 3 ∧ up d = c then 1 else 0 := by
    unfold owedUp
    by_cases h : d.val / 4 < 3
    · rw [if_pos h, tally_bar]; simp only [h, true_and]
    · rw [if_neg h, if_neg fun h' => h h'.1]; rfl
  have hd : owedDn d (barCell c) () = if 0 < d.val / 4 ∧ dn d = c then 1 else 0 := by
    unfold owedDn
    by_cases h : 0 < d.val / 4
    · rw [if_pos h, tally_bar]; simp only [h, true_and]
    · rw [if_neg h, if_neg fun h' => h h'.1]; rfl
  unfold O₀ O₁ O₂ O₃
  rw [Pi.add_apply, Finsupp.add_apply, Pi.add_apply, Finsupp.add_apply, Pi.add_apply, Finsupp.add_apply, Pi.add_apply, Finsupp.add_apply,
    owedL_bar, hu, hd, tally_bar, tally_bar, Nat.zero_add]
  rfl

theorem sum_bar : ∀ c : Dev nD, ∑ d : Dev nD, sigsTo d c = nNbr c := by decide +kernel

theorem from_iff : ∀ c : Dev nD, ∀ k ∈ Msg.ring ++ colIn c, ∀ d : Dev nD, (k ∈ Msg.ring ++ colOut d ∧ k.dst d = c) = (d = k.src c) := by
  have h : ∀ c : Dev nD, ∀ k ∈ Msg.ring ++ colIn c, ∀ d : Dev nD, ((k ∈ Msg.ring ++ colOut d ∧ k.dst d = c) ↔ (d = k.src c)) := by decide +kernel
  exact fun c k hk d => propext (h c k hk d)

theorem launch_bar (c : Dev nD) :
    tallyOn (barCell c) (launchCredit (Pipeline.owing O₀) 0 (barCell c)) = (tallyAt (barCell c) () (nNbr c) : CellTallies nD τ sig Unit) := by
  unfold tallyAt; refine congrArg _ (Finsupp.ext fun u => ?_); cases u
  rw [Pipeline.launchCredit_owing, Finsupp.single_eq_same, Finset.sum_congr rfl fun d _ => owed_bar d c, sum_bar]

theorem launch_r (c : Dev nD) (k : Msg) (hk : k ∈ Msg.ring ++ colIn c) :
    tallyOn (rCell c k) (launchCredit (Pipeline.owing O₀) 0 (rCell c k)) = (tallyAt (rCell c k) () (amt k) : CellTallies nD τ sig Unit) := by
  unfold tallyAt; refine congrArg _ (Finsupp.ext fun u => ?_); cases u
  rw [Pipeline.launchCredit_owing, Finsupp.single_eq_same, Finset.sum_congr rfl fun d _ => owed_r d c k]
  simp only [from_iff c k hk]
  rw [Finset.sum_ite_eq' Finset.univ (k.src c) fun _ => amt k, if_pos (Finset.mem_univ _)]

/-! ## The launch credit of a device -/

/-- Out of all of a finite type, the listed ones. -/
theorem bigSep_list {I : Type} [Fintype I] [DecidableEq I] (l : List I) (hl : l.Nodup) (Φ : I → sProp 𝕄) : bigSep Finset.univ Φ ⊢ bigSepL l Φ := by
  rw [← bigSep_eq_bigSepL l hl]
  exact BI.bigSep_subset (Finset.subset_univ _)

theorem rIx_nodup : ∀ c : Dev nD, ((Msg.ring ++ colIn c).map Msg.rIx).Nodup := by decide +kernel

/-- The semaphores of a device that the others owe: the barrier's and those of the messages it receives. -/
def inSems (c : Dev nD) : List (SemLoc sig) := .reg barS :: ((Msg.ring ++ colIn c).map fun k => osem k.rIx)
theorem inSems_nodup (c : Dev nD) : (inSems c).Nodup := by
  unfold inSems
  rw [List.nodup_cons]
  refine ⟨fun h => ?_, ?_⟩
  · obtain ⟨k, -, e⟩ := List.mem_map.mp h
    cases e
  · have h := List.Nodup.map (f := osem) (fun i j h => dsem_inj (SemLoc.dma.inj h)) (rIx_nodup c)
    rw [List.map_map] at h
    exact h

theorem creds (c : Dev nD) : (Pipeline.launchCred O₀ c : sProp 𝕄)
    ⊢ iprop(cred (tallyAt (barCell c) () (nNbr c)) ∗ bigSepL (Msg.ring ++ colIn c) fun k => cred (tallyAt (rCell c k) () (amt k))) := by
  unfold Pipeline.launchCred
  refine (bigSep_list (inSems c) (inSems_nodup c) _).trans (Entails.of_eq ?_)
  unfold inSems
  rw [bigSepL_cons', bigSepL_map, launch_bar]
  exact congrArg (fun X => iprop(cred (tallyAt (barCell c) () (nNbr c)) ∗ X)) (bigSepL_congr' fun k hk => by rw [launch_r c k hk])

end Cert.KernelIdeal.Ring
-- ==== Proof.KernelIdeal.Entry.lean ====
/- What a device holds when its body starts and what it hands back when the body ends. -/
module

public import proofs.«01_k».proof.Proof.KernelIdeal.Credits

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

section Lists
omit [FloatOps F]
theorem bigSepL_join {I : Type} (Φ Ψ : I → sProp 𝕄) : ∀ l : List I, iprop(bigSepL l Φ ∗ bigSepL l Ψ) ⊢ bigSepL l fun i => iprop(Φ i ∗ Ψ i)
  | [] => by
    rw [bigSepL_nil, bigSepL_nil, bigSepL_nil]
    iintro -; iempintro
  | i :: l => by
    rw [bigSepL_cons', bigSepL_cons', bigSepL_cons']
    iintro ⟨⟨H1, HL1⟩, H2, HL2⟩
    isplitl [H1 H2]
    · isplitl [H1] <;> iassumption
    · iapply (bigSepL_join Φ Ψ l)
      isplitl [HL1] <;> iassumption

theorem bigSepL_app {I : Type} [DecidableEq I] {l l₁ l₂ : List I} (h : l.Perm (l₁ ++ l₂)) (hn : l.Nodup) (Φ : I → sProp 𝕄) :
    bigSepL l Φ ⊢ iprop(bigSepL l₁ Φ ∗ bigSepL l₂ Φ) := by
  rw [TalkSites.bigSepL_perm h hn, bigSepL_append]

/-- A whole buffer is held at some contents, and back. -/
theorem any_open (c : Dev nD) {s : Shape} {e : EltTy} (M : Memref sig .tc .vmem s e) (hM : M.view.set = Finset.univ)
    (f : Buf (Elt F) (M.view.loc (c : Thread nD τ))) :
    (M.view.loc (c : Thread nD τ) ↦{fullShare} f : sProp 𝕄) ⊢ iprop(∃ X, holds c M X) := by
  have h := holds_close (F := F) c M (f := f) rfl
  rw [hM] at h
  exact BI.Entails.trans h (holds_any c M _)
theorem any_close (c : Dev nD) {s : Shape} {e : EltTy} (M : Memref sig .tc .vmem s e) (hM : M.view.set = Finset.univ) (X : s.Idx → Elt F e) :
    holds c M X ⊢ (iprop(∃ f : Buf (Elt F) (M.view.loc (c : Thread nD τ)), M.view.loc (c : Thread nD τ) ↦{fullShare} f) : sProp 𝕄) := by
  have h := holds_open c M X
  rw [hM] at h
  iintro H
  ihave H := h $$ H
  icases H with ⟨%f, -, H⟩
  iexists f; iexact H
end Lists

/-! ## What a device is dealt -/

/-- The duties a device pays: its four signals, and each message's departure and arrival. -/
def payToks (c : Dev nD) : sProp 𝕄 := iprop(
  (dutyTok ER (barCell (lt c)) 0 1 ∗ dutyTok ER (barCell (rt c)) 0 0 ∗ dutyTok ER (barCell (up c)) 0 3 ∗ dutyTok ER (barCell (dn c)) 0 2)
  ∗ (bigSepL Msg.all fun k => dutyTok ER (sCell c k) 0 0) ∗ (bigSepL Msg.all fun k => dutyTok ER (rCell (k.dst c) k) 0 0))
/-- Its places at its own semaphores, -/
def places (c : Dev nD) : sProp 𝕄 :=
  iprop(atPos ER (barCell c) 0 ∅ 0 ∗ bigSepL (List.finRange 40) fun j => atPos ER ((c : Thread nD τ), osem j) 0 ∅ 0)
/-- the units it is promised, -/
def units (c : Dev nD) : sProp 𝕄 :=
  iprop(cred (tallyAt (barCell c) () (nNbr c)) ∗ bigSepL (Msg.ring ++ colIn c) fun k => cred (tallyAt (rCell c k) () (amt k)))
/-- all that it starts with besides its buffers. -/
def start (c : Dev nD) : sProp 𝕄 := iprop(recs m ρ ∗ places c ∗ payToks c ∗ units c)
/-- The six scratch buffers. -/
def scratch (c : Dev nD) : sProp 𝕄 := iprop(
  (∃ f : Buf (Elt F) ((c : Thread nD τ).loc cc0_scratch0), ((c : Thread nD τ).loc cc0_scratch0) ↦{fullShare} f)
  ∗ (∃ f : Buf (Elt F) ((c : Thread nD τ).loc cc0_scratch1), ((c : Thread nD τ).loc cc0_scratch1) ↦{fullShare} f)
  ∗ (∃ f : Buf (Elt F) ((c : Thread nD τ).loc cc0_scratch2), ((c : Thread nD τ).loc cc0_scratch2) ↦{fullShare} f)
  ∗ (∃ f : Buf (Elt F) ((c : Thread nD τ).loc cc0_scratch3), ((c : Thread nD τ).loc cc0_scratch3) ↦{fullShare} f)
  ∗ (∃ f : Buf (Elt F) ((c : Thread nD τ).loc cc0_scratch4), ((c : Thread nD τ).loc cc0_scratch4) ↦{fullShare} f)
  ∗ (∃ f : Buf (Elt F) ((c : Thread nD τ).loc cc0_scratch5), ((c : Thread nD τ).loc cc0_scratch5) ↦{fullShare} f))

theorem sems_split : ∀ c : Dev nD, (List.finRange 40).Perm
    ((Msg.ring ++ colOut c).map Msg.sIx ++ ((Msg.ring ++ colIn c).map Msg.rIx ++ idle c)) := by decide +kernel
theorem all_split : ∀ c : Dev nD, Msg.all.Perm ((Msg.ring ++ colOut c) ++ (Msg.col.filter fun k => !k.sends c)) := by decide +kernel
theorem sems_end : ∀ c : Dev nD, (endL c (idle c)).Perm (List.finRange 40) := by decide +kernel
theorem endL_nodup (c : Dev nD) : (endL c (idle c)).Nodup := (sems_end c).symm.nodup (List.nodup_finRange 40)

theorem idle_duties (c : Dev nD) : ∀ j ∈ idle c, ∀ r, 0 ≤ r → (Rd (F := F) m ρ).duties ((c : Thread nD τ), osem j) r = ∅ := by
  intro j hj r hr
  unfold idle at hj
  rcases List.mem_append.mp hj with h | h <;> obtain ⟨k, hk, rfl⟩ := List.mem_map.mp h
  · exact duties_s_none m ρ c k (by simpa using (List.mem_filter.mp hk).2) r hr
  · exact duties_r_none m ρ c k (by simpa using (List.mem_filter.mp hk).2) r hr

theorem idle_close (c : Dev nD) : ∀ l : List (Fin 40), (∀ j ∈ l, ∀ r, 0 ≤ r → (Rd (F := F) m ρ).duties ((c : Thread nD τ), osem j) r = ∅) →
    iprop(recs m ρ ∗ bigSepL l fun j => atPos ER ((c : Thread nD τ), osem j) 0 ∅ 0) ⊢ iprop(|={Set.univ}=> zs c l)
  | [], _ => by
    unfold zs
    rw [bigSepL_nil, bigSepL_nil]
    iintro -; imodintro; iempintro
  | j :: l, h => by
    rw [bigSepL_cons', zs_cons]
    iintro ⟨#HR, Hp, HL⟩
    imod (close_cell m ρ c j (h j List.mem_cons_self)) $$ [Hp] with HZ
    · isplitr; · iexact HR
      iexact Hp
    imod (idle_close c l fun j hj => h j (List.mem_cons_of_mem _ hj)) $$ [HL] with HZs
    · isplitr; · iexact HR
      iexact HL
    imodintro
    isplitl [HZ] <;> iassumption

section Entry
variable (c : Dev nD)

omit [FloatOps F] in
/-- The permissions to send. -/
theorem sendKits : iprop((bigSepL Msg.all fun k => dutyTok ER (sCell c k) 0 0) ∗ (bigSepL Msg.all fun k => dutyTok ER (rCell (k.dst c) k) 0 0)
      ∗ bigSepL (Msg.ring ++ colOut c) fun k => atPos ER (sCell c k) 0 ∅ 0)
    ⊢ (bigSepL (Msg.ring ++ colOut c) (sendKit c) : sProp 𝕄) := by
  iintro ⟨H1, H2, H3⟩
  ihave H1 := (bigSepL_app (all_split c) (by decide) _) $$ H1
  icases H1 with ⟨H1, -⟩
  ihave H2 := (bigSepL_app (all_split c) (by decide) _) $$ H2
  icases H2 with ⟨H2, -⟩
  ihave H := (bigSepL_join (F := F) _ _ _) $$ [H2 H3]
  · isplitl [H2] <;> iassumption
  ihave H := (bigSepL_join (F := F) _ _ _) $$ [H1 H]
  · isplitl [H1] <;> iassumption
  iexact H

omit [FloatOps F] in
/-- The permissions to receive. -/
theorem recvKits : iprop((bigSepL (Msg.ring ++ colIn c) fun k => cred (tallyAt (rCell c k) () (amt k)))
      ∗ bigSepL (Msg.ring ++ colIn c) fun k => atPos ER (rCell c k) 0 ∅ 0)
    ⊢ (bigSepL (Msg.ring ++ colIn c) (recvKit c) : sProp 𝕄) := bigSepL_join _ _ _

omit [FloatOps F] in
theorem places_split : bigSepL (List.finRange 40) (fun j => atPos ER ((c : Thread nD τ), osem j) 0 ∅ 0)
    ⊢ (iprop((bigSepL (Msg.ring ++ colOut c) fun k => atPos ER (sCell c k) 0 ∅ 0) ∗ (bigSepL (Msg.ring ++ colIn c) fun k => atPos ER (rCell c k) 0 ∅ 0)
      ∗ bigSepL (idle c) fun j => atPos ER ((c : Thread nD τ), osem j) 0 ∅ 0) : sProp 𝕄) := by
  rw [TalkSites.bigSepL_perm (sems_split c) (List.nodup_finRange 40), bigSepL_append, bigSepL_append, bigSepL_map, bigSepL_map]

/-- The scratch buffers, slot by slot: what the signals pass on, and what stays. -/
theorem scratch_split : scratch c ⊢ (iprop((∃ X, holds c pM X) ∗ (∃ X, holds c rM X) ∗ first c ∗ colHave c
    ∗ barPay (lt c) 1 ∗ barPay (rt c) 0 ∗ barPay (up c) 3 ∗ barPay (dn c) 2) : sProp 𝕄) := by
  rw [barPay_own (to_lt c), barPay_own (to_rt c)]
  unfold scratch first
  iintro ⟨⟨%p, Hp⟩, ⟨%f, Hf⟩, ⟨%b, Hb⟩, ⟨%r, Hr⟩, ⟨%u, Hu⟩, ⟨%d, Hd⟩⟩
  ihave Hp := (any_open c pM (View.set_whole _) p) $$ Hp
  ihave Hr := (any_open c rM (View.set_whole _) r) $$ Hr
  ihave Hf := (ring_split (c := c) fM (View.set_whole _) f) $$ Hf
  ihave Hb := (ring_split (c := c) bM (View.set_whole _) b) $$ Hb
  ihave Hu := (col_split (c := c) uM (View.set_whole _) u) $$ Hu
  ihave Hd := (col_split (c := c) dM (View.set_whole _) d) $$ Hd
  ihave Hf := (Entails.of_eq (fM_eq (F := F) (c := c))) $$ Hf
  ihave Hb := (Entails.of_eq (bM_eq (F := F) (c := c))) $$ Hb
  ihave HC := (Entails.of_eq ((colAll_eq (F := F) (c := c)).symm.trans (col_outs c))) $$ [Hu Hd]
  · isplitl [Hu] <;> iassumption
  icases HC with ⟨HU, HD, HC⟩
  icases Hf with ⟨⟨Hf0, Hf1⟩, Hf⟩
  icases Hb with ⟨⟨Hb0, Hb1⟩, Hb⟩
  isplitl [Hp]; · iexact Hp
  isplitl [Hr]; · iexact Hr
  isplitl [Hf0 Hf1 Hb0 Hb1]
  · isplitl [Hf0]; · iexact Hf0
    isplitl [Hf1]; · iexact Hf1
    isplitl [Hb0] <;> iassumption
  isplitl [HC]; · iexact HC
  isplitl [Hf]; · iexact Hf
  isplitl [Hb]; · iexact Hb
  isplitl [HU] <;> iassumption

/-- The body's start. -/
theorem entry : iprop(start m ρ c ∗ scratch c ∗ (∃ W, owes (c : Thread nD τ) (O₀ c) W) ∗ holds c xM (xv m ρ c) ∗ holds c wM (wv m ρ c) ∗ (∃ X, holds c oM X))
    ⊢ iprop(|={Set.univ}=> pre m ρ c) := by
  unfold start places payToks units pre sigs kits barKit sigKit
  iintro ⟨⟨#HR, ⟨HB, HP⟩, ⟨⟨T1, T2, T3, T4⟩, TS, TR⟩, HC, HCs⟩, HS, HO, Hx, Hw, Ho⟩
  ihave HP := (places_split (F := F) c) $$ HP
  icases HP with ⟨HPs, HPr, HPi⟩
  imod (idle_close m ρ c (idle c) (idle_duties m ρ c)) $$ [HPi] with HZ
  · isplitr; · iexact HR
    iexact HPi
  ihave HS := (scratch_split (F := F) c) $$ HS
  icases HS with ⟨Hp, Hr, Hf, HV, B1, B2, B3, B4⟩
  ihave HKs := (sendKits (F := F) c) $$ [TS TR HPs]
  · isplitl [TS]; · iexact TS
    isplitl [TR] <;> iassumption
  ihave HKr := (recvKits (F := F) c) $$ [HCs HPr]
  · isplitl [HCs] <;> iassumption
  imodintro
  isplitr; · iexact HR
  isplitl [HO]; · iexact HO
  isplitl [T1 T2 T3 T4 B1 B2 B3 B4]
  · isplitl [T1 B1]
    · isplitl [T1] <;> iassumption
    isplitl [T2 B2]
    · isplitl [T2] <;> iassumption
    isplitl [T3 B3]
    · isplitl [T3] <;> iassumption
    isplitl [T4] <;> iassumption
  isplitl [HC HB]
  · isplitl [HC] <;> iassumption
  isplitl [HKs HKr HZ]
  · isplitl [HKs]; · iexact HKs
    isplitl [HKr] <;> iassumption
  isplitl [Hx]; · iexact Hx
  isplitl [Hw]; · iexact Hw
  isplitl [Ho]; · iexact Ho
  isplitl [Hp]; · iexact Hp
  isplitl [Hr]; · iexact Hr
  isplitl [Hf] <;> iassumption

/-- All the kernel's own semaphores at zero, and the barrier's. -/
def zeros : sProp 𝕄 := iprop(semVal (barCell c) 0 ∗ zs c (List.finRange 40))

/-- The body's end. -/
theorem exit : post m ρ c ⊢ iprop(oweL c [] ∗ zeros c ∗ scratch c ∗ holds c xM (xv m ρ c) ∗ holds c wM (wv m ρ c) ∗ holds c oM (outv m ρ c)) := by
  unfold post zeros scratch ins
  iintro ⟨HO, HZ, HL, HB, ⟨Hx, Hw, Hp⟩, HF, HC, Hr, Ho⟩
  ihave HRB := (ring_back (F := F) (c := c)) $$ [HL HF]
  · isplitl [HL] <;> iassumption
  icases HRB with ⟨Hf, Hb⟩
  ihave HC := (Entails.of_eq (colAll_eq (F := F) (c := c))) $$ HC
  icases HC with ⟨Hu, Hd⟩
  ihave Hp := (any_close c pM (View.set_whole _) _) $$ Hp
  ihave Hr := (any_close c rM (View.set_whole _) _) $$ Hr
  ihave Hf := (ring_join (c := c) fM (View.set_whole _) (m _)) $$ Hf
  ihave Hb := (ring_join (c := c) bM (View.set_whole _) (m _)) $$ Hb
  ihave Hu := (col_join (c := c) uM (View.set_whole _) (m _)) $$ Hu
  ihave Hd := (col_join (c := c) dM (View.set_whole _) (m _)) $$ Hd
  isplitl [HO]; · iexact HO
  isplitl [HB HZ]
  · isplitl [HB]; · iexact HB
    unfold zs
    iapply (Entails.of_eq (TalkSites.bigSepL_perm (sems_end c) (endL_nodup c) _))
    iexact HZ
  isplitl [Hp Hr Hf Hb Hu Hd]
  · isplitl [Hp]; · iexact Hp
    isplitl [Hf]; · iexact Hf
    isplitl [Hb]; · iexact Hb
    isplitl [Hr]; · iexact Hr
    isplitl [Hu] <;> iassumption
  isplitl [Hx]; · iexact Hx
  isplitl [Hw] <;> iassumption

end Entry

end Cert.KernelIdeal.Ring
-- ==== Proof.KernelIdeal.Oblig.lean ====
/- The launch: the ghost state dealt to the devices, the body's obligation, and the run of the whole program. -/
module

public import proofs.«01_k».proof.Proof.KernelIdeal.Entry
public import proofs.«01_k».proof.Proof.Gen.KernelIdeal.Frame

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

/-! ## The pipeline's data -/

/-- Before the body -/
def Φ₀ (c : Dev nD) : sProp 𝕄 := iprop(start m ρ c ∗ scratch c)
/-- and after it. -/
def Φ₁ (c : Dev nD) : sProp 𝕄 := iprop(zeros c ∗ scratch c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xv m ρ c
    | ⟨1, _⟩ => wv m ρ c
    | ⟨2, _⟩ => outv m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

/-! ## The body's obligation -/

theorem before_x (c : Dev nD) (d) : (dats m ρ 0 c).before (0 : Fin 3) t0_0 d = xv m ρ c := by
  unfold Dat.before; rw [if_pos (fetch0_0 t0_0)]; rfl
theorem before_w (c : Dev nD) (d) : (dats m ρ 0 c).before (1 : Fin 3) t0_0 d = wv m ρ c := by
  unfold Dat.before; rw [if_pos (fetch0_1 t0_0)]; rfl

/-- What the pipeline hands the body -/
def bodyPre (c : Dev nD) : sProp 𝕄 :=
  iprop(Φ₀ m ρ c ∗ (dats m ρ 0 c).owesAt () t0_0.castSucc
    ∗ (∃ d, holds c xM ((dats m ρ 0 c).before (0 : Fin 3) t0_0 d))
    ∗ (∃ d, holds c wM ((dats m ρ 0 c).before (1 : Fin 3) t0_0 d))
    ∗ (∃ d, holds c oM ((dats m ρ 0 c).before (2 : Fin 3) t0_0 d)))
/-- and takes back. -/
def bodyPost (c : Dev nD) : sProp 𝕄 :=
  iprop(Φ₁ c ∗ (dats m ρ 0 c).owesAt () t0_0.succ ∗ holds c xM (xv m ρ c) ∗ holds c wM (wv m ρ c) ∗ holds c oM (outv m ρ c))

theorem owes_in (c : Dev nD) : (dats m ρ 0 c).owesAt () t0_0.castSucc ⊢ (iprop(∃ W, owes (c : Thread nD τ) (O₀ c) W) : sProp 𝕄) := by
  unfold Dat.owesAt Pipeline.owesWithin
  iintro ⟨%W, -, H⟩
  iexists W; iexact H
theorem owes_out (c : Dev nD) : (oweL c [] : sProp 𝕄) ⊢ (dats m ρ 0 c).owesAt () t0_0.succ := by
  unfold Dat.owesAt Pipeline.owesWithin oweL
  iintro ⟨%W, H⟩
  iexists W; isplitr; · ipureintro; exact fun _ _ => Or.inl trivial
  iexact H

theorem body_pre (c : Dev nD) : bodyPre m ρ c ⊢ iprop(|={Set.univ}=> pre m ρ c) := by
  unfold bodyPre Φ₀
  iintro ⟨⟨Hs, Hscr⟩, HO, ⟨%d0, Hx⟩, ⟨%d1, Hw⟩, ⟨%d2, Ho⟩⟩
  ihave Hx := (Entails.of_eq (congrArg (fun X => (holds c xM X : sProp 𝕄)) (before_x m ρ c d0))) $$ Hx
  ihave Hw := (Entails.of_eq (congrArg (fun X => (holds c wM X : sProp 𝕄)) (before_w m ρ c d1))) $$ Hw
  ihave HO := (owes_in m ρ c) $$ HO
  iapply (entry m ρ c)
  isplitl [Hs]; · iexact Hs
  isplitl [Hscr]; · iexact Hscr
  isplitl [HO]; · iexact HO
  isplitl [Hx]; · iexact Hx
  isplitl [Hw]; · iexact Hw
  iexists _; iexact Ho

theorem body_post (c : Dev nD) : post m ρ c ⊢ bodyPost m ρ c := by
  unfold bodyPost Φ₁
  iintro H
  ihave H := (exit m ρ c) $$ H
  icases H with ⟨HO, HZ, HS, Hx, Hw, Ho⟩
  isplitl [HZ HS]
  · isplitl [HZ] <;> iassumption
  isplitl [HO]
  · iapply (owes_out m ρ c); iexact HO
  isplitl [Hx]; · iexact Hx
  isplitl [Hw] <;> iassumption

theorem body_ok (c : Dev nD) : bodyPre m ρ c ⊢ run c (onBufs (cc0_body (F := F))) fun _ => bodyPost m ρ c := by
  iintro H
  imod (body_pre m ρ c) $$ H with H
  iapply (body_run m ρ) $$ H
  iintro H
  iapply (body_post m ρ c)
  iexact H

set_option maxRecDepth 4000 in
theorem body_obligation (c : Dev nD) : BodyObligation (dats (F := F) m ρ 0 c) (defs₀ (F := F)) 𝒱₀ () Set.univ := fun t => by
  rw [fin_N0 t]
  rw [bigSep_W0, bigSep_W0]
  exact body_ok m ρ c

end Cert.KernelIdeal.Ring
-- ==== Proof.KernelIdeal.Launch.lean ====
/- The launch: the ghost state dealt to the devices, and the run of the whole program. -/
module

public import proofs.«01_k».proof.Proof.KernelIdeal.Oblig
public import Idealize.ShloMosaic.Lib.Pipeline.CollectiveSegs

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.Pipeline (Dat Cfg Window BodyObligation cellOf)

theorem ownSemFacts : Pipeline.OwnSemFacts cfg0.spec osem := by decide

theorem share_eq (c : Dev nD) (w : Fin cfg0.W) : (dats m ρ 0 c).share w = fullShare := by unfold Dat.share; split <;> rfl

/-! ## The cells and their tokens -/

theorem csem_inj : ∀ a b : Option (Fin 40), csem a = csem b → a = b
  | none, none, _ => rfl
  | none, some _, h => by cases h
  | some _, none, h => by cases h
  | some i, some j, h => congrArg some (dsem_inj (SemLoc.dma.inj h))
theorem kcell_injective : Function.Injective (kcell : Dev nD × Option (Fin 40) → GSem nD τ sig) := by
  rintro ⟨c, k⟩ ⟨c', k'⟩ h
  have h1 : c = c' := congrArg (fun g : GSem nD τ sig => g.1.1) h
  have h2 : k = k' := csem_inj k k' (congrArg Prod.snd h)
  subst h1 h2; rfl
def ringCells : Finset (GSem nD τ sig) := Finset.univ.map ⟨kcell, kcell_injective⟩

/-- The duties of a device's own semaphores: the barrier's four, each message's departure, each message's arrival. -/
abbrev tokOf (cj : Dev nD × (Fin 4 ⊕ Msg ⊕ Msg)) : GSem nD τ sig × ℕ × Fin 4 := match cj.2 with
  | .inl j => (barCell cj.1, 0, j) | .inr (.inl k) => (sCell cj.1 k, 0, 0) | .inr (.inr k) => (rCell cj.1 k, 0, 0)
theorem tokOf_injective : Function.Injective (tokOf : Dev nD × (Fin 4 ⊕ Msg ⊕ Msg) → GSem nD τ sig × ℕ × Fin 4) := by
  rintro ⟨c, j⟩ ⟨c', j'⟩ h
  have h1 : c = c' := by
    have := congrArg (fun x : GSem nD τ sig × ℕ × Fin 4 => x.1.1.1) h
    rcases j with j | j | j <;> rcases j' with j' | j' | j' <;> exact this
  subst h1
  have hk := congrArg (fun x : GSem nD τ sig × ℕ × Fin 4 => kind x.1.2) h
  rcases j with j | k | k <;> rcases j' with j' | k' | k'
  · exact congrArg (fun j => (c, Sum.inl j)) (congrArg (fun x : GSem nD τ sig × ℕ × Fin 4 => x.2.2) h)
  · exact absurd ((kind_bar.symm.trans hk).trans (kind_s k')) Kind.noConfusion
  · exact absurd ((kind_bar.symm.trans hk).trans (kind_r k')) Kind.noConfusion
  · exact absurd (((kind_s k).symm.trans hk).trans kind_bar) Kind.noConfusion
  · exact congrArg (fun k => (c, Sum.inr (Sum.inl k))) (Kind.send.inj (((kind_s k).symm.trans hk).trans (kind_s k')))
  · exact absurd (((kind_s k).symm.trans hk).trans (kind_r k')) Kind.noConfusion
  · exact absurd (((kind_r k).symm.trans hk).trans kind_bar) Kind.noConfusion
  · exact absurd (((kind_r k).symm.trans hk).trans (kind_s k')) Kind.noConfusion
  · exact congrArg (fun k => (c, Sum.inr (Sum.inr k))) (Kind.recv.inj (((kind_r k).symm.trans hk).trans (kind_r k')))
def ringToks : Finset (GSem nD τ sig × ℕ × Fin 4) := Finset.univ.map ⟨tokOf, tokOf_injective⟩

def u₀ : UU :=
  (initOf (Pipeline.cells cfgs cellOf_inj) (Pipeline.launchToks cfgs cellOf_inj), initOf ringCells ringToks)

/-- The duty tokens of device `c`'s own semaphores. -/
def toks (c : Dev nD) : sProp 𝕄 := iprop(
  (dutyTok ER (barCell c) 0 0 ∗ dutyTok ER (barCell c) 0 1 ∗ dutyTok ER (barCell c) 0 2 ∗ dutyTok ER (barCell c) 0 3)
  ∗ (bigSepL Msg.all fun k => dutyTok ER (sCell c k) 0 0) ∗ (bigSepL Msg.all fun k => dutyTok ER (rCell c k) 0 0))

/-- What the launch deals device `c`, -/
def G (c : Dev nD) : sProp 𝕄 :=
  iprop((bigSep Finset.univ fun k : Option (Fin 40) => roundState ER (Rd m ρ) (kcell (c, k)) 0)
    ∗ (bigSep Finset.univ fun k : Option (Fin 40) => iprop(atPos ER (kcell (c, k)) 0 ∅ 0 ∗ reached ER (kcell (c, k)) 0)) ∗ toks c)

/-- what all know from then on, -/
def known : sProp 𝕄 := iprop(
  (bigSep (Finset.univ : Finset (Dev nD × Option (Fin 40))) fun ck => iprop(∃ κ, cellInv ER (Rd m ρ) κ (kcell ck)))
  ∗ (bigSep (Finset.univ : Finset (Dev nD × Option (Fin 40))) fun ck => reached ER (kcell ck) 0))
instance known_persistent : BI.Persistent (known (F := F) m ρ) := by
  unfold known
  infer_instance

/-- and what each device then has. -/
def G' (c : Dev nD) : sProp 𝕄 := iprop(known m ρ ∗ places c ∗ payToks c)

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ
omit [FloatOps F] in
theorem bigSep_msg (Φ : Msg → sProp 𝕄) : bigSep Finset.univ Φ = bigSepL Msg.all Φ := bigSep_univ_eq_bigSepL Msg.all (by decide) (by decide) Φ
omit [FloatOps F] in
theorem bigSep_opt (Φ : Option (Fin 40) → sProp 𝕄) : bigSep Finset.univ Φ = iprop(Φ none ∗ bigSepL (List.finRange 40) fun j => Φ (some j)) := by
  rw [bigSep_univ_eq_bigSepL (none :: (List.finRange 40).map some) (by decide) (by decide) Φ, bigSepL_cons', bigSepL_map]

theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun k : Option (Fin 40) => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks
      rw [BI.bigSep_univ_sum, BI.bigSep_univ_sum, bigSep_fin4, bigSep_msg, bigSep_msg]
      rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The kernel's own semaphores -/
theorem ownSems0_eq (c : Dev nD) : (Pipeline.ownSems0 (Ix := Unit) (Name := ℕ) (U := UU) (Lvl := ℕ) (Val := Elt F) (τ := τ) osem c : sProp 𝕄)
    = zs c (List.finRange 40) := by
  rw [Pipeline.ownSems0_eq_of_list c osem (List.finRange 40) (by decide) (by decide)]; rfl
omit [FloatOps F] in
/-- and the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Option (Fin 40) => semVal (kcell (c, k)) 0 : sProp 𝕄) := by
  rw [ownSems0_eq, unscopedSems0_eq, bigSep_opt]
  unfold zs
  iintro ⟨HS, HB⟩
  isplitl [HB]; · iexact HB
  iexact HS

theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Option (Fin 40) => semVal (kcell (c, k)) 0) ∗ bigSep Finset.univ fun k : Option (Fin 40) => roundState ER (Rd m ρ) (kcell (c, k)) 0)
      ⊢ (|={Set.univ}=> bigSep Finset.univ fun k => iprop(∃ κ : ℕ, cellInv ER (Rd m ρ) κ (kcell (c, k))) : sProp 𝕄) from by
        rw [← bigSep_sep']
        exact (bigSep_mono fun k _ => (Rounds.body_intro ER (Rd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens go to those who pay with them -/

/-- Whom a device sends message `k`, as a permutation of the devices. -/
def dstE (k : Msg) : Dev nD ≃ Dev nD := ⟨k.dst, k.src, fun c => Msg.src_dst c k, fun c => Msg.dst_src c k⟩

omit [FloatOps F] in
theorem around_list (T : Dev nD → Msg → sProp 𝕄) : ∀ l : List Msg,
    (bigSep Finset.univ fun c : Dev nD => bigSepL l (T c)) ⊢ bigSep Finset.univ fun c : Dev nD => bigSepL l fun k => T (k.dst c) k
  | [] => by simp only [bigSepL_nil]; exact .rfl
  | k :: l => by
    simp only [bigSepL_cons', bigSep_sep']
    rw [bigSep_univ_equiv (dstE k) fun c : Dev nD => T c k]
    exact sep_mono_right (around_list T l)

omit [FloatOps F] in
theorem toks_around : (bigSep Finset.univ fun c : Dev nD => (toks c : sProp 𝕄)) ⊢ bigSep Finset.univ fun c : Dev nD => payToks c := by
  unfold toks payToks
  simp only [bigSep_sep']
  rw [bigSep_univ_equiv (dstE (.F 0 0)) (fun c : Dev nD => (dutyTok ER (barCell c) 0 0 : sProp 𝕄)),
    bigSep_univ_equiv (dstE (.B 0 0)) (fun c : Dev nD => (dutyTok ER (barCell c) 0 1 : sProp 𝕄)),
    bigSep_univ_equiv (dstE (.D 0)) (fun c : Dev nD => (dutyTok ER (barCell c) 0 2 : sProp 𝕄)),
    bigSep_univ_equiv (dstE (.U 0)) (fun c : Dev nD => (dutyTok ER (barCell c) 0 3 : sProp 𝕄))]
  iintro ⟨⟨H0, H1, H2, H3⟩, HS, HR⟩
  ihave HR := (around_list (F := F) (fun c k => dutyTok ER (rCell c k) 0 0) Msg.all) $$ HR
  isplitl [H0 H1 H2 H3]
  · isplitl [H1]; · iexact H1
    isplitl [H0]; · iexact H0
    isplitl [H3]; · iexact H3
    iexact H2
  isplitl [HS]; · iexact HS
  iexact HR

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m ρ) κ (kcell (c, k))))
          ∗ (bigSep Finset.univ fun k => iprop(atPos ER (kcell (c, k)) 0 ∅ 0 ∗ reached ER (kcell (c, k)) 0)) ∗ toks c) : sProp 𝕄)
      ⊢ bigSep Finset.univ (G' m ρ) := by
  rw [bigSep_sep', bigSep_sep', ← bigSep_univ_prod (fun ck : Dev nD × Option (Fin 40) => iprop(∃ κ : ℕ, cellInv ER (Rd m ρ) κ (kcell ck))),
    bigSep_congr (s := Finset.univ) (fun (c : Dev nD) _ => bigSep_sep' Finset.univ (fun k : Option (Fin 40) => (atPos ER (kcell (c, k)) 0 ∅ 0 : sProp 𝕄)) (fun k => reached ER (kcell (c, k)) 0)),
    bigSep_sep', ← bigSep_univ_prod (fun ck : Dev nD × Option (Fin 40) => (reached ER (kcell ck) 0 : sProp 𝕄))]
  have hp : (bigSep Finset.univ fun c : Dev nD => bigSep Finset.univ fun k : Option (Fin 40) => (atPos ER (kcell (c, k)) 0 ∅ 0 : sProp 𝕄))
      = bigSep Finset.univ fun c : Dev nD => places c := bigSep_congr fun c _ => by rw [bigSep_opt]; rfl
  rw [hp]
  iintro ⟨HI, ⟨Hat, HR⟩, Htok⟩
  ihave Htk := (toks_around (F := F)) $$ Htok
  unfold G'
  iapply (bigSep_with_persistent (R := known m ρ) (Φ := fun c => iprop(places c ∗ payToks c)) fun c _ => .rfl)
  isplitl [HI HR]
  · unfold known; isplitl [HI]; · iexact HI
    iexact HR
  · iapply (Entails.of_eq (bigSep_sep' Finset.univ (fun c : Dev nD => (places c : sProp 𝕄)) payToks).symm)
    isplitl [Hat]; · iexact Hat
    iexact Htk

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  unfold start G' known recs units
  iintro ⟨-, Hlev, Hcr, -, ⟨HI, HR⟩, HP, HT⟩
  ihave Hc := (creds (F := F) c) $$ Hcr
  imodintro
  isplitl
  · isplitl [HI HR Hlev]
    · isplitl [HI]; · iexact HI
      isplitl [HR] <;> iassumption
    isplitl [HP]; · iexact HP
    isplitl [HT]; · iexact HT
    iexact Hc
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ scratch
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁ zeros scratch
  iintro ⟨⟨HB, HZ⟩, HS⟩
  isplitl [HB]; · iexact HB
  isplitl [HZ]; · iexact HZ
  iexact HS

theorem waits (c : Dev nD) : (levAts L lv : sProp 𝕄) ⊢ Pipeline.cellsWaits cfgs (dats m ρ) () 0 c :=
  Pipeline.cellsWaits_intro cfgs (dats m ρ) () 0 c fun w s t =>
    mayWait_zero c _ (by fin_cases w <;> fin_cases s <;> decide +revert +kernel) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- At the compiled mesh of sixteen devices, for any float values, from any memory with zero counters: every weakly fair
    execution of the program ends, each device's arrays are as computed and every semaphore counter is at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arrays of `x` and `w` after the run hold what they held. -/
theorem finalA_x (c : Dev nD) : finalA m ρ c (0 : Fin 3) = m ((c : Thread nD τ).loc main_arg0) :=
  (dats (F := F) m ρ 0 c).arrAt_in (0 : Fin 3) rfl _
theorem finalA_w (c : Dev nD) : finalA m ρ c (1 : Fin 3) = m ((c : Thread nD τ).loc main_arg1) :=
  (dats (F := F) m ρ 0 c).arrAt_in (1 : Fin 3) rfl _

end Cert.KernelIdeal.Ring
-- ==== Proof.KernelIdeal.Result.lean ====
/- What the kernel's result is over the extended reals: on device `c`, block `c` of the product. -/
module

public import proofs.«01_k».proof.Proof.KernelIdeal.Launch
public import Idealize.ShloMosaic.Lib.ValueIdx
public import Idealize.ShloMosaic.Lib.MatmulPlain
public import Idealize.ShloMosaic.Lib.StackMember
public import Idealize.ShloMosaic.Lib.Layout
public import Idealize.ShloMosaic.Lib.Pipeline.Value

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

open Idealize.ShloMosaic.ValueIdx

section Arrays
open Idealize.ShloMosaic.Pipeline (Dat Cfg Window BodyObligation cellOf)

/-- The block of window 0 starts at the array's own start. -/
theorem off_x (t : Fin cfg0.N) (i : (win0_0.rect t).shape.Idx) (a : Fin 2) : ((win0_0.rect t).emb i a).val = (i a).val := by
  obtain rfl := fin_N0 t
  have h : ∀ a : Fin 2, (win0_0.rect t0_0).off a = 0 ∧ (win0_0.rect t0_0).stride a = 1 := by decide +kernel
  rw [Rect.emb_apply, (h a).1, (h a).2, Nat.zero_add, Nat.one_mul]
/-- The block of window 1 starts at the array's own start. -/
theorem off_w (t : Fin cfg0.N) (i : (win0_1.rect t).shape.Idx) (a : Fin 2) : ((win0_1.rect t).emb i a).val = (i a).val := by
  obtain rfl := fin_N0 t
  have h : ∀ a : Fin 2, (win0_1.rect t0_0).off a = 0 ∧ (win0_1.rect t0_0).stride a = 1 := by decide +kernel
  rw [Rect.emb_apply, (h a).1, (h a).2, Nat.zero_add, Nat.one_mul]
/-- The block of window 2 starts at the array's own start. -/
theorem off_o (t : Fin cfg0.N) (i : (win0_2.rect t).shape.Idx) (a : Fin 2) : ((win0_2.rect t).emb i a).val = (i a).val := by
  obtain rfl := fin_N0 t
  have h : ∀ a : Fin 2, (win0_2.rect t0_0).off a = 0 ∧ (win0_2.rect t0_0).stride a = 1 := by decide +kernel
  rw [Rect.emb_apply, (h a).1, (h a).2, Nat.zero_add, Nat.one_mul]

/-- The one block of each window is its whole array: of `x`, -/
theorem xv_eq (c : Dev nD) : xv m ρ c = m ((c : Thread nD τ).loc main_arg0) := by
  unfold xv
  funext i
  rw [View.read_apply]
  refine congrArg (m ((c : Thread nD τ).loc main_arg0)) (funext fun a => Fin.ext ?_)
  exact (off_x t0_0 i a)
/-- of `w`, -/
theorem wv_eq (c : Dev nD) : wv m ρ c = m ((c : Thread nD τ).loc main_arg1) := by
  unfold wv
  funext i
  rw [View.read_apply]
  refine congrArg (m ((c : Thread nD τ).loc main_arg1)) (funext fun a => Fin.ext ?_)
  exact (off_w t0_0 i a)

/-- and of the result. -/
theorem finalA_out (c : Dev nD) : finalA m ρ c (2 : Fin 3) = outv m ρ c := by
  refine (dats m ρ 0 c).arrAt_eq_of_cover (2 : Fin 3) (outv m ρ c) (fun t _ => ?_) fun i => ⟨t0_0, flush0_2 t0_0, ?_⟩
  · rw [fin_N0 t]
    funext i
    rw [View.read_apply]
    refine congrArg (outv m ρ c) (funext fun a => Fin.ext ?_)
    exact (off_o t0_0 i a).symm
  · refine Finset.mem_map.mpr ⟨i, Finset.mem_univ _, funext fun a => Fin.ext ?_⟩
    exact (off_o t0_0 i a)
end Arrays

end Cert.KernelIdeal.Ring
-- ==== Proof.KernelIdeal.Value.lean ====
/- What the kernel computes over the extended reals: device `c` ends with block `c` of the product of the whole matrices. -/
module

public import proofs.«01_k».proof.Proof.KernelIdeal.Result

@[expose] public section

set_option maxRecDepth 16384

noncomputable section

namespace Cert.KernelIdeal.Ring

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable (m : (ℓ : Loc nD τ sig) → Buf (Elt Ideal) ℓ) (ρ : Dev nD → PrngReg)

open Idealize.ShloMosaic.ValueIdx

/-! ## One device's term -/

/-- Device `c`'s block of `x` and of `w` as extended reals. -/
def xE (c : Dev nD) : S1024x64.Idx → EReal := xv m ρ c
def wE (c : Dev nD) : S64x1024.Idx → EReal := wv m ρ c

/-- Entry `(i, j)` of the product of device `c`'s block of `x` with its block of `w`: its term of the sum over the devices. -/
def term (c : Dev nD) (i : Fin 1024) (j : Fin 1024) : EReal :=
  ∑ k : Fin 64, xE m ρ c (ix2 i k) * wE m ρ c (ix2 k j)

/-- A quarter's entry is the term at the row it was taken from. -/
theorem quarter_apply (c : Dev nD) (r : Fin 4) (a : Fin 256) (j : Fin 1024) :
    quarter m ρ c r (ix2 a j) = term m ρ c (permRow ⟨256 * r.val + a.val, by omega⟩) j := by
  unfold quarter k0_pay31
  rw [shapeCast_self]
  have hd : dot_S256x64_S64x1024_S256x1024_1_0_0_1_n_n = DotDims.plain 256 64 1024 := rfl
  rw [hd]
  refine (Ideal.matmul_plain_apply none (permQ m ρ c r) (wv m ρ c) _ a j).trans ?_
  have hz : (constant (F := Ideal) S256x1024 .f32 0x00000000#32) (ix2 a j) = (0 : EReal) := Ideal.ofBits_zero_f32
  rw [hz, zero_add]
  rfl

/-- The left half of a quarter reads the quarter, -/
theorem halfL_apply (s : Fin 2) (v : FVec Ideal S256x1024 .f32) (a : Fin 128) (j : Fin 512) :
    halfL s v (ix2 a j) = v (ix2 (n0 := 256) (n1 := 1024) ⟨128 * s.val + a.val, by omega⟩ ⟨j.val, by omega⟩) := by
  fin_cases s
  · exact extractStridedSlice_apply _ v slices_S256x1024_o0_0_S128x512 _ _ (fun b => by fin_cases b <;> simp)
  · exact extractStridedSlice_apply _ v slices_S256x1024_o128_0_S128x512 _ _ (fun b => by fin_cases b <;> simp)
/-- and the right half its other columns. -/
theorem halfR_apply (s : Fin 2) (v : FVec Ideal S256x1024 .f32) (a : Fin 128) (j : Fin 512) :
    halfR s v (ix2 a j) = v (ix2 (n0 := 256) (n1 := 1024) ⟨128 * s.val + a.val, by omega⟩ ⟨512 + j.val, by omega⟩) := by
  fin_cases s
  · exact extractStridedSlice_apply _ v slices_S256x1024_o0_512_S128x512 _ _ (fun b => by fin_cases b <;> simp)
  · exact extractStridedSlice_apply _ v slices_S256x1024_o128_512_S128x512 _ _ (fun b => by fin_cases b <;> simp)

/-! ## The ring -/

/-- The devices of `c`'s row in the order the messages to the right add them, -/
def rowF (c : Dev nD) : List (Dev nD) := [lt (lt (lt c)), lt (lt c), lt c, c]
/-- in the order the messages to the left do, -/
def rowB (c : Dev nD) : List (Dev nD) := [rt (rt (rt c)), rt (rt c), rt c, c]
/-- and the order a column of the result has. -/
def rowOf (j : Fin 1024) (c : Dev nD) : List (Dev nD) := if j.val < 512 then rowF c else rowB c

theorem q4F : ∀ c : Dev nD, q4 ((lt (lt (lt c))).val % 4 + 3) = q4 c.val ∧ q4 ((lt (lt c)).val % 4 + 6 - 0) = q4 c.val
    ∧ q4 ((lt c).val % 4 + 6 - 1) = q4 c.val ∧ q4 (c.val % 4 + 4) = q4 c.val := by decide
theorem q4B : ∀ c : Dev nD, q4 ((rt (rt (rt c))).val % 4 + 1) = q4 c.val ∧ q4 ((rt (rt c)).val % 4 + 2 + 0) = q4 c.val
    ∧ q4 ((rt c).val % 4 + 2 + 1) = q4 c.val ∧ q4 (c.val % 4 + 4) = q4 c.val := by decide

/-- What the ring leaves in a left half is the sum of that part of the row's quarters, -/
theorem rL_apply (c : Dev nD) (s : Fin 2) (i : S128x512.Idx) :
    rL m ρ c s i = ((rowF c).map fun d => halfL s (quarter m ρ d (q4 c.val)) i).sum := by
  obtain ⟨h3, h2, h1, h0⟩ := q4F c
  have e : rL m ρ c s i = ((halfL s (quarter m ρ (lt (lt (lt c))) (q4 ((lt (lt (lt c))).val % 4 + 3))) i
      + halfL s (quarter m ρ (lt (lt c)) (q4 ((lt (lt c)).val % 4 + 6 - 0))) i)
      + halfL s (quarter m ρ (lt c) (q4 ((lt c).val % 4 + 6 - 1))) i)
      + halfL s (quarter m ρ c (q4 (c.val % 4 + 4))) i := rfl
  rw [e, h3, h2, h1, h0]
  simp only [rowF, List.map_cons, List.map_nil, List.sum_cons, List.sum_nil, add_zero, add_assoc]
/-- and in a right one likewise. -/
theorem rR_apply (c : Dev nD) (s : Fin 2) (i : S128x512.Idx) :
    rR m ρ c s i = ((rowB c).map fun d => halfR s (quarter m ρ d (q4 c.val)) i).sum := by
  obtain ⟨h3, h2, h1, h0⟩ := q4B c
  have e : rR m ρ c s i = ((halfR s (quarter m ρ (rt (rt (rt c))) (q4 ((rt (rt (rt c))).val % 4 + 1))) i
      + halfR s (quarter m ρ (rt (rt c)) (q4 ((rt (rt c)).val % 4 + 2 + 0))) i)
      + halfR s (quarter m ρ (rt c) (q4 ((rt c).val % 4 + 2 + 1))) i)
      + halfR s (quarter m ρ c (q4 (c.val % 4 + 4))) i := rfl
  rw [e, h3, h2, h1, h0]
  simp only [rowB, List.map_cons, List.map_nil, List.sum_cons, List.sum_nil, add_zero, add_assoc]

/-- The ring's result is the sum of the row's quarters. -/
theorem rv_apply (c : Dev nD) (a : Fin 256) (j : Fin 1024) :
    rv m ρ c (ix2 a j) = ((rowOf j c).map fun d => quarter m ρ d (q4 c.val) (ix2 a j)).sum := by
  unfold rv rowOf
  dsimp only
  split
  · next h =>
    rw [rL_apply]
    refine congrArg List.sum (List.map_congr_left fun d _ => ?_)
    rw [halfL_apply]
    refine congrArg (quarter m ρ d (q4 c.val)) (funext fun b => Fin.ext ?_)
    fin_cases b
    · exact Nat.div_add_mod a.val 128
    · exact Nat.mod_eq_of_lt h
  · next h =>
    rw [rR_apply]
    refine congrArg List.sum (List.map_congr_left fun d _ => ?_)
    rw [halfR_apply]
    refine congrArg (quarter m ρ d (q4 c.val)) (funext fun b => Fin.ext ?_)
    fin_cases b
    · exact Nat.div_add_mod a.val 128
    · have h' : ¬ j.val < 512 := h
      show 512 + j.val % 512 = j.val
      omega

/-! ## The column -/

/-- A device's predecessors along `f`, `t` of them, the farthest first, then itself. -/
def chain (f : Dev nD → Dev nD) : ℕ → Dev nD → List (Dev nD)
  | 0, c => [c]
  | t + 1, c => chain f t (f c) ++ [c]

theorem vUr_apply (d : Fin 4) (t : ℕ) (c : Dev nD) (i : S64x1024.Idx) :
    vUr m ρ d t c i = ((chain dn t c).map fun e => rb m ρ e d i).sum := by
  induction t generalizing c with
  | zero => exact (add_zero (M := EReal) _).symm
  | succ t ih =>
    have e : vUr m ρ d (t + 1) c i = vUr m ρ d t (dn c) i + rb m ρ c d i := rfl
    rw [e, ih]
    simp only [chain, List.map_append, List.sum_append, List.map_cons, List.map_nil, List.sum_cons, List.sum_nil, add_zero]
theorem vDr_apply (d : Fin 4) (t : ℕ) (c : Dev nD) (i : S64x1024.Idx) :
    vDr m ρ d t c i = ((chain up t c).map fun e => rb m ρ e d i).sum := by
  induction t generalizing c with
  | zero => exact (add_zero (M := EReal) _).symm
  | succ t ih =>
    have e : vDr m ρ d (t + 1) c i = vDr m ρ d t (up c) i + rb m ρ c d i := rfl
    rw [e, ih]
    simp only [chain, List.map_append, List.sum_append, List.map_cons, List.map_nil, List.sum_cons, List.sum_nil, add_zero]

/-- The devices of `c`'s column in the order their rows are added. -/
def colOf (c : Dev nD) : List (Dev nD) :=
  if c.val / 4 = 0 then c :: chain up (3 - (up c).val / 4) (up c)
  else if c.val / 4 = 1 then c :: (chain dn ((dn c).val / 4) (dn c) ++ chain up (3 - (up c).val / 4) (up c))
  else if c.val / 4 = 2 then c :: (chain dn ((dn c).val / 4) (dn c) ++ chain up (3 - (up c).val / 4) (up c))
  else c :: chain dn ((dn c).val / 4) (dn c)

/-- The result on device `c` is the sum of the ring's results of its column, at its own rows. -/
theorem outv_apply (c : Dev nD) (i : S64x1024.Idx) :
    outv m ρ c i = ((colOf c).map fun e => rb m ρ e ⟨c.val / 4, by have := c.isLt; change c.val < 16 at this; omega⟩ i).sum := by
  have hc : c.val < 16 := c.isLt
  unfold outv colOf
  split_ifs with h0 h1 h2
  · have e : (⟨c.val / 4, by omega⟩ : Fin 4) = 0 := Fin.ext h0
    rw [e]
    show rb m ρ c 0 i + vDr m ρ 0 _ _ i = _
    rw [vDr_apply]
    simp only [List.map_cons, List.sum_cons]
  · have e : (⟨c.val / 4, by omega⟩ : Fin 4) = 1 := Fin.ext h1
    rw [e]
    show rb m ρ c 1 i + vUr m ρ 1 _ _ i + vDr m ρ 1 _ _ i = _
    rw [vDr_apply, vUr_apply]
    simp only [List.map_cons, List.sum_cons, List.map_append, List.sum_append, add_assoc]
  · have e : (⟨c.val / 4, by omega⟩ : Fin 4) = 2 := Fin.ext h2
    rw [e]
    show rb m ρ c 2 i + vUr m ρ 2 _ _ i + vDr m ρ 2 _ _ i = _
    rw [vDr_apply, vUr_apply]
    simp only [List.map_cons, List.sum_cons, List.map_append, List.sum_append, add_assoc]
  · have e : (⟨c.val / 4, by omega⟩ : Fin 4) = 3 := Fin.ext (by show c.val / 4 = 3; omega)
    rw [e]
    show rb m ρ c 3 i + vUr m ρ 3 _ _ i = _
    rw [vUr_apply]
    simp only [List.map_cons, List.sum_cons]

/-- A sum of sums along a list is the sum along the joined list. -/
theorem sum_flat {α β M : Type} [AddCommMonoid M] (l : List α) (r : α → List β) (g : β → M) :
    (l.map fun e => ((r e).map g).sum).sum = ((l.flatMap r).map g).sum := by
  induction l with
  | nil => rfl
  | cons a l ih => simp only [List.map_cons, List.sum_cons, List.flatMap_cons, List.map_append, List.sum_append, ih]

/-- A column's devices stand at the same place of their rows. -/
theorem q4_colOf : ∀ c : Dev nD, ∀ e ∈ colOf c, q4 e.val = q4 c.val := by decide +kernel
/-- The rows of a column's devices are all the devices, each once. -/
theorem flat_rowF : ∀ c : Dev nD, ((colOf c).flatMap rowF).Perm (List.finRange 16) := by decide +kernel
theorem flat_rowB : ∀ c : Dev nD, ((colOf c).flatMap rowB).Perm (List.finRange 16) := by decide +kernel
theorem flat_rowOf (j : Fin 1024) (c : Dev nD) : ((colOf c).flatMap (rowOf j)).Perm (List.finRange 16) := by
  by_cases h : j.val < 512
  · have e : rowOf j = rowF := funext fun d => if_pos h
    rw [e]; exact flat_rowF c
  · have e : rowOf j = rowB := funext fun d => if_neg h
    rw [e]; exact flat_rowB c

/-- The result on device `c` is its rows of the sum of every device's term. -/
theorem outv_term (c : Dev nD) (i : Fin 64) (j : Fin 1024) :
    outv m ρ c (ix2 i j) = ∑ d : Fin 16, term m ρ d ⟨64 * c.val + i.val, by have := c.isLt; change c.val < 16 at this; omega⟩ j := by
  have hc : c.val < 16 := c.isLt
  have hrow : permRow ⟨256 * (q4 c.val).val + (64 * (c.val / 4) + i.val), by have := (q4 c.val).isLt; omega⟩
      = ⟨64 * c.val + i.val, by omega⟩ := by
    refine Fin.ext ?_
    show 64 * (4 * ((256 * (c.val % 4) + (64 * (c.val / 4) + i.val)) / 64 % 4) + (256 * (c.val % 4) + (64 * (c.val / 4) + i.val)) / 64 / 4)
      + (256 * (c.val % 4) + (64 * (c.val / 4) + i.val)) % 64 = 64 * c.val + i.val
    omega
  have hrb : ∀ e ∈ colOf c, rb m ρ e ⟨c.val / 4, by omega⟩ (ix2 i j)
      = ((rowOf j e).map fun d => term m ρ d ⟨64 * c.val + i.val, by omega⟩ j).sum := by
    intro e he
    refine (rv_apply m ρ e ⟨64 * (c.val / 4) + i.val, by omega⟩ j).trans ?_
    rw [q4_colOf c e he]
    refine congrArg List.sum (List.map_congr_left fun d _ => ?_)
    rw [quarter_apply, ← hrow]
  rw [outv_apply, List.map_congr_left hrb, sum_flat, ((flat_rowOf j c).map _).sum_eq, Fin.sum_univ_def]

/-! ## The whole matrices -/

/-- A sum over the sixteen blocks of 64 is the sum over all 1024. -/
theorem sum_blocks (f : Fin 1024 → EReal) :
    ∑ d : Fin 16, ∑ k : Fin 64, f ⟨64 * d.val + k.val, by omega⟩ = ∑ κ : Fin 1024, f κ := by
  rw [← Fintype.sum_prod_type' (fun (d : Fin 16) (k : Fin 64) => f ⟨64 * d.val + k.val, by omega⟩)]
  refine Fintype.sum_equiv (finProdFinEquiv (m := 16) (n := 64)) _ _ fun p => congrArg f (Fin.ext ?_)
  show 64 * p.1.val + p.2.val = p.2.val + 64 * p.1.val
  omega

/-- Where each device's arguments are its blocks of two whole matrices, its result is its block of their product. -/
theorem outv_block (X W : (⟨2, ![1024, 1024]⟩ : Shape).Idx → EReal)
    (hx : ∀ c : Dev nD, m ((c : Thread nD τ).loc main_arg0) = Layout.block ⟨2, ![1024, 64]⟩ ⟨2, ![1024, 1024]⟩ 1 16 c X)
    (hw : ∀ c : Dev nD, m ((c : Thread nD τ).loc main_arg1) = Layout.block ⟨2, ![64, 1024]⟩ ⟨2, ![1024, 1024]⟩ 0 16 c W) (c : Dev nD) :
    outv m ρ c = Layout.block ⟨2, ![64, 1024]⟩ ⟨2, ![1024, 1024]⟩ 0 16 c
      (Host.dotGeneral (F := Ideal) (φ₁ := .f32) (φ₂ := .f32) (DotDims.plain 1024 1024 1024) none X W) := by
  have hterm : ∀ (d : Fin 16) (r j : Fin 1024), term m ρ d r j
      = ∑ k : Fin 64, X (ix2 r ⟨64 * d.val + k.val, by omega⟩) * W (ix2 (⟨64 * d.val + k.val, by omega⟩ : Fin 1024) j) := by
    intro d r j
    unfold term xE wE
    rw [xv_eq, wv_eq, hx d, hw d]
    refine Finset.sum_congr rfl fun k _ => congrArg₂ (· * ·) (congrArg X (funext fun b => Fin.ext ?_)) (congrArg W (funext fun b => Fin.ext ?_))
    · fin_cases b
      · rfl
      · exact congrArg (· + k.val) (Nat.mul_comm d.val 64)
    · fin_cases b
      · exact congrArg (· + k.val) (Nat.mul_comm d.val 64)
      · rfl
  have hc : c.val < 16 := c.isLt
  funext i
  obtain ⟨a, j, rfl⟩ : ∃ (a : Fin 64) (j : Fin 1024), i = ix2 a j := ⟨i 0, i 1, eq_ix2 i⟩
  rw [outv_term]
  have hi : (by decide : Layout.Tiles ⟨2, ![64, 1024]⟩ ⟨2, ![1024, 1024]⟩ 0 16).idx c (ix2 a j)
      = ix2 (⟨64 * c.val + a.val, by omega⟩ : Fin 1024) j := by
    refine funext fun b => Fin.ext ?_
    fin_cases b
    · exact congrArg (· + a.val) (Nat.mul_comm c.val 64)
    · rfl
  rw [Layout.block_apply, hi, StackMember.dotGeneral_plain_apply]
  rw [← sum_blocks fun κ => X (ix2 ⟨64 * c.val + a.val, by omega⟩ κ) * W (ix2 κ j)]
  exact Finset.sum_congr rfl fun d _ => hterm d _ j

end Cert.KernelIdeal.Ring
-- ==== Proof.lean ====
/- The five claims of the certificate: the kernel's run as printed and over the extended reals, the reference's run, the
   two printings' agreement, and the equality of the kernel's result with the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KernelIdeal.Value
public import proofs.«01_k».proof.Proof.Kernel.Launch
public import Idealize.ShloMosaic.Adequacy
public import Idealize.ShloMosaic.Init
public import Idealize.ShloMosaic.Lib.Quiescent

@[expose] public section

noncomputable section

namespace Cert.Proof

open Idealize.ShloMosaic Idealize.SL.Sem

/-- The kernel as printed runs, leaves its arguments as they were and every counter at zero. -/
theorem frame_kernel : Cert.quiescent_Kernel := fun m g _ =>
  (θ_run _ _ _).mono (fun r h => ⟨fun c => ⟨(h.1 c (0 : Fin 3)).trans (Kernel.Ring.finalA_x m g c),
    (h.1 c (1 : Fin 3)).trans (Kernel.Ring.finalA_w m g c)⟩, h.2⟩) (Kernel.Ring.run_main m g)

/-- So does its reading over the extended reals. -/
theorem frame_kernelIdeal : Cert.quiescent_KernelIdeal := fun m g _ =>
  (θ_run _ _ _).mono (fun r h => ⟨fun c => ⟨(h.1 c (0 : Fin 3)).trans (KernelIdeal.Ring.finalA_x m g c),
    (h.1 c (1 : Fin 3)).trans (KernelIdeal.Ring.finalA_w m g c)⟩, h.2⟩) (KernelIdeal.Ring.run_main m g)

/-- So does the reference, which has no semaphore. -/
theorem frame_reference : Cert.quiescent_ReferenceIdeal := fun m g _ =>
  (θ_run _ _ _).mono (fun r h => ⟨fun c => (h c).2, sem_eq_zero_of_no_sems (by decide) r.2⟩) (ReferenceIdeal.Value.run m g)

/-- Device `c` ends with block `c` of the product the reference computes. -/
theorem algebraic : Cert.algebraic_KernelIdeal_ReferenceIdeal := fun m g m' g' _ hm =>
  ⟨_, (θ_run _ _ _).mono (fun r h c => ⟨((h.1 c (2 : Fin 3)).trans (KernelIdeal.Ring.finalA_out m g c)).trans
        (KernelIdeal.Ring.outv_block m g _ _ (fun c => (hm c).1) (fun c => (hm c).2) c),
      (h.1 c (0 : Fin 3)).trans (KernelIdeal.Ring.finalA_x m g c),
      (h.1 c (1 : Fin 3)).trans (KernelIdeal.Ring.finalA_w m g c)⟩) (KernelIdeal.Ring.run_main m g),
    (θ_run _ _ _).mono (fun r h => h 0) (ReferenceIdeal.Value.run m' g')⟩

/-- All five. -/
theorem claim : Cert.Claim := ⟨Cert.Kernel.Gen.facts, Cert.KernelIdeal.Gen.facts, Cert.ReferenceIdeal.Gen.facts,
  frame_kernel, frame_kernelIdeal, frame_reference, trivial, algebraic⟩

end Cert.Proof

end
